-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S8x128x128 : Shape := ⟨3, ![8, 128, 128]⟩
abbrev S8 : Shape := ⟨1, ![8]⟩
abbrev S_ : Shape := ⟨0, ![]⟩
abbrev S1 : Shape := ⟨1, ![1]⟩
abbrev S1x128x128 : Shape := ⟨3, ![1, 128, 128]⟩
abbrev S128x128 : Shape := ⟨2, ![128, 128]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_16 : BitVec 32 := 0#32
  let v34 : BitVec 1 := Scalar.cmpi .sgt v5 c0_i32_16
  let v35 : BitVec 32 := Scalar.extui v34
  let c0_i32_17 : BitVec 32 := 0#32
  let v36 : BitVec 1 := Scalar.cmpi .ne v35 c0_i32_17
  v36

def k0_dev1 (d0 : Dev nD) : Nat :=
  let c0_i32_434 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_433 : BitVec 32 := 16#32
  let v530 : BitVec 32 := Scalar.muli v2 c16_i32_433
  let v531 : BitVec 32 := Scalar.addi c0_i32_434 v530
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_435 : BitVec 32 := 4#32
  let v532 : BitVec 32 := Scalar.muli v10 c4_i32_435
  let v533 : BitVec 32 := Scalar.addi v531 v532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v534 : BitVec 32 := Scalar.muli v8 c1_i32_436
  let v535 : BitVec 32 := Scalar.addi v533 v534
  v535.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_18 : BitVec 32 := 3#32
  let v37 : BitVec 1 := Scalar.cmpi .slt v5 c3_i32_18
  let v38 : BitVec 32 := Scalar.extui v37
  let c0_i32_19 : BitVec 32 := 0#32
  let v39 : BitVec 1 := Scalar.cmpi .ne v38 c0_i32_19
  v39

def k0_dev2 (d0 : Dev nD) : Nat :=
  let c0_i32_434 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_433 : BitVec 32 := 16#32
  let v530 : BitVec 32 := Scalar.muli v2 c16_i32_433
  let v531 : BitVec 32 := Scalar.addi c0_i32_434 v530
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_435 : BitVec 32 := 4#32
  let v532 : BitVec 32 := Scalar.muli v12 c4_i32_435
  let v533 : BitVec 32 := Scalar.addi v531 v532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v534 : BitVec 32 := Scalar.muli v8 c1_i32_436
  let v535 : BitVec 32 := Scalar.addi v533 v534
  v535.toNat
def k0_dev3 (d0 : Dev nD) : Nat :=
  let c0_i32_23 : BitVec 32 := 0#32
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v40 : BitVec 32 := Scalar.subi c1_i32_20 v2
  let c16_i32_22 : BitVec 32 := 16#32
  let v41 : BitVec 32 := Scalar.muli v40 c16_i32_22
  let v42 : BitVec 32 := Scalar.addi c0_i32_23 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v43 : BitVec 32 := Scalar.muli v5 c4_i32_24
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v45 : BitVec 32 := Scalar.muli v8 c1_i32_25
  let v46 : BitVec 32 := Scalar.addi v44 v45
  v46.toNat
def k0_dev4 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v47 : BitVec 32 := Scalar.muli v2 c16_i32_27
  let v48 : BitVec 32 := Scalar.addi c0_i32_28 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v49 : BitVec 32 := Scalar.muli v5 c4_i32_29
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_30 : BitVec 32 := 1#32
  let v51 : BitVec 32 := Scalar.muli v25 c1_i32_30
  let v52 : BitVec 32 := Scalar.addi v50 v51
  v52.toNat
def k0_amt1 (d0 : Dev nD) : BitVec 32 :=
  let c2_i32_32 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v53 : BitVec 1 := Scalar.cmpi .sgt v5 c0_i32_31
  let v54 : BitVec 32 := Scalar.extui v53
  let v55 : BitVec 32 := Scalar.addi c2_i32_32 v54
  let c3_i32_33 : BitVec 32 := 3#32
  let v56 : BitVec 1 := Scalar.cmpi .slt v5 c3_i32_33
  let v57 : BitVec 32 := Scalar.extui v56
  let v58 : BitVec 32 := Scalar.addi v55 v57
  v58

def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_34 : BitVec 32 := 0#32
  let v59 : BitVec 1 := Scalar.cmpi .eq v5 c0_i32_34
  let v60 : BitVec 32 := Scalar.extui v59
  let c0_i32_35 : BitVec 32 := 0#32
  let v61 : BitVec 1 := Scalar.cmpi .ne v60 c0_i32_35
  v61

def k0_off1 (d0 : Dev nD) : Fin 2 → Nat :=
  let c0_i32_441 : BitVec 32 := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![0, v28.toNat]
def k0_dev5 (d0 : Dev nD) : Nat :=
  let c0_i32_436 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_435 : BitVec 32 := 16#32
  let v530 : BitVec 32 := Scalar.muli v2 c16_i32_435
  let v531 : BitVec 32 := Scalar.addi c0_i32_436 v530
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_437 : BitVec 32 := 4#32
  let v532 : BitVec 32 := Scalar.muli v12 c4_i32_437
  let v533 : BitVec 32 := Scalar.addi v531 v532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_438 : BitVec 32 := 1#32
  let v534 : BitVec 32 := Scalar.muli v8 c1_i32_438
  let v535 : BitVec 32 := Scalar.addi v533 v534
  v535.toNat
def k0_off2 (d0 : Dev nD) : Fin 2 → Nat :=
  let c128_i32_451 : BitVec 32 := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![128, v28.toNat]
def k0_dev6 (d0 : Dev nD) : Nat :=
  let c0_i32_446 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_445 : BitVec 32 := 16#32
  let v543 : BitVec 32 := Scalar.muli v2 c16_i32_445
  let v544 : BitVec 32 := Scalar.addi c0_i32_446 v543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_447 : BitVec 32 := 4#32
  let v545 : BitVec 32 := Scalar.muli v12 c4_i32_447
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_448 : BitVec 32 := 1#32
  let v547 : BitVec 32 := Scalar.muli v8 c1_i32_448
  let v548 : BitVec 32 := Scalar.addi v546 v547
  v548.toNat
def k0_off3 (d0 : Dev nD) : Fin 2 → Nat :=
  let c256_i32_461 : BitVec 32 := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![256, v28.toNat]
def k0_dev7 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v556 : BitVec 32 := Scalar.muli v2 c16_i32_455
  let v557 : BitVec 32 := Scalar.addi c0_i32_456 v556
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_457 : BitVec 32 := 4#32
  let v558 : BitVec 32 := Scalar.muli v12 c4_i32_457
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v560 : BitVec 32 := Scalar.muli v8 c1_i32_458
  let v561 : BitVec 32 := Scalar.addi v559 v560
  v561.toNat
def k0_off4 (d0 : Dev nD) : Fin 2 → Nat :=
  let c384_i32_471 : BitVec 32 := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![384, v28.toNat]
def k0_dev8 (d0 : Dev nD) : Nat :=
  let c0_i32_466 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_465 : BitVec 32 := 16#32
  let v569 : BitVec 32 := Scalar.muli v2 c16_i32_465
  let v570 : BitVec 32 := Scalar.addi c0_i32_466 v569
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_467 : BitVec 32 := 4#32
  let v571 : BitVec 32 := Scalar.muli v12 c4_i32_467
  let v572 : BitVec 32 := Scalar.addi v570 v571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_468 : BitVec 32 := 1#32
  let v573 : BitVec 32 := Scalar.muli v8 c1_i32_468
  let v574 : BitVec 32 := Scalar.addi v572 v573
  v574.toNat
def k0_off5 (d0 : Dev nD) : Fin 2 → Nat :=
  let c512_i32_481 : BitVec 32 := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![512, v28.toNat]
def k0_dev9 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v582 : BitVec 32 := Scalar.muli v2 c16_i32_475
  let v583 : BitVec 32 := Scalar.addi c0_i32_476 v582
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_477 : BitVec 32 := 4#32
  let v584 : BitVec 32 := Scalar.muli v12 c4_i32_477
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v586 : BitVec 32 := Scalar.muli v8 c1_i32_478
  let v587 : BitVec 32 := Scalar.addi v585 v586
  v587.toNat
def k0_off6 (d0 : Dev nD) : Fin 2 → Nat :=
  let c640_i32_491 : BitVec 32 := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![640, v28.toNat]
def k0_dev10 (d0 : Dev nD) : Nat :=
  let c0_i32_486 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_485 : BitVec 32 := 16#32
  let v595 : BitVec 32 := Scalar.muli v2 c16_i32_485
  let v596 : BitVec 32 := Scalar.addi c0_i32_486 v595
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_487 : BitVec 32 := 4#32
  let v597 : BitVec 32 := Scalar.muli v12 c4_i32_487
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v599 : BitVec 32 := Scalar.muli v8 c1_i32_488
  let v600 : BitVec 32 := Scalar.addi v598 v599
  v600.toNat
def k0_off7 (d0 : Dev nD) : Fin 2 → Nat :=
  let c768_i32_501 : BitVec 32 := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![768, v28.toNat]
def k0_dev11 (d0 : Dev nD) : Nat :=
  let c0_i32_496 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_495 : BitVec 32 := 16#32
  let v608 : BitVec 32 := Scalar.muli v2 c16_i32_495
  let v609 : BitVec 32 := Scalar.addi c0_i32_496 v608
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_497 : BitVec 32 := 4#32
  let v610 : BitVec 32 := Scalar.muli v12 c4_i32_497
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_498 : BitVec 32 := 1#32
  let v612 : BitVec 32 := Scalar.muli v8 c1_i32_498
  let v613 : BitVec 32 := Scalar.addi v611 v612
  v613.toNat
def k0_off8 (d0 : Dev nD) : Fin 2 → Nat :=
  let c896_i32_511 : BitVec 32 := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![896, v28.toNat]
def k0_dev12 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v621 : BitVec 32 := Scalar.muli v2 c16_i32_505
  let v622 : BitVec 32 := Scalar.addi c0_i32_506 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_507 : BitVec 32 := 4#32
  let v623 : BitVec 32 := Scalar.muli v12 c4_i32_507
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v625 : BitVec 32 := Scalar.muli v8 c1_i32_508
  let v626 : BitVec 32 := Scalar.addi v624 v625
  v626.toNat
def k0_off9 (d0 : Dev nD) : Fin 2 → Nat :=
  let c0 : Index := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v646 : Index := Scalar.indexCast v28
  ![0, v646.toNat]
def k0_dev13 (d0 : Dev nD) : Nat :=
  let c0_i32_532 : BitVec 32 := 0#32
  let c1_i32_528 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v654 : BitVec 32 := Scalar.subi c1_i32_528 v2
  let c16_i32_531 : BitVec 32 := 16#32
  let v655 : BitVec 32 := Scalar.muli v654 c16_i32_531
  let v656 : BitVec 32 := Scalar.addi c0_i32_532 v655
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_533 : BitVec 32 := 4#32
  let v657 : BitVec 32 := Scalar.muli v5 c4_i32_533
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_534 : BitVec 32 := 1#32
  let v659 : BitVec 32 := Scalar.muli v8 c1_i32_534
  let v660 : BitVec 32 := Scalar.addi v658 v659
  v660.toNat
def k0_dev14 (d0 : Dev nD) : Nat :=
  let c0_i32_540 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_539 : BitVec 32 := 16#32
  let v667 : BitVec 32 := Scalar.muli v2 c16_i32_539
  let v668 : BitVec 32 := Scalar.addi c0_i32_540 v667
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_541 : BitVec 32 := 4#32
  let v669 : BitVec 32 := Scalar.muli v5 c4_i32_541
  let v670 : BitVec 32 := Scalar.addi v668 v669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_542 : BitVec 32 := 1#32
  let v671 : BitVec 32 := Scalar.muli v25 c1_i32_542
  let v672 : BitVec 32 := Scalar.addi v670 v671
  v672.toNat
def k0_off10 (d0 : Dev nD) : Fin 2 → Nat :=
  let c128 : Index := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v691 : Index := Scalar.indexCast v28
  ![128, v691.toNat]
def k0_dev15 (d0 : Dev nD) : Nat :=
  let c0_i32_564 : BitVec 32 := 0#32
  let c1_i32_560 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v699 : BitVec 32 := Scalar.subi c1_i32_560 v2
  let c16_i32_563 : BitVec 32 := 16#32
  let v700 : BitVec 32 := Scalar.muli v699 c16_i32_563
  let v701 : BitVec 32 := Scalar.addi c0_i32_564 v700
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_565 : BitVec 32 := 4#32
  let v702 : BitVec 32 := Scalar.muli v5 c4_i32_565
  let v703 : BitVec 32 := Scalar.addi v701 v702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v704 : BitVec 32 := Scalar.muli v8 c1_i32_566
  let v705 : BitVec 32 := Scalar.addi v703 v704
  v705.toNat
def k0_dev16 (d0 : Dev nD) : Nat :=
  let c0_i32_572 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_571 : BitVec 32 := 16#32
  let v712 : BitVec 32 := Scalar.muli v2 c16_i32_571
  let v713 : BitVec 32 := Scalar.addi c0_i32_572 v712
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_573 : BitVec 32 := 4#32
  let v714 : BitVec 32 := Scalar.muli v5 c4_i32_573
  let v715 : BitVec 32 := Scalar.addi v713 v714
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_574 : BitVec 32 := 1#32
  let v716 : BitVec 32 := Scalar.muli v25 c1_i32_574
  let v717 : BitVec 32 := Scalar.addi v715 v716
  v717.toNat
def k0_off11 (d0 : Dev nD) : Fin 2 → Nat :=
  let c256 : Index := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v736 : Index := Scalar.indexCast v28
  ![256, v736.toNat]
def k0_dev17 (d0 : Dev nD) : Nat :=
  let c0_i32_596 : BitVec 32 := 0#32
  let c1_i32_592 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v744 : BitVec 32 := Scalar.subi c1_i32_592 v2
  let c16_i32_595 : BitVec 32 := 16#32
  let v745 : BitVec 32 := Scalar.muli v744 c16_i32_595
  let v746 : BitVec 32 := Scalar.addi c0_i32_596 v745
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_597 : BitVec 32 := 4#32
  let v747 : BitVec 32 := Scalar.muli v5 c4_i32_597
  let v748 : BitVec 32 := Scalar.addi v746 v747
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_598 : BitVec 32 := 1#32
  let v749 : BitVec 32 := Scalar.muli v8 c1_i32_598
  let v750 : BitVec 32 := Scalar.addi v748 v749
  v750.toNat
def k0_dev18 (d0 : Dev nD) : Nat :=
  let c0_i32_604 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_603 : BitVec 32 := 16#32
  let v757 : BitVec 32 := Scalar.muli v2 c16_i32_603
  let v758 : BitVec 32 := Scalar.addi c0_i32_604 v757
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_605 : BitVec 32 := 4#32
  let v759 : BitVec 32 := Scalar.muli v5 c4_i32_605
  let v760 : BitVec 32 := Scalar.addi v758 v759
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_606 : BitVec 32 := 1#32
  let v761 : BitVec 32 := Scalar.muli v25 c1_i32_606
  let v762 : BitVec 32 := Scalar.addi v760 v761
  v762.toNat
def k0_off12 (d0 : Dev nD) : Fin 2 → Nat :=
  let c384 : Index := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v781 : Index := Scalar.indexCast v28
  ![384, v781.toNat]
def k0_dev19 (d0 : Dev nD) : Nat :=
  let c0_i32_628 : BitVec 32 := 0#32
  let c1_i32_624 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v789 : BitVec 32 := Scalar.subi c1_i32_624 v2
  let c16_i32_627 : BitVec 32 := 16#32
  let v790 : BitVec 32 := Scalar.muli v789 c16_i32_627
  let v791 : BitVec 32 := Scalar.addi c0_i32_628 v790
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_629 : BitVec 32 := 4#32
  let v792 : BitVec 32 := Scalar.muli v5 c4_i32_629
  let v793 : BitVec 32 := Scalar.addi v791 v792
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_630 : BitVec 32 := 1#32
  let v794 : BitVec 32 := Scalar.muli v8 c1_i32_630
  let v795 : BitVec 32 := Scalar.addi v793 v794
  v795.toNat
def k0_dev20 (d0 : Dev nD) : Nat :=
  let c0_i32_636 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_635 : BitVec 32 := 16#32
  let v802 : BitVec 32 := Scalar.muli v2 c16_i32_635
  let v803 : BitVec 32 := Scalar.addi c0_i32_636 v802
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_637 : BitVec 32 := 4#32
  let v804 : BitVec 32 := Scalar.muli v5 c4_i32_637
  let v805 : BitVec 32 := Scalar.addi v803 v804
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_638 : BitVec 32 := 1#32
  let v806 : BitVec 32 := Scalar.muli v25 c1_i32_638
  let v807 : BitVec 32 := Scalar.addi v805 v806
  v807.toNat
def k0_off13 (d0 : Dev nD) : Fin 2 → Nat :=
  let c512 : Index := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v826 : Index := Scalar.indexCast v28
  ![512, v826.toNat]
def k0_dev21 (d0 : Dev nD) : Nat :=
  let c0_i32_660 : BitVec 32 := 0#32
  let c1_i32_656 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v834 : BitVec 32 := Scalar.subi c1_i32_656 v2
  let c16_i32_659 : BitVec 32 := 16#32
  let v835 : BitVec 32 := Scalar.muli v834 c16_i32_659
  let v836 : BitVec 32 := Scalar.addi c0_i32_660 v835
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_661 : BitVec 32 := 4#32
  let v837 : BitVec 32 := Scalar.muli v5 c4_i32_661
  let v838 : BitVec 32 := Scalar.addi v836 v837
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_662 : BitVec 32 := 1#32
  let v839 : BitVec 32 := Scalar.muli v8 c1_i32_662
  let v840 : BitVec 32 := Scalar.addi v838 v839
  v840.toNat
def k0_dev22 (d0 : Dev nD) : Nat :=
  let c0_i32_668 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_667 : BitVec 32 := 16#32
  let v847 : BitVec 32 := Scalar.muli v2 c16_i32_667
  let v848 : BitVec 32 := Scalar.addi c0_i32_668 v847
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_669 : BitVec 32 := 4#32
  let v849 : BitVec 32 := Scalar.muli v5 c4_i32_669
  let v850 : BitVec 32 := Scalar.addi v848 v849
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_670 : BitVec 32 := 1#32
  let v851 : BitVec 32 := Scalar.muli v25 c1_i32_670
  let v852 : BitVec 32 := Scalar.addi v850 v851
  v852.toNat
def k0_off14 (d0 : Dev nD) : Fin 2 → Nat :=
  let c640 : Index := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v871 : Index := Scalar.indexCast v28
  ![640, v871.toNat]
def k0_dev23 (d0 : Dev nD) : Nat :=
  let c0_i32_692 : BitVec 32 := 0#32
  let c1_i32_688 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v879 : BitVec 32 := Scalar.subi c1_i32_688 v2
  let c16_i32_691 : BitVec 32 := 16#32
  let v880 : BitVec 32 := Scalar.muli v879 c16_i32_691
  let v881 : BitVec 32 := Scalar.addi c0_i32_692 v880
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_693 : BitVec 32 := 4#32
  let v882 : BitVec 32 := Scalar.muli v5 c4_i32_693
  let v883 : BitVec 32 := Scalar.addi v881 v882
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_694 : BitVec 32 := 1#32
  let v884 : BitVec 32 := Scalar.muli v8 c1_i32_694
  let v885 : BitVec 32 := Scalar.addi v883 v884
  v885.toNat
def k0_dev24 (d0 : Dev nD) : Nat :=
  let c0_i32_700 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_699 : BitVec 32 := 16#32
  let v892 : BitVec 32 := Scalar.muli v2 c16_i32_699
  let v893 : BitVec 32 := Scalar.addi c0_i32_700 v892
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_701 : BitVec 32 := 4#32
  let v894 : BitVec 32 := Scalar.muli v5 c4_i32_701
  let v895 : BitVec 32 := Scalar.addi v893 v894
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_702 : BitVec 32 := 1#32
  let v896 : BitVec 32 := Scalar.muli v25 c1_i32_702
  let v897 : BitVec 32 := Scalar.addi v895 v896
  v897.toNat
def k0_off15 (d0 : Dev nD) : Fin 2 → Nat :=
  let c768 : Index := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v916 : Index := Scalar.indexCast v28
  ![768, v916.toNat]
def k0_dev25 (d0 : Dev nD) : Nat :=
  let c0_i32_724 : BitVec 32 := 0#32
  let c1_i32_720 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v924 : BitVec 32 := Scalar.subi c1_i32_720 v2
  let c16_i32_723 : BitVec 32 := 16#32
  let v925 : BitVec 32 := Scalar.muli v924 c16_i32_723
  let v926 : BitVec 32 := Scalar.addi c0_i32_724 v925
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_725 : BitVec 32 := 4#32
  let v927 : BitVec 32 := Scalar.muli v5 c4_i32_725
  let v928 : BitVec 32 := Scalar.addi v926 v927
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_726 : BitVec 32 := 1#32
  let v929 : BitVec 32 := Scalar.muli v8 c1_i32_726
  let v930 : BitVec 32 := Scalar.addi v928 v929
  v930.toNat
def k0_dev26 (d0 : Dev nD) : Nat :=
  let c0_i32_732 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_731 : BitVec 32 := 16#32
  let v937 : BitVec 32 := Scalar.muli v2 c16_i32_731
  let v938 : BitVec 32 := Scalar.addi c0_i32_732 v937
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_733 : BitVec 32 := 4#32
  let v939 : BitVec 32 := Scalar.muli v5 c4_i32_733
  let v940 : BitVec 32 := Scalar.addi v938 v939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_734 : BitVec 32 := 1#32
  let v941 : BitVec 32 := Scalar.muli v25 c1_i32_734
  let v942 : BitVec 32 := Scalar.addi v940 v941
  v942.toNat
def k0_off16 (d0 : Dev nD) : Fin 2 → Nat :=
  let c896 : Index := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v961 : Index := Scalar.indexCast v28
  ![896, v961.toNat]
def k0_dev27 (d0 : Dev nD) : Nat :=
  let c0_i32_756 : BitVec 32 := 0#32
  let c1_i32_752 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v969 : BitVec 32 := Scalar.subi c1_i32_752 v2
  let c16_i32_755 : BitVec 32 := 16#32
  let v970 : BitVec 32 := Scalar.muli v969 c16_i32_755
  let v971 : BitVec 32 := Scalar.addi c0_i32_756 v970
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_757 : BitVec 32 := 4#32
  let v972 : BitVec 32 := Scalar.muli v5 c4_i32_757
  let v973 : BitVec 32 := Scalar.addi v971 v972
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v974 : BitVec 32 := Scalar.muli v8 c1_i32_758
  let v975 : BitVec 32 := Scalar.addi v973 v974
  v975.toNat
def k0_dev28 (d0 : Dev nD) : Nat :=
  let c0_i32_764 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_763 : BitVec 32 := 16#32
  let v982 : BitVec 32 := Scalar.muli v2 c16_i32_763
  let v983 : BitVec 32 := Scalar.addi c0_i32_764 v982
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_765 : BitVec 32 := 4#32
  let v984 : BitVec 32 := Scalar.muli v5 c4_i32_765
  let v985 : BitVec 32 := Scalar.addi v983 v984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_766 : BitVec 32 := 1#32
  let v986 : BitVec 32 := Scalar.muli v25 c1_i32_766
  let v987 : BitVec 32 := Scalar.addi v985 v986
  v987.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_36 : BitVec 32 := 3#32
  let v62 : BitVec 1 := Scalar.cmpi .eq v5 c3_i32_36
  let v63 : BitVec 32 := Scalar.extui v62
  let c0_i32_37 : BitVec 32 := 0#32
  let v64 : BitVec 1 := Scalar.cmpi .ne v63 c0_i32_37
  v64

def k0_off17 (d0 : Dev nD) : Fin 2 → Nat :=
  let c0_i32_441 : BitVec 32 := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![0, v28.toNat]
def k0_dev29 (d0 : Dev nD) : Nat :=
  let c0_i32_436 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_435 : BitVec 32 := 16#32
  let v530 : BitVec 32 := Scalar.muli v2 c16_i32_435
  let v531 : BitVec 32 := Scalar.addi c0_i32_436 v530
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_437 : BitVec 32 := 4#32
  let v532 : BitVec 32 := Scalar.muli v10 c4_i32_437
  let v533 : BitVec 32 := Scalar.addi v531 v532
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_438 : BitVec 32 := 1#32
  let v534 : BitVec 32 := Scalar.muli v8 c1_i32_438
  let v535 : BitVec 32 := Scalar.addi v533 v534
  v535.toNat
def k0_off18 (d0 : Dev nD) : Fin 2 → Nat :=
  let c128_i32_451 : BitVec 32 := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![128, v28.toNat]
def k0_dev30 (d0 : Dev nD) : Nat :=
  let c0_i32_446 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_445 : BitVec 32 := 16#32
  let v543 : BitVec 32 := Scalar.muli v2 c16_i32_445
  let v544 : BitVec 32 := Scalar.addi c0_i32_446 v543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_447 : BitVec 32 := 4#32
  let v545 : BitVec 32 := Scalar.muli v10 c4_i32_447
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_448 : BitVec 32 := 1#32
  let v547 : BitVec 32 := Scalar.muli v8 c1_i32_448
  let v548 : BitVec 32 := Scalar.addi v546 v547
  v548.toNat
def k0_off19 (d0 : Dev nD) : Fin 2 → Nat :=
  let c256_i32_461 : BitVec 32 := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![256, v28.toNat]
def k0_dev31 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v556 : BitVec 32 := Scalar.muli v2 c16_i32_455
  let v557 : BitVec 32 := Scalar.addi c0_i32_456 v556
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_457 : BitVec 32 := 4#32
  let v558 : BitVec 32 := Scalar.muli v10 c4_i32_457
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v560 : BitVec 32 := Scalar.muli v8 c1_i32_458
  let v561 : BitVec 32 := Scalar.addi v559 v560
  v561.toNat
def k0_off20 (d0 : Dev nD) : Fin 2 → Nat :=
  let c384_i32_471 : BitVec 32 := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![384, v28.toNat]
def k0_dev32 (d0 : Dev nD) : Nat :=
  let c0_i32_466 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_465 : BitVec 32 := 16#32
  let v569 : BitVec 32 := Scalar.muli v2 c16_i32_465
  let v570 : BitVec 32 := Scalar.addi c0_i32_466 v569
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_467 : BitVec 32 := 4#32
  let v571 : BitVec 32 := Scalar.muli v10 c4_i32_467
  let v572 : BitVec 32 := Scalar.addi v570 v571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_468 : BitVec 32 := 1#32
  let v573 : BitVec 32 := Scalar.muli v8 c1_i32_468
  let v574 : BitVec 32 := Scalar.addi v572 v573
  v574.toNat
def k0_off21 (d0 : Dev nD) : Fin 2 → Nat :=
  let c512_i32_481 : BitVec 32 := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![512, v28.toNat]
def k0_dev33 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v582 : BitVec 32 := Scalar.muli v2 c16_i32_475
  let v583 : BitVec 32 := Scalar.addi c0_i32_476 v582
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_477 : BitVec 32 := 4#32
  let v584 : BitVec 32 := Scalar.muli v10 c4_i32_477
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v586 : BitVec 32 := Scalar.muli v8 c1_i32_478
  let v587 : BitVec 32 := Scalar.addi v585 v586
  v587.toNat
def k0_off22 (d0 : Dev nD) : Fin 2 → Nat :=
  let c640_i32_491 : BitVec 32 := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![640, v28.toNat]
def k0_dev34 (d0 : Dev nD) : Nat :=
  let c0_i32_486 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_485 : BitVec 32 := 16#32
  let v595 : BitVec 32 := Scalar.muli v2 c16_i32_485
  let v596 : BitVec 32 := Scalar.addi c0_i32_486 v595
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_487 : BitVec 32 := 4#32
  let v597 : BitVec 32 := Scalar.muli v10 c4_i32_487
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v599 : BitVec 32 := Scalar.muli v8 c1_i32_488
  let v600 : BitVec 32 := Scalar.addi v598 v599
  v600.toNat
def k0_off23 (d0 : Dev nD) : Fin 2 → Nat :=
  let c768_i32_501 : BitVec 32 := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![768, v28.toNat]
def k0_dev35 (d0 : Dev nD) : Nat :=
  let c0_i32_496 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_495 : BitVec 32 := 16#32
  let v608 : BitVec 32 := Scalar.muli v2 c16_i32_495
  let v609 : BitVec 32 := Scalar.addi c0_i32_496 v608
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_497 : BitVec 32 := 4#32
  let v610 : BitVec 32 := Scalar.muli v10 c4_i32_497
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_498 : BitVec 32 := 1#32
  let v612 : BitVec 32 := Scalar.muli v8 c1_i32_498
  let v613 : BitVec 32 := Scalar.addi v611 v612
  v613.toNat
def k0_off24 (d0 : Dev nD) : Fin 2 → Nat :=
  let c896_i32_511 : BitVec 32 := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![896, v28.toNat]
def k0_dev36 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v621 : BitVec 32 := Scalar.muli v2 c16_i32_505
  let v622 : BitVec 32 := Scalar.addi c0_i32_506 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_507 : BitVec 32 := 4#32
  let v623 : BitVec 32 := Scalar.muli v10 c4_i32_507
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v625 : BitVec 32 := Scalar.muli v8 c1_i32_508
  let v626 : BitVec 32 := Scalar.addi v624 v625
  v626.toNat
def k0_off25 (d0 : Dev nD) : Fin 2 → Nat :=
  let c0 : Index := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v646 : Index := Scalar.indexCast v28
  ![0, v646.toNat]
def k0_dev37 (d0 : Dev nD) : Nat :=
  let c0_i32_532 : BitVec 32 := 0#32
  let c1_i32_528 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v654 : BitVec 32 := Scalar.subi c1_i32_528 v2
  let c16_i32_531 : BitVec 32 := 16#32
  let v655 : BitVec 32 := Scalar.muli v654 c16_i32_531
  let v656 : BitVec 32 := Scalar.addi c0_i32_532 v655
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_533 : BitVec 32 := 4#32
  let v657 : BitVec 32 := Scalar.muli v5 c4_i32_533
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_534 : BitVec 32 := 1#32
  let v659 : BitVec 32 := Scalar.muli v8 c1_i32_534
  let v660 : BitVec 32 := Scalar.addi v658 v659
  v660.toNat
def k0_dev38 (d0 : Dev nD) : Nat :=
  let c0_i32_540 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_539 : BitVec 32 := 16#32
  let v667 : BitVec 32 := Scalar.muli v2 c16_i32_539
  let v668 : BitVec 32 := Scalar.addi c0_i32_540 v667
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_541 : BitVec 32 := 4#32
  let v669 : BitVec 32 := Scalar.muli v5 c4_i32_541
  let v670 : BitVec 32 := Scalar.addi v668 v669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_542 : BitVec 32 := 1#32
  let v671 : BitVec 32 := Scalar.muli v25 c1_i32_542
  let v672 : BitVec 32 := Scalar.addi v670 v671
  v672.toNat
def k0_off26 (d0 : Dev nD) : Fin 2 → Nat :=
  let c128 : Index := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v691 : Index := Scalar.indexCast v28
  ![128, v691.toNat]
def k0_dev39 (d0 : Dev nD) : Nat :=
  let c0_i32_564 : BitVec 32 := 0#32
  let c1_i32_560 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v699 : BitVec 32 := Scalar.subi c1_i32_560 v2
  let c16_i32_563 : BitVec 32 := 16#32
  let v700 : BitVec 32 := Scalar.muli v699 c16_i32_563
  let v701 : BitVec 32 := Scalar.addi c0_i32_564 v700
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_565 : BitVec 32 := 4#32
  let v702 : BitVec 32 := Scalar.muli v5 c4_i32_565
  let v703 : BitVec 32 := Scalar.addi v701 v702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v704 : BitVec 32 := Scalar.muli v8 c1_i32_566
  let v705 : BitVec 32 := Scalar.addi v703 v704
  v705.toNat
def k0_dev40 (d0 : Dev nD) : Nat :=
  let c0_i32_572 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_571 : BitVec 32 := 16#32
  let v712 : BitVec 32 := Scalar.muli v2 c16_i32_571
  let v713 : BitVec 32 := Scalar.addi c0_i32_572 v712
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_573 : BitVec 32 := 4#32
  let v714 : BitVec 32 := Scalar.muli v5 c4_i32_573
  let v715 : BitVec 32 := Scalar.addi v713 v714
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_574 : BitVec 32 := 1#32
  let v716 : BitVec 32 := Scalar.muli v25 c1_i32_574
  let v717 : BitVec 32 := Scalar.addi v715 v716
  v717.toNat
def k0_off27 (d0 : Dev nD) : Fin 2 → Nat :=
  let c256 : Index := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v736 : Index := Scalar.indexCast v28
  ![256, v736.toNat]
def k0_dev41 (d0 : Dev nD) : Nat :=
  let c0_i32_596 : BitVec 32 := 0#32
  let c1_i32_592 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v744 : BitVec 32 := Scalar.subi c1_i32_592 v2
  let c16_i32_595 : BitVec 32 := 16#32
  let v745 : BitVec 32 := Scalar.muli v744 c16_i32_595
  let v746 : BitVec 32 := Scalar.addi c0_i32_596 v745
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_597 : BitVec 32 := 4#32
  let v747 : BitVec 32 := Scalar.muli v5 c4_i32_597
  let v748 : BitVec 32 := Scalar.addi v746 v747
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_598 : BitVec 32 := 1#32
  let v749 : BitVec 32 := Scalar.muli v8 c1_i32_598
  let v750 : BitVec 32 := Scalar.addi v748 v749
  v750.toNat
def k0_dev42 (d0 : Dev nD) : Nat :=
  let c0_i32_604 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_603 : BitVec 32 := 16#32
  let v757 : BitVec 32 := Scalar.muli v2 c16_i32_603
  let v758 : BitVec 32 := Scalar.addi c0_i32_604 v757
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_605 : BitVec 32 := 4#32
  let v759 : BitVec 32 := Scalar.muli v5 c4_i32_605
  let v760 : BitVec 32 := Scalar.addi v758 v759
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_606 : BitVec 32 := 1#32
  let v761 : BitVec 32 := Scalar.muli v25 c1_i32_606
  let v762 : BitVec 32 := Scalar.addi v760 v761
  v762.toNat
def k0_off28 (d0 : Dev nD) : Fin 2 → Nat :=
  let c384 : Index := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v781 : Index := Scalar.indexCast v28
  ![384, v781.toNat]
def k0_dev43 (d0 : Dev nD) : Nat :=
  let c0_i32_628 : BitVec 32 := 0#32
  let c1_i32_624 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v789 : BitVec 32 := Scalar.subi c1_i32_624 v2
  let c16_i32_627 : BitVec 32 := 16#32
  let v790 : BitVec 32 := Scalar.muli v789 c16_i32_627
  let v791 : BitVec 32 := Scalar.addi c0_i32_628 v790
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_629 : BitVec 32 := 4#32
  let v792 : BitVec 32 := Scalar.muli v5 c4_i32_629
  let v793 : BitVec 32 := Scalar.addi v791 v792
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_630 : BitVec 32 := 1#32
  let v794 : BitVec 32 := Scalar.muli v8 c1_i32_630
  let v795 : BitVec 32 := Scalar.addi v793 v794
  v795.toNat
def k0_dev44 (d0 : Dev nD) : Nat :=
  let c0_i32_636 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_635 : BitVec 32 := 16#32
  let v802 : BitVec 32 := Scalar.muli v2 c16_i32_635
  let v803 : BitVec 32 := Scalar.addi c0_i32_636 v802
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_637 : BitVec 32 := 4#32
  let v804 : BitVec 32 := Scalar.muli v5 c4_i32_637
  let v805 : BitVec 32 := Scalar.addi v803 v804
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_638 : BitVec 32 := 1#32
  let v806 : BitVec 32 := Scalar.muli v25 c1_i32_638
  let v807 : BitVec 32 := Scalar.addi v805 v806
  v807.toNat
def k0_off29 (d0 : Dev nD) : Fin 2 → Nat :=
  let c512 : Index := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v826 : Index := Scalar.indexCast v28
  ![512, v826.toNat]
def k0_dev45 (d0 : Dev nD) : Nat :=
  let c0_i32_660 : BitVec 32 := 0#32
  let c1_i32_656 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v834 : BitVec 32 := Scalar.subi c1_i32_656 v2
  let c16_i32_659 : BitVec 32 := 16#32
  let v835 : BitVec 32 := Scalar.muli v834 c16_i32_659
  let v836 : BitVec 32 := Scalar.addi c0_i32_660 v835
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_661 : BitVec 32 := 4#32
  let v837 : BitVec 32 := Scalar.muli v5 c4_i32_661
  let v838 : BitVec 32 := Scalar.addi v836 v837
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_662 : BitVec 32 := 1#32
  let v839 : BitVec 32 := Scalar.muli v8 c1_i32_662
  let v840 : BitVec 32 := Scalar.addi v838 v839
  v840.toNat
def k0_dev46 (d0 : Dev nD) : Nat :=
  let c0_i32_668 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_667 : BitVec 32 := 16#32
  let v847 : BitVec 32 := Scalar.muli v2 c16_i32_667
  let v848 : BitVec 32 := Scalar.addi c0_i32_668 v847
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_669 : BitVec 32 := 4#32
  let v849 : BitVec 32 := Scalar.muli v5 c4_i32_669
  let v850 : BitVec 32 := Scalar.addi v848 v849
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_670 : BitVec 32 := 1#32
  let v851 : BitVec 32 := Scalar.muli v25 c1_i32_670
  let v852 : BitVec 32 := Scalar.addi v850 v851
  v852.toNat
def k0_off30 (d0 : Dev nD) : Fin 2 → Nat :=
  let c640 : Index := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v871 : Index := Scalar.indexCast v28
  ![640, v871.toNat]
def k0_dev47 (d0 : Dev nD) : Nat :=
  let c0_i32_692 : BitVec 32 := 0#32
  let c1_i32_688 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v879 : BitVec 32 := Scalar.subi c1_i32_688 v2
  let c16_i32_691 : BitVec 32 := 16#32
  let v880 : BitVec 32 := Scalar.muli v879 c16_i32_691
  let v881 : BitVec 32 := Scalar.addi c0_i32_692 v880
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_693 : BitVec 32 := 4#32
  let v882 : BitVec 32 := Scalar.muli v5 c4_i32_693
  let v883 : BitVec 32 := Scalar.addi v881 v882
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_694 : BitVec 32 := 1#32
  let v884 : BitVec 32 := Scalar.muli v8 c1_i32_694
  let v885 : BitVec 32 := Scalar.addi v883 v884
  v885.toNat
def k0_dev48 (d0 : Dev nD) : Nat :=
  let c0_i32_700 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_699 : BitVec 32 := 16#32
  let v892 : BitVec 32 := Scalar.muli v2 c16_i32_699
  let v893 : BitVec 32 := Scalar.addi c0_i32_700 v892
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_701 : BitVec 32 := 4#32
  let v894 : BitVec 32 := Scalar.muli v5 c4_i32_701
  let v895 : BitVec 32 := Scalar.addi v893 v894
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_702 : BitVec 32 := 1#32
  let v896 : BitVec 32 := Scalar.muli v25 c1_i32_702
  let v897 : BitVec 32 := Scalar.addi v895 v896
  v897.toNat
def k0_off31 (d0 : Dev nD) : Fin 2 → Nat :=
  let c768 : Index := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v916 : Index := Scalar.indexCast v28
  ![768, v916.toNat]
def k0_dev49 (d0 : Dev nD) : Nat :=
  let c0_i32_724 : BitVec 32 := 0#32
  let c1_i32_720 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v924 : BitVec 32 := Scalar.subi c1_i32_720 v2
  let c16_i32_723 : BitVec 32 := 16#32
  let v925 : BitVec 32 := Scalar.muli v924 c16_i32_723
  let v926 : BitVec 32 := Scalar.addi c0_i32_724 v925
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_725 : BitVec 32 := 4#32
  let v927 : BitVec 32 := Scalar.muli v5 c4_i32_725
  let v928 : BitVec 32 := Scalar.addi v926 v927
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_726 : BitVec 32 := 1#32
  let v929 : BitVec 32 := Scalar.muli v8 c1_i32_726
  let v930 : BitVec 32 := Scalar.addi v928 v929
  v930.toNat
def k0_dev50 (d0 : Dev nD) : Nat :=
  let c0_i32_732 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_731 : BitVec 32 := 16#32
  let v937 : BitVec 32 := Scalar.muli v2 c16_i32_731
  let v938 : BitVec 32 := Scalar.addi c0_i32_732 v937
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_733 : BitVec 32 := 4#32
  let v939 : BitVec 32 := Scalar.muli v5 c4_i32_733
  let v940 : BitVec 32 := Scalar.addi v938 v939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_734 : BitVec 32 := 1#32
  let v941 : BitVec 32 := Scalar.muli v25 c1_i32_734
  let v942 : BitVec 32 := Scalar.addi v940 v941
  v942.toNat
def k0_off32 (d0 : Dev nD) : Fin 2 → Nat :=
  let c896 : Index := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v961 : Index := Scalar.indexCast v28
  ![896, v961.toNat]
def k0_dev51 (d0 : Dev nD) : Nat :=
  let c0_i32_756 : BitVec 32 := 0#32
  let c1_i32_752 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v969 : BitVec 32 := Scalar.subi c1_i32_752 v2
  let c16_i32_755 : BitVec 32 := 16#32
  let v970 : BitVec 32 := Scalar.muli v969 c16_i32_755
  let v971 : BitVec 32 := Scalar.addi c0_i32_756 v970
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_757 : BitVec 32 := 4#32
  let v972 : BitVec 32 := Scalar.muli v5 c4_i32_757
  let v973 : BitVec 32 := Scalar.addi v971 v972
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v974 : BitVec 32 := Scalar.muli v8 c1_i32_758
  let v975 : BitVec 32 := Scalar.addi v973 v974
  v975.toNat
def k0_dev52 (d0 : Dev nD) : Nat :=
  let c0_i32_764 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_763 : BitVec 32 := 16#32
  let v982 : BitVec 32 := Scalar.muli v2 c16_i32_763
  let v983 : BitVec 32 := Scalar.addi c0_i32_764 v982
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_765 : BitVec 32 := 4#32
  let v984 : BitVec 32 := Scalar.muli v5 c4_i32_765
  let v985 : BitVec 32 := Scalar.addi v983 v984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_766 : BitVec 32 := 1#32
  let v986 : BitVec 32 := Scalar.muli v25 c1_i32_766
  let v987 : BitVec 32 := Scalar.addi v985 v986
  v987.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_38 : BitVec 32 := 1#32
  let v65 : BitVec 1 := Scalar.cmpi .eq v5 c1_i32_38
  let v66 : BitVec 32 := Scalar.extui v65
  let c0_i32_39 : BitVec 32 := 0#32
  let v67 : BitVec 1 := Scalar.cmpi .ne v66 c0_i32_39
  v67

def k0_off33 (d0 : Dev nD) : Fin 2 → Nat :=
  let c0_446 : Index := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v544 : Index := Scalar.indexCast v28
  ![0, v544.toNat]
def k0_dev53 (d0 : Dev nD) : Nat :=
  let c0_i32_455 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_454 : BitVec 32 := 16#32
  let v551 : BitVec 32 := Scalar.muli v2 c16_i32_454
  let v552 : BitVec 32 := Scalar.addi c0_i32_455 v551
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_456 : BitVec 32 := 4#32
  let v553 : BitVec 32 := Scalar.muli v12 c4_i32_456
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_457 : BitVec 32 := 1#32
  let v555 : BitVec 32 := Scalar.muli v8 c1_i32_457
  let v556 : BitVec 32 := Scalar.addi v554 v555
  v556.toNat
def k0_off34 (d0 : Dev nD) : Fin 2 → Nat :=
  let c128 : Index := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v579 : Index := Scalar.indexCast v28
  ![128, v579.toNat]
def k0_dev54 (d0 : Dev nD) : Nat :=
  let c0_i32_484 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_483 : BitVec 32 := 16#32
  let v586 : BitVec 32 := Scalar.muli v2 c16_i32_483
  let v587 : BitVec 32 := Scalar.addi c0_i32_484 v586
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_485 : BitVec 32 := 4#32
  let v588 : BitVec 32 := Scalar.muli v12 c4_i32_485
  let v589 : BitVec 32 := Scalar.addi v587 v588
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_486 : BitVec 32 := 1#32
  let v590 : BitVec 32 := Scalar.muli v8 c1_i32_486
  let v591 : BitVec 32 := Scalar.addi v589 v590
  v591.toNat
def k0_off35 (d0 : Dev nD) : Fin 2 → Nat :=
  let c256 : Index := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v614 : Index := Scalar.indexCast v28
  ![256, v614.toNat]
def k0_dev55 (d0 : Dev nD) : Nat :=
  let c0_i32_513 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_512 : BitVec 32 := 16#32
  let v621 : BitVec 32 := Scalar.muli v2 c16_i32_512
  let v622 : BitVec 32 := Scalar.addi c0_i32_513 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_514 : BitVec 32 := 4#32
  let v623 : BitVec 32 := Scalar.muli v12 c4_i32_514
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_515 : BitVec 32 := 1#32
  let v625 : BitVec 32 := Scalar.muli v8 c1_i32_515
  let v626 : BitVec 32 := Scalar.addi v624 v625
  v626.toNat
def k0_off36 (d0 : Dev nD) : Fin 2 → Nat :=
  let c384 : Index := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v649 : Index := Scalar.indexCast v28
  ![384, v649.toNat]
def k0_dev56 (d0 : Dev nD) : Nat :=
  let c0_i32_542 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_541 : BitVec 32 := 16#32
  let v656 : BitVec 32 := Scalar.muli v2 c16_i32_541
  let v657 : BitVec 32 := Scalar.addi c0_i32_542 v656
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_543 : BitVec 32 := 4#32
  let v658 : BitVec 32 := Scalar.muli v12 c4_i32_543
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_544 : BitVec 32 := 1#32
  let v660 : BitVec 32 := Scalar.muli v8 c1_i32_544
  let v661 : BitVec 32 := Scalar.addi v659 v660
  v661.toNat
def k0_off37 (d0 : Dev nD) : Fin 2 → Nat :=
  let c512 : Index := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v684 : Index := Scalar.indexCast v28
  ![512, v684.toNat]
def k0_dev57 (d0 : Dev nD) : Nat :=
  let c0_i32_571 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_570 : BitVec 32 := 16#32
  let v691 : BitVec 32 := Scalar.muli v2 c16_i32_570
  let v692 : BitVec 32 := Scalar.addi c0_i32_571 v691
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_572 : BitVec 32 := 4#32
  let v693 : BitVec 32 := Scalar.muli v12 c4_i32_572
  let v694 : BitVec 32 := Scalar.addi v692 v693
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_573 : BitVec 32 := 1#32
  let v695 : BitVec 32 := Scalar.muli v8 c1_i32_573
  let v696 : BitVec 32 := Scalar.addi v694 v695
  v696.toNat
def k0_off38 (d0 : Dev nD) : Fin 2 → Nat :=
  let c640 : Index := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v719 : Index := Scalar.indexCast v28
  ![640, v719.toNat]
def k0_dev58 (d0 : Dev nD) : Nat :=
  let c0_i32_600 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_599 : BitVec 32 := 16#32
  let v726 : BitVec 32 := Scalar.muli v2 c16_i32_599
  let v727 : BitVec 32 := Scalar.addi c0_i32_600 v726
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_601 : BitVec 32 := 4#32
  let v728 : BitVec 32 := Scalar.muli v12 c4_i32_601
  let v729 : BitVec 32 := Scalar.addi v727 v728
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_602 : BitVec 32 := 1#32
  let v730 : BitVec 32 := Scalar.muli v8 c1_i32_602
  let v731 : BitVec 32 := Scalar.addi v729 v730
  v731.toNat
def k0_off39 (d0 : Dev nD) : Fin 2 → Nat :=
  let c768 : Index := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v754 : Index := Scalar.indexCast v28
  ![768, v754.toNat]
def k0_dev59 (d0 : Dev nD) : Nat :=
  let c0_i32_629 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_628 : BitVec 32 := 16#32
  let v761 : BitVec 32 := Scalar.muli v2 c16_i32_628
  let v762 : BitVec 32 := Scalar.addi c0_i32_629 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_630 : BitVec 32 := 4#32
  let v763 : BitVec 32 := Scalar.muli v12 c4_i32_630
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_631 : BitVec 32 := 1#32
  let v765 : BitVec 32 := Scalar.muli v8 c1_i32_631
  let v766 : BitVec 32 := Scalar.addi v764 v765
  v766.toNat
def k0_off40 (d0 : Dev nD) : Fin 2 → Nat :=
  let c896 : Index := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v789 : Index := Scalar.indexCast v28
  ![896, v789.toNat]
def k0_dev60 (d0 : Dev nD) : Nat :=
  let c0_i32_658 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_657 : BitVec 32 := 16#32
  let v796 : BitVec 32 := Scalar.muli v2 c16_i32_657
  let v797 : BitVec 32 := Scalar.addi c0_i32_658 v796
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_659 : BitVec 32 := 4#32
  let v798 : BitVec 32 := Scalar.muli v12 c4_i32_659
  let v799 : BitVec 32 := Scalar.addi v797 v798
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_660 : BitVec 32 := 1#32
  let v800 : BitVec 32 := Scalar.muli v8 c1_i32_660
  let v801 : BitVec 32 := Scalar.addi v799 v800
  v801.toNat
def k0_dev61 (d0 : Dev nD) : Nat :=
  let c0_i32_689 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_688 : BitVec 32 := 16#32
  let v831 : BitVec 32 := Scalar.muli v2 c16_i32_688
  let v832 : BitVec 32 := Scalar.addi c0_i32_689 v831
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_690 : BitVec 32 := 4#32
  let v833 : BitVec 32 := Scalar.muli v10 c4_i32_690
  let v834 : BitVec 32 := Scalar.addi v832 v833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_691 : BitVec 32 := 1#32
  let v835 : BitVec 32 := Scalar.muli v8 c1_i32_691
  let v836 : BitVec 32 := Scalar.addi v834 v835
  v836.toNat
def k0_off41 (d0 : Dev nD) : Fin 2 → Nat :=
  let c0_i32_710 : BitVec 32 := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![0, v28.toNat]
def k0_dev62 (d0 : Dev nD) : Nat :=
  let c0_i32_707 : BitVec 32 := 0#32
  let c1_i32_703 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v852 : BitVec 32 := Scalar.subi c1_i32_703 v2
  let c16_i32_706 : BitVec 32 := 16#32
  let v853 : BitVec 32 := Scalar.muli v852 c16_i32_706
  let v854 : BitVec 32 := Scalar.addi c0_i32_707 v853
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_708 : BitVec 32 := 4#32
  let v855 : BitVec 32 := Scalar.muli v5 c4_i32_708
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_709 : BitVec 32 := 1#32
  let v857 : BitVec 32 := Scalar.muli v8 c1_i32_709
  let v858 : BitVec 32 := Scalar.addi v856 v857
  v858.toNat
def k0_dev63 (d0 : Dev nD) : Nat :=
  let c0_i32_715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_714 : BitVec 32 := 16#32
  let v865 : BitVec 32 := Scalar.muli v2 c16_i32_714
  let v866 : BitVec 32 := Scalar.addi c0_i32_715 v865
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_716 : BitVec 32 := 4#32
  let v867 : BitVec 32 := Scalar.muli v5 c4_i32_716
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_717 : BitVec 32 := 1#32
  let v869 : BitVec 32 := Scalar.muli v25 c1_i32_717
  let v870 : BitVec 32 := Scalar.addi v868 v869
  v870.toNat
def k0_dev64 (d0 : Dev nD) : Nat :=
  let c0_i32_744 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_743 : BitVec 32 := 16#32
  let v898 : BitVec 32 := Scalar.muli v2 c16_i32_743
  let v899 : BitVec 32 := Scalar.addi c0_i32_744 v898
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_745 : BitVec 32 := 4#32
  let v900 : BitVec 32 := Scalar.muli v10 c4_i32_745
  let v901 : BitVec 32 := Scalar.addi v899 v900
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_746 : BitVec 32 := 1#32
  let v902 : BitVec 32 := Scalar.muli v8 c1_i32_746
  let v903 : BitVec 32 := Scalar.addi v901 v902
  v903.toNat
def k0_off42 (d0 : Dev nD) : Fin 2 → Nat :=
  let c128_i32_765 : BitVec 32 := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![128, v28.toNat]
def k0_dev65 (d0 : Dev nD) : Nat :=
  let c0_i32_762 : BitVec 32 := 0#32
  let c1_i32_758 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v919 : BitVec 32 := Scalar.subi c1_i32_758 v2
  let c16_i32_761 : BitVec 32 := 16#32
  let v920 : BitVec 32 := Scalar.muli v919 c16_i32_761
  let v921 : BitVec 32 := Scalar.addi c0_i32_762 v920
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_763 : BitVec 32 := 4#32
  let v922 : BitVec 32 := Scalar.muli v5 c4_i32_763
  let v923 : BitVec 32 := Scalar.addi v921 v922
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_764 : BitVec 32 := 1#32
  let v924 : BitVec 32 := Scalar.muli v8 c1_i32_764
  let v925 : BitVec 32 := Scalar.addi v923 v924
  v925.toNat
def k0_dev66 (d0 : Dev nD) : Nat :=
  let c0_i32_770 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_769 : BitVec 32 := 16#32
  let v932 : BitVec 32 := Scalar.muli v2 c16_i32_769
  let v933 : BitVec 32 := Scalar.addi c0_i32_770 v932
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_771 : BitVec 32 := 4#32
  let v934 : BitVec 32 := Scalar.muli v5 c4_i32_771
  let v935 : BitVec 32 := Scalar.addi v933 v934
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_772 : BitVec 32 := 1#32
  let v936 : BitVec 32 := Scalar.muli v25 c1_i32_772
  let v937 : BitVec 32 := Scalar.addi v935 v936
  v937.toNat
def k0_dev67 (d0 : Dev nD) : Nat :=
  let c0_i32_799 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_798 : BitVec 32 := 16#32
  let v965 : BitVec 32 := Scalar.muli v2 c16_i32_798
  let v966 : BitVec 32 := Scalar.addi c0_i32_799 v965
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_800 : BitVec 32 := 4#32
  let v967 : BitVec 32 := Scalar.muli v10 c4_i32_800
  let v968 : BitVec 32 := Scalar.addi v966 v967
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_801 : BitVec 32 := 1#32
  let v969 : BitVec 32 := Scalar.muli v8 c1_i32_801
  let v970 : BitVec 32 := Scalar.addi v968 v969
  v970.toNat
def k0_off43 (d0 : Dev nD) : Fin 2 → Nat :=
  let c256_i32_820 : BitVec 32 := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![256, v28.toNat]
def k0_dev68 (d0 : Dev nD) : Nat :=
  let c0_i32_817 : BitVec 32 := 0#32
  let c1_i32_813 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v986 : BitVec 32 := Scalar.subi c1_i32_813 v2
  let c16_i32_816 : BitVec 32 := 16#32
  let v987 : BitVec 32 := Scalar.muli v986 c16_i32_816
  let v988 : BitVec 32 := Scalar.addi c0_i32_817 v987
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_818 : BitVec 32 := 4#32
  let v989 : BitVec 32 := Scalar.muli v5 c4_i32_818
  let v990 : BitVec 32 := Scalar.addi v988 v989
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_819 : BitVec 32 := 1#32
  let v991 : BitVec 32 := Scalar.muli v8 c1_i32_819
  let v992 : BitVec 32 := Scalar.addi v990 v991
  v992.toNat
def k0_dev69 (d0 : Dev nD) : Nat :=
  let c0_i32_825 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_824 : BitVec 32 := 16#32
  let v999 : BitVec 32 := Scalar.muli v2 c16_i32_824
  let v1000 : BitVec 32 := Scalar.addi c0_i32_825 v999
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_826 : BitVec 32 := 4#32
  let v1001 : BitVec 32 := Scalar.muli v5 c4_i32_826
  let v1002 : BitVec 32 := Scalar.addi v1000 v1001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_827 : BitVec 32 := 1#32
  let v1003 : BitVec 32 := Scalar.muli v25 c1_i32_827
  let v1004 : BitVec 32 := Scalar.addi v1002 v1003
  v1004.toNat
def k0_dev70 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_853 : BitVec 32 := 16#32
  let v1032 : BitVec 32 := Scalar.muli v2 c16_i32_853
  let v1033 : BitVec 32 := Scalar.addi c0_i32_854 v1032
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_855 : BitVec 32 := 4#32
  let v1034 : BitVec 32 := Scalar.muli v10 c4_i32_855
  let v1035 : BitVec 32 := Scalar.addi v1033 v1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v1036 : BitVec 32 := Scalar.muli v8 c1_i32_856
  let v1037 : BitVec 32 := Scalar.addi v1035 v1036
  v1037.toNat
def k0_off44 (d0 : Dev nD) : Fin 2 → Nat :=
  let c384_i32_875 : BitVec 32 := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![384, v28.toNat]
def k0_dev71 (d0 : Dev nD) : Nat :=
  let c0_i32_872 : BitVec 32 := 0#32
  let c1_i32_868 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1053 : BitVec 32 := Scalar.subi c1_i32_868 v2
  let c16_i32_871 : BitVec 32 := 16#32
  let v1054 : BitVec 32 := Scalar.muli v1053 c16_i32_871
  let v1055 : BitVec 32 := Scalar.addi c0_i32_872 v1054
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_873 : BitVec 32 := 4#32
  let v1056 : BitVec 32 := Scalar.muli v5 c4_i32_873
  let v1057 : BitVec 32 := Scalar.addi v1055 v1056
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_874 : BitVec 32 := 1#32
  let v1058 : BitVec 32 := Scalar.muli v8 c1_i32_874
  let v1059 : BitVec 32 := Scalar.addi v1057 v1058
  v1059.toNat
def k0_dev72 (d0 : Dev nD) : Nat :=
  let c0_i32_880 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_879 : BitVec 32 := 16#32
  let v1066 : BitVec 32 := Scalar.muli v2 c16_i32_879
  let v1067 : BitVec 32 := Scalar.addi c0_i32_880 v1066
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_881 : BitVec 32 := 4#32
  let v1068 : BitVec 32 := Scalar.muli v5 c4_i32_881
  let v1069 : BitVec 32 := Scalar.addi v1067 v1068
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_882 : BitVec 32 := 1#32
  let v1070 : BitVec 32 := Scalar.muli v25 c1_i32_882
  let v1071 : BitVec 32 := Scalar.addi v1069 v1070
  v1071.toNat
def k0_dev73 (d0 : Dev nD) : Nat :=
  let c0_i32_909 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_908 : BitVec 32 := 16#32
  let v1099 : BitVec 32 := Scalar.muli v2 c16_i32_908
  let v1100 : BitVec 32 := Scalar.addi c0_i32_909 v1099
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_910 : BitVec 32 := 4#32
  let v1101 : BitVec 32 := Scalar.muli v10 c4_i32_910
  let v1102 : BitVec 32 := Scalar.addi v1100 v1101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_911 : BitVec 32 := 1#32
  let v1103 : BitVec 32 := Scalar.muli v8 c1_i32_911
  let v1104 : BitVec 32 := Scalar.addi v1102 v1103
  v1104.toNat
def k0_off45 (d0 : Dev nD) : Fin 2 → Nat :=
  let c512_i32_930 : BitVec 32 := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![512, v28.toNat]
def k0_dev74 (d0 : Dev nD) : Nat :=
  let c0_i32_927 : BitVec 32 := 0#32
  let c1_i32_923 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1120 : BitVec 32 := Scalar.subi c1_i32_923 v2
  let c16_i32_926 : BitVec 32 := 16#32
  let v1121 : BitVec 32 := Scalar.muli v1120 c16_i32_926
  let v1122 : BitVec 32 := Scalar.addi c0_i32_927 v1121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_928 : BitVec 32 := 4#32
  let v1123 : BitVec 32 := Scalar.muli v5 c4_i32_928
  let v1124 : BitVec 32 := Scalar.addi v1122 v1123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_929 : BitVec 32 := 1#32
  let v1125 : BitVec 32 := Scalar.muli v8 c1_i32_929
  let v1126 : BitVec 32 := Scalar.addi v1124 v1125
  v1126.toNat
def k0_dev75 (d0 : Dev nD) : Nat :=
  let c0_i32_935 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_934 : BitVec 32 := 16#32
  let v1133 : BitVec 32 := Scalar.muli v2 c16_i32_934
  let v1134 : BitVec 32 := Scalar.addi c0_i32_935 v1133
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_936 : BitVec 32 := 4#32
  let v1135 : BitVec 32 := Scalar.muli v5 c4_i32_936
  let v1136 : BitVec 32 := Scalar.addi v1134 v1135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_937 : BitVec 32 := 1#32
  let v1137 : BitVec 32 := Scalar.muli v25 c1_i32_937
  let v1138 : BitVec 32 := Scalar.addi v1136 v1137
  v1138.toNat
def k0_dev76 (d0 : Dev nD) : Nat :=
  let c0_i32_964 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_963 : BitVec 32 := 16#32
  let v1166 : BitVec 32 := Scalar.muli v2 c16_i32_963
  let v1167 : BitVec 32 := Scalar.addi c0_i32_964 v1166
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_965 : BitVec 32 := 4#32
  let v1168 : BitVec 32 := Scalar.muli v10 c4_i32_965
  let v1169 : BitVec 32 := Scalar.addi v1167 v1168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_966 : BitVec 32 := 1#32
  let v1170 : BitVec 32 := Scalar.muli v8 c1_i32_966
  let v1171 : BitVec 32 := Scalar.addi v1169 v1170
  v1171.toNat
def k0_off46 (d0 : Dev nD) : Fin 2 → Nat :=
  let c640_i32_985 : BitVec 32 := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![640, v28.toNat]
def k0_dev77 (d0 : Dev nD) : Nat :=
  let c0_i32_982 : BitVec 32 := 0#32
  let c1_i32_978 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1187 : BitVec 32 := Scalar.subi c1_i32_978 v2
  let c16_i32_981 : BitVec 32 := 16#32
  let v1188 : BitVec 32 := Scalar.muli v1187 c16_i32_981
  let v1189 : BitVec 32 := Scalar.addi c0_i32_982 v1188
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_983 : BitVec 32 := 4#32
  let v1190 : BitVec 32 := Scalar.muli v5 c4_i32_983
  let v1191 : BitVec 32 := Scalar.addi v1189 v1190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_984 : BitVec 32 := 1#32
  let v1192 : BitVec 32 := Scalar.muli v8 c1_i32_984
  let v1193 : BitVec 32 := Scalar.addi v1191 v1192
  v1193.toNat
def k0_dev78 (d0 : Dev nD) : Nat :=
  let c0_i32_990 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_989 : BitVec 32 := 16#32
  let v1200 : BitVec 32 := Scalar.muli v2 c16_i32_989
  let v1201 : BitVec 32 := Scalar.addi c0_i32_990 v1200
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_991 : BitVec 32 := 4#32
  let v1202 : BitVec 32 := Scalar.muli v5 c4_i32_991
  let v1203 : BitVec 32 := Scalar.addi v1201 v1202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_992 : BitVec 32 := 1#32
  let v1204 : BitVec 32 := Scalar.muli v25 c1_i32_992
  let v1205 : BitVec 32 := Scalar.addi v1203 v1204
  v1205.toNat
def k0_dev79 (d0 : Dev nD) : Nat :=
  let c0_i32_1019 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1018 : BitVec 32 := 16#32
  let v1233 : BitVec 32 := Scalar.muli v2 c16_i32_1018
  let v1234 : BitVec 32 := Scalar.addi c0_i32_1019 v1233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_1020 : BitVec 32 := 4#32
  let v1235 : BitVec 32 := Scalar.muli v10 c4_i32_1020
  let v1236 : BitVec 32 := Scalar.addi v1234 v1235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1021 : BitVec 32 := 1#32
  let v1237 : BitVec 32 := Scalar.muli v8 c1_i32_1021
  let v1238 : BitVec 32 := Scalar.addi v1236 v1237
  v1238.toNat
def k0_off47 (d0 : Dev nD) : Fin 2 → Nat :=
  let c768_i32_1040 : BitVec 32 := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![768, v28.toNat]
def k0_dev80 (d0 : Dev nD) : Nat :=
  let c0_i32_1037 : BitVec 32 := 0#32
  let c1_i32_1033 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1254 : BitVec 32 := Scalar.subi c1_i32_1033 v2
  let c16_i32_1036 : BitVec 32 := 16#32
  let v1255 : BitVec 32 := Scalar.muli v1254 c16_i32_1036
  let v1256 : BitVec 32 := Scalar.addi c0_i32_1037 v1255
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1038 : BitVec 32 := 4#32
  let v1257 : BitVec 32 := Scalar.muli v5 c4_i32_1038
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1039 : BitVec 32 := 1#32
  let v1259 : BitVec 32 := Scalar.muli v8 c1_i32_1039
  let v1260 : BitVec 32 := Scalar.addi v1258 v1259
  v1260.toNat
def k0_dev81 (d0 : Dev nD) : Nat :=
  let c0_i32_1045 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1044 : BitVec 32 := 16#32
  let v1267 : BitVec 32 := Scalar.muli v2 c16_i32_1044
  let v1268 : BitVec 32 := Scalar.addi c0_i32_1045 v1267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1046 : BitVec 32 := 4#32
  let v1269 : BitVec 32 := Scalar.muli v5 c4_i32_1046
  let v1270 : BitVec 32 := Scalar.addi v1268 v1269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_1047 : BitVec 32 := 1#32
  let v1271 : BitVec 32 := Scalar.muli v25 c1_i32_1047
  let v1272 : BitVec 32 := Scalar.addi v1270 v1271
  v1272.toNat
def k0_dev82 (d0 : Dev nD) : Nat :=
  let c0_i32_1074 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1073 : BitVec 32 := 16#32
  let v1300 : BitVec 32 := Scalar.muli v2 c16_i32_1073
  let v1301 : BitVec 32 := Scalar.addi c0_i32_1074 v1300
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_1075 : BitVec 32 := 4#32
  let v1302 : BitVec 32 := Scalar.muli v10 c4_i32_1075
  let v1303 : BitVec 32 := Scalar.addi v1301 v1302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1076 : BitVec 32 := 1#32
  let v1304 : BitVec 32 := Scalar.muli v8 c1_i32_1076
  let v1305 : BitVec 32 := Scalar.addi v1303 v1304
  v1305.toNat
def k0_off48 (d0 : Dev nD) : Fin 2 → Nat :=
  let c896_i32_1095 : BitVec 32 := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![896, v28.toNat]
def k0_dev83 (d0 : Dev nD) : Nat :=
  let c0_i32_1092 : BitVec 32 := 0#32
  let c1_i32_1088 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1321 : BitVec 32 := Scalar.subi c1_i32_1088 v2
  let c16_i32_1091 : BitVec 32 := 16#32
  let v1322 : BitVec 32 := Scalar.muli v1321 c16_i32_1091
  let v1323 : BitVec 32 := Scalar.addi c0_i32_1092 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1093 : BitVec 32 := 4#32
  let v1324 : BitVec 32 := Scalar.muli v5 c4_i32_1093
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1094 : BitVec 32 := 1#32
  let v1326 : BitVec 32 := Scalar.muli v8 c1_i32_1094
  let v1327 : BitVec 32 := Scalar.addi v1325 v1326
  v1327.toNat
def k0_dev84 (d0 : Dev nD) : Nat :=
  let c0_i32_1100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1099 : BitVec 32 := 16#32
  let v1334 : BitVec 32 := Scalar.muli v2 c16_i32_1099
  let v1335 : BitVec 32 := Scalar.addi c0_i32_1100 v1334
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1101 : BitVec 32 := 4#32
  let v1336 : BitVec 32 := Scalar.muli v5 c4_i32_1101
  let v1337 : BitVec 32 := Scalar.addi v1335 v1336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_1102 : BitVec 32 := 1#32
  let v1338 : BitVec 32 := Scalar.muli v25 c1_i32_1102
  let v1339 : BitVec 32 := Scalar.addi v1337 v1338
  v1339.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_40 : BitVec 32 := 2#32
  let v68 : BitVec 1 := Scalar.cmpi .eq v5 c2_i32_40
  let v69 : BitVec 32 := Scalar.extui v68
  let c0_i32_41 : BitVec 32 := 0#32
  let v70 : BitVec 1 := Scalar.cmpi .ne v69 c0_i32_41
  v70

def k0_off49 (d0 : Dev nD) : Fin 2 → Nat :=
  let c0_446 : Index := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v544 : Index := Scalar.indexCast v28
  ![0, v544.toNat]
def k0_dev85 (d0 : Dev nD) : Nat :=
  let c0_i32_455 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_454 : BitVec 32 := 16#32
  let v551 : BitVec 32 := Scalar.muli v2 c16_i32_454
  let v552 : BitVec 32 := Scalar.addi c0_i32_455 v551
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_456 : BitVec 32 := 4#32
  let v553 : BitVec 32 := Scalar.muli v10 c4_i32_456
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_457 : BitVec 32 := 1#32
  let v555 : BitVec 32 := Scalar.muli v8 c1_i32_457
  let v556 : BitVec 32 := Scalar.addi v554 v555
  v556.toNat
def k0_off50 (d0 : Dev nD) : Fin 2 → Nat :=
  let c128 : Index := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v579 : Index := Scalar.indexCast v28
  ![128, v579.toNat]
def k0_dev86 (d0 : Dev nD) : Nat :=
  let c0_i32_484 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_483 : BitVec 32 := 16#32
  let v586 : BitVec 32 := Scalar.muli v2 c16_i32_483
  let v587 : BitVec 32 := Scalar.addi c0_i32_484 v586
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_485 : BitVec 32 := 4#32
  let v588 : BitVec 32 := Scalar.muli v10 c4_i32_485
  let v589 : BitVec 32 := Scalar.addi v587 v588
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_486 : BitVec 32 := 1#32
  let v590 : BitVec 32 := Scalar.muli v8 c1_i32_486
  let v591 : BitVec 32 := Scalar.addi v589 v590
  v591.toNat
def k0_off51 (d0 : Dev nD) : Fin 2 → Nat :=
  let c256 : Index := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v614 : Index := Scalar.indexCast v28
  ![256, v614.toNat]
def k0_dev87 (d0 : Dev nD) : Nat :=
  let c0_i32_513 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_512 : BitVec 32 := 16#32
  let v621 : BitVec 32 := Scalar.muli v2 c16_i32_512
  let v622 : BitVec 32 := Scalar.addi c0_i32_513 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_514 : BitVec 32 := 4#32
  let v623 : BitVec 32 := Scalar.muli v10 c4_i32_514
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_515 : BitVec 32 := 1#32
  let v625 : BitVec 32 := Scalar.muli v8 c1_i32_515
  let v626 : BitVec 32 := Scalar.addi v624 v625
  v626.toNat
def k0_off52 (d0 : Dev nD) : Fin 2 → Nat :=
  let c384 : Index := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v649 : Index := Scalar.indexCast v28
  ![384, v649.toNat]
def k0_dev88 (d0 : Dev nD) : Nat :=
  let c0_i32_542 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_541 : BitVec 32 := 16#32
  let v656 : BitVec 32 := Scalar.muli v2 c16_i32_541
  let v657 : BitVec 32 := Scalar.addi c0_i32_542 v656
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_543 : BitVec 32 := 4#32
  let v658 : BitVec 32 := Scalar.muli v10 c4_i32_543
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_544 : BitVec 32 := 1#32
  let v660 : BitVec 32 := Scalar.muli v8 c1_i32_544
  let v661 : BitVec 32 := Scalar.addi v659 v660
  v661.toNat
def k0_off53 (d0 : Dev nD) : Fin 2 → Nat :=
  let c512 : Index := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v684 : Index := Scalar.indexCast v28
  ![512, v684.toNat]
def k0_dev89 (d0 : Dev nD) : Nat :=
  let c0_i32_571 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_570 : BitVec 32 := 16#32
  let v691 : BitVec 32 := Scalar.muli v2 c16_i32_570
  let v692 : BitVec 32 := Scalar.addi c0_i32_571 v691
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_572 : BitVec 32 := 4#32
  let v693 : BitVec 32 := Scalar.muli v10 c4_i32_572
  let v694 : BitVec 32 := Scalar.addi v692 v693
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_573 : BitVec 32 := 1#32
  let v695 : BitVec 32 := Scalar.muli v8 c1_i32_573
  let v696 : BitVec 32 := Scalar.addi v694 v695
  v696.toNat
def k0_off54 (d0 : Dev nD) : Fin 2 → Nat :=
  let c640 : Index := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v719 : Index := Scalar.indexCast v28
  ![640, v719.toNat]
def k0_dev90 (d0 : Dev nD) : Nat :=
  let c0_i32_600 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_599 : BitVec 32 := 16#32
  let v726 : BitVec 32 := Scalar.muli v2 c16_i32_599
  let v727 : BitVec 32 := Scalar.addi c0_i32_600 v726
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_601 : BitVec 32 := 4#32
  let v728 : BitVec 32 := Scalar.muli v10 c4_i32_601
  let v729 : BitVec 32 := Scalar.addi v727 v728
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_602 : BitVec 32 := 1#32
  let v730 : BitVec 32 := Scalar.muli v8 c1_i32_602
  let v731 : BitVec 32 := Scalar.addi v729 v730
  v731.toNat
def k0_off55 (d0 : Dev nD) : Fin 2 → Nat :=
  let c768 : Index := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v754 : Index := Scalar.indexCast v28
  ![768, v754.toNat]
def k0_dev91 (d0 : Dev nD) : Nat :=
  let c0_i32_629 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_628 : BitVec 32 := 16#32
  let v761 : BitVec 32 := Scalar.muli v2 c16_i32_628
  let v762 : BitVec 32 := Scalar.addi c0_i32_629 v761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_630 : BitVec 32 := 4#32
  let v763 : BitVec 32 := Scalar.muli v10 c4_i32_630
  let v764 : BitVec 32 := Scalar.addi v762 v763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_631 : BitVec 32 := 1#32
  let v765 : BitVec 32 := Scalar.muli v8 c1_i32_631
  let v766 : BitVec 32 := Scalar.addi v764 v765
  v766.toNat
def k0_off56 (d0 : Dev nD) : Fin 2 → Nat :=
  let c896 : Index := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  let v789 : Index := Scalar.indexCast v28
  ![896, v789.toNat]
def k0_dev92 (d0 : Dev nD) : Nat :=
  let c0_i32_658 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_657 : BitVec 32 := 16#32
  let v796 : BitVec 32 := Scalar.muli v2 c16_i32_657
  let v797 : BitVec 32 := Scalar.addi c0_i32_658 v796
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c0_i32 : BitVec 32 := 0#32
  let v10 : BitVec 32 := Scalar.maxsi v9 c0_i32
  let c4_i32_659 : BitVec 32 := 4#32
  let v798 : BitVec 32 := Scalar.muli v10 c4_i32_659
  let v799 : BitVec 32 := Scalar.addi v797 v798
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_660 : BitVec 32 := 1#32
  let v800 : BitVec 32 := Scalar.muli v8 c1_i32_660
  let v801 : BitVec 32 := Scalar.addi v799 v800
  v801.toNat
def k0_dev93 (d0 : Dev nD) : Nat :=
  let c0_i32_689 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_688 : BitVec 32 := 16#32
  let v831 : BitVec 32 := Scalar.muli v2 c16_i32_688
  let v832 : BitVec 32 := Scalar.addi c0_i32_689 v831
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_690 : BitVec 32 := 4#32
  let v833 : BitVec 32 := Scalar.muli v12 c4_i32_690
  let v834 : BitVec 32 := Scalar.addi v832 v833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_691 : BitVec 32 := 1#32
  let v835 : BitVec 32 := Scalar.muli v8 c1_i32_691
  let v836 : BitVec 32 := Scalar.addi v834 v835
  v836.toNat
def k0_off57 (d0 : Dev nD) : Fin 2 → Nat :=
  let c0_i32_710 : BitVec 32 := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![0, v28.toNat]
def k0_dev94 (d0 : Dev nD) : Nat :=
  let c0_i32_707 : BitVec 32 := 0#32
  let c1_i32_703 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v852 : BitVec 32 := Scalar.subi c1_i32_703 v2
  let c16_i32_706 : BitVec 32 := 16#32
  let v853 : BitVec 32 := Scalar.muli v852 c16_i32_706
  let v854 : BitVec 32 := Scalar.addi c0_i32_707 v853
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_708 : BitVec 32 := 4#32
  let v855 : BitVec 32 := Scalar.muli v5 c4_i32_708
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_709 : BitVec 32 := 1#32
  let v857 : BitVec 32 := Scalar.muli v8 c1_i32_709
  let v858 : BitVec 32 := Scalar.addi v856 v857
  v858.toNat
def k0_dev95 (d0 : Dev nD) : Nat :=
  let c0_i32_715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_714 : BitVec 32 := 16#32
  let v865 : BitVec 32 := Scalar.muli v2 c16_i32_714
  let v866 : BitVec 32 := Scalar.addi c0_i32_715 v865
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_716 : BitVec 32 := 4#32
  let v867 : BitVec 32 := Scalar.muli v5 c4_i32_716
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_717 : BitVec 32 := 1#32
  let v869 : BitVec 32 := Scalar.muli v25 c1_i32_717
  let v870 : BitVec 32 := Scalar.addi v868 v869
  v870.toNat
def k0_dev96 (d0 : Dev nD) : Nat :=
  let c0_i32_744 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_743 : BitVec 32 := 16#32
  let v898 : BitVec 32 := Scalar.muli v2 c16_i32_743
  let v899 : BitVec 32 := Scalar.addi c0_i32_744 v898
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_745 : BitVec 32 := 4#32
  let v900 : BitVec 32 := Scalar.muli v12 c4_i32_745
  let v901 : BitVec 32 := Scalar.addi v899 v900
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_746 : BitVec 32 := 1#32
  let v902 : BitVec 32 := Scalar.muli v8 c1_i32_746
  let v903 : BitVec 32 := Scalar.addi v901 v902
  v903.toNat
def k0_off58 (d0 : Dev nD) : Fin 2 → Nat :=
  let c128_i32_765 : BitVec 32 := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![128, v28.toNat]
def k0_dev97 (d0 : Dev nD) : Nat :=
  let c0_i32_762 : BitVec 32 := 0#32
  let c1_i32_758 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v919 : BitVec 32 := Scalar.subi c1_i32_758 v2
  let c16_i32_761 : BitVec 32 := 16#32
  let v920 : BitVec 32 := Scalar.muli v919 c16_i32_761
  let v921 : BitVec 32 := Scalar.addi c0_i32_762 v920
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_763 : BitVec 32 := 4#32
  let v922 : BitVec 32 := Scalar.muli v5 c4_i32_763
  let v923 : BitVec 32 := Scalar.addi v921 v922
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_764 : BitVec 32 := 1#32
  let v924 : BitVec 32 := Scalar.muli v8 c1_i32_764
  let v925 : BitVec 32 := Scalar.addi v923 v924
  v925.toNat
def k0_dev98 (d0 : Dev nD) : Nat :=
  let c0_i32_770 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_769 : BitVec 32 := 16#32
  let v932 : BitVec 32 := Scalar.muli v2 c16_i32_769
  let v933 : BitVec 32 := Scalar.addi c0_i32_770 v932
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_771 : BitVec 32 := 4#32
  let v934 : BitVec 32 := Scalar.muli v5 c4_i32_771
  let v935 : BitVec 32 := Scalar.addi v933 v934
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_772 : BitVec 32 := 1#32
  let v936 : BitVec 32 := Scalar.muli v25 c1_i32_772
  let v937 : BitVec 32 := Scalar.addi v935 v936
  v937.toNat
def k0_dev99 (d0 : Dev nD) : Nat :=
  let c0_i32_799 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_798 : BitVec 32 := 16#32
  let v965 : BitVec 32 := Scalar.muli v2 c16_i32_798
  let v966 : BitVec 32 := Scalar.addi c0_i32_799 v965
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_800 : BitVec 32 := 4#32
  let v967 : BitVec 32 := Scalar.muli v12 c4_i32_800
  let v968 : BitVec 32 := Scalar.addi v966 v967
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_801 : BitVec 32 := 1#32
  let v969 : BitVec 32 := Scalar.muli v8 c1_i32_801
  let v970 : BitVec 32 := Scalar.addi v968 v969
  v970.toNat
def k0_off59 (d0 : Dev nD) : Fin 2 → Nat :=
  let c256_i32_820 : BitVec 32 := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![256, v28.toNat]
def k0_dev100 (d0 : Dev nD) : Nat :=
  let c0_i32_817 : BitVec 32 := 0#32
  let c1_i32_813 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v986 : BitVec 32 := Scalar.subi c1_i32_813 v2
  let c16_i32_816 : BitVec 32 := 16#32
  let v987 : BitVec 32 := Scalar.muli v986 c16_i32_816
  let v988 : BitVec 32 := Scalar.addi c0_i32_817 v987
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_818 : BitVec 32 := 4#32
  let v989 : BitVec 32 := Scalar.muli v5 c4_i32_818
  let v990 : BitVec 32 := Scalar.addi v988 v989
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_819 : BitVec 32 := 1#32
  let v991 : BitVec 32 := Scalar.muli v8 c1_i32_819
  let v992 : BitVec 32 := Scalar.addi v990 v991
  v992.toNat
def k0_dev101 (d0 : Dev nD) : Nat :=
  let c0_i32_825 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_824 : BitVec 32 := 16#32
  let v999 : BitVec 32 := Scalar.muli v2 c16_i32_824
  let v1000 : BitVec 32 := Scalar.addi c0_i32_825 v999
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_826 : BitVec 32 := 4#32
  let v1001 : BitVec 32 := Scalar.muli v5 c4_i32_826
  let v1002 : BitVec 32 := Scalar.addi v1000 v1001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_827 : BitVec 32 := 1#32
  let v1003 : BitVec 32 := Scalar.muli v25 c1_i32_827
  let v1004 : BitVec 32 := Scalar.addi v1002 v1003
  v1004.toNat
def k0_dev102 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_853 : BitVec 32 := 16#32
  let v1032 : BitVec 32 := Scalar.muli v2 c16_i32_853
  let v1033 : BitVec 32 := Scalar.addi c0_i32_854 v1032
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_855 : BitVec 32 := 4#32
  let v1034 : BitVec 32 := Scalar.muli v12 c4_i32_855
  let v1035 : BitVec 32 := Scalar.addi v1033 v1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v1036 : BitVec 32 := Scalar.muli v8 c1_i32_856
  let v1037 : BitVec 32 := Scalar.addi v1035 v1036
  v1037.toNat
def k0_off60 (d0 : Dev nD) : Fin 2 → Nat :=
  let c384_i32_875 : BitVec 32 := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![384, v28.toNat]
def k0_dev103 (d0 : Dev nD) : Nat :=
  let c0_i32_872 : BitVec 32 := 0#32
  let c1_i32_868 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1053 : BitVec 32 := Scalar.subi c1_i32_868 v2
  let c16_i32_871 : BitVec 32 := 16#32
  let v1054 : BitVec 32 := Scalar.muli v1053 c16_i32_871
  let v1055 : BitVec 32 := Scalar.addi c0_i32_872 v1054
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_873 : BitVec 32 := 4#32
  let v1056 : BitVec 32 := Scalar.muli v5 c4_i32_873
  let v1057 : BitVec 32 := Scalar.addi v1055 v1056
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_874 : BitVec 32 := 1#32
  let v1058 : BitVec 32 := Scalar.muli v8 c1_i32_874
  let v1059 : BitVec 32 := Scalar.addi v1057 v1058
  v1059.toNat
def k0_dev104 (d0 : Dev nD) : Nat :=
  let c0_i32_880 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_879 : BitVec 32 := 16#32
  let v1066 : BitVec 32 := Scalar.muli v2 c16_i32_879
  let v1067 : BitVec 32 := Scalar.addi c0_i32_880 v1066
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_881 : BitVec 32 := 4#32
  let v1068 : BitVec 32 := Scalar.muli v5 c4_i32_881
  let v1069 : BitVec 32 := Scalar.addi v1067 v1068
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_882 : BitVec 32 := 1#32
  let v1070 : BitVec 32 := Scalar.muli v25 c1_i32_882
  let v1071 : BitVec 32 := Scalar.addi v1069 v1070
  v1071.toNat
def k0_dev105 (d0 : Dev nD) : Nat :=
  let c0_i32_909 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_908 : BitVec 32 := 16#32
  let v1099 : BitVec 32 := Scalar.muli v2 c16_i32_908
  let v1100 : BitVec 32 := Scalar.addi c0_i32_909 v1099
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_910 : BitVec 32 := 4#32
  let v1101 : BitVec 32 := Scalar.muli v12 c4_i32_910
  let v1102 : BitVec 32 := Scalar.addi v1100 v1101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_911 : BitVec 32 := 1#32
  let v1103 : BitVec 32 := Scalar.muli v8 c1_i32_911
  let v1104 : BitVec 32 := Scalar.addi v1102 v1103
  v1104.toNat
def k0_off61 (d0 : Dev nD) : Fin 2 → Nat :=
  let c512_i32_930 : BitVec 32 := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![512, v28.toNat]
def k0_dev106 (d0 : Dev nD) : Nat :=
  let c0_i32_927 : BitVec 32 := 0#32
  let c1_i32_923 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1120 : BitVec 32 := Scalar.subi c1_i32_923 v2
  let c16_i32_926 : BitVec 32 := 16#32
  let v1121 : BitVec 32 := Scalar.muli v1120 c16_i32_926
  let v1122 : BitVec 32 := Scalar.addi c0_i32_927 v1121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_928 : BitVec 32 := 4#32
  let v1123 : BitVec 32 := Scalar.muli v5 c4_i32_928
  let v1124 : BitVec 32 := Scalar.addi v1122 v1123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_929 : BitVec 32 := 1#32
  let v1125 : BitVec 32 := Scalar.muli v8 c1_i32_929
  let v1126 : BitVec 32 := Scalar.addi v1124 v1125
  v1126.toNat
def k0_dev107 (d0 : Dev nD) : Nat :=
  let c0_i32_935 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_934 : BitVec 32 := 16#32
  let v1133 : BitVec 32 := Scalar.muli v2 c16_i32_934
  let v1134 : BitVec 32 := Scalar.addi c0_i32_935 v1133
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_936 : BitVec 32 := 4#32
  let v1135 : BitVec 32 := Scalar.muli v5 c4_i32_936
  let v1136 : BitVec 32 := Scalar.addi v1134 v1135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_937 : BitVec 32 := 1#32
  let v1137 : BitVec 32 := Scalar.muli v25 c1_i32_937
  let v1138 : BitVec 32 := Scalar.addi v1136 v1137
  v1138.toNat
def k0_dev108 (d0 : Dev nD) : Nat :=
  let c0_i32_964 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_963 : BitVec 32 := 16#32
  let v1166 : BitVec 32 := Scalar.muli v2 c16_i32_963
  let v1167 : BitVec 32 := Scalar.addi c0_i32_964 v1166
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_965 : BitVec 32 := 4#32
  let v1168 : BitVec 32 := Scalar.muli v12 c4_i32_965
  let v1169 : BitVec 32 := Scalar.addi v1167 v1168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_966 : BitVec 32 := 1#32
  let v1170 : BitVec 32 := Scalar.muli v8 c1_i32_966
  let v1171 : BitVec 32 := Scalar.addi v1169 v1170
  v1171.toNat
def k0_off62 (d0 : Dev nD) : Fin 2 → Nat :=
  let c640_i32_985 : BitVec 32 := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![640, v28.toNat]
def k0_dev109 (d0 : Dev nD) : Nat :=
  let c0_i32_982 : BitVec 32 := 0#32
  let c1_i32_978 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1187 : BitVec 32 := Scalar.subi c1_i32_978 v2
  let c16_i32_981 : BitVec 32 := 16#32
  let v1188 : BitVec 32 := Scalar.muli v1187 c16_i32_981
  let v1189 : BitVec 32 := Scalar.addi c0_i32_982 v1188
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_983 : BitVec 32 := 4#32
  let v1190 : BitVec 32 := Scalar.muli v5 c4_i32_983
  let v1191 : BitVec 32 := Scalar.addi v1189 v1190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_984 : BitVec 32 := 1#32
  let v1192 : BitVec 32 := Scalar.muli v8 c1_i32_984
  let v1193 : BitVec 32 := Scalar.addi v1191 v1192
  v1193.toNat
def k0_dev110 (d0 : Dev nD) : Nat :=
  let c0_i32_990 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_989 : BitVec 32 := 16#32
  let v1200 : BitVec 32 := Scalar.muli v2 c16_i32_989
  let v1201 : BitVec 32 := Scalar.addi c0_i32_990 v1200
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_991 : BitVec 32 := 4#32
  let v1202 : BitVec 32 := Scalar.muli v5 c4_i32_991
  let v1203 : BitVec 32 := Scalar.addi v1201 v1202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_992 : BitVec 32 := 1#32
  let v1204 : BitVec 32 := Scalar.muli v25 c1_i32_992
  let v1205 : BitVec 32 := Scalar.addi v1203 v1204
  v1205.toNat
def k0_dev111 (d0 : Dev nD) : Nat :=
  let c0_i32_1019 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1018 : BitVec 32 := 16#32
  let v1233 : BitVec 32 := Scalar.muli v2 c16_i32_1018
  let v1234 : BitVec 32 := Scalar.addi c0_i32_1019 v1233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_1020 : BitVec 32 := 4#32
  let v1235 : BitVec 32 := Scalar.muli v12 c4_i32_1020
  let v1236 : BitVec 32 := Scalar.addi v1234 v1235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1021 : BitVec 32 := 1#32
  let v1237 : BitVec 32 := Scalar.muli v8 c1_i32_1021
  let v1238 : BitVec 32 := Scalar.addi v1236 v1237
  v1238.toNat
def k0_off63 (d0 : Dev nD) : Fin 2 → Nat :=
  let c768_i32_1040 : BitVec 32 := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![768, v28.toNat]
def k0_dev112 (d0 : Dev nD) : Nat :=
  let c0_i32_1037 : BitVec 32 := 0#32
  let c1_i32_1033 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1254 : BitVec 32 := Scalar.subi c1_i32_1033 v2
  let c16_i32_1036 : BitVec 32 := 16#32
  let v1255 : BitVec 32 := Scalar.muli v1254 c16_i32_1036
  let v1256 : BitVec 32 := Scalar.addi c0_i32_1037 v1255
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1038 : BitVec 32 := 4#32
  let v1257 : BitVec 32 := Scalar.muli v5 c4_i32_1038
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1039 : BitVec 32 := 1#32
  let v1259 : BitVec 32 := Scalar.muli v8 c1_i32_1039
  let v1260 : BitVec 32 := Scalar.addi v1258 v1259
  v1260.toNat
def k0_dev113 (d0 : Dev nD) : Nat :=
  let c0_i32_1045 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1044 : BitVec 32 := 16#32
  let v1267 : BitVec 32 := Scalar.muli v2 c16_i32_1044
  let v1268 : BitVec 32 := Scalar.addi c0_i32_1045 v1267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1046 : BitVec 32 := 4#32
  let v1269 : BitVec 32 := Scalar.muli v5 c4_i32_1046
  let v1270 : BitVec 32 := Scalar.addi v1268 v1269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_1047 : BitVec 32 := 1#32
  let v1271 : BitVec 32 := Scalar.muli v25 c1_i32_1047
  let v1272 : BitVec 32 := Scalar.addi v1270 v1271
  v1272.toNat
def k0_dev114 (d0 : Dev nD) : Nat :=
  let c0_i32_1074 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1073 : BitVec 32 := 16#32
  let v1300 : BitVec 32 := Scalar.muli v2 c16_i32_1073
  let v1301 : BitVec 32 := Scalar.addi c0_i32_1074 v1300
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c3_i32 : BitVec 32 := 3#32
  let v12 : BitVec 32 := Scalar.minsi v11 c3_i32
  let c4_i32_1075 : BitVec 32 := 4#32
  let v1302 : BitVec 32 := Scalar.muli v12 c4_i32_1075
  let v1303 : BitVec 32 := Scalar.addi v1301 v1302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1076 : BitVec 32 := 1#32
  let v1304 : BitVec 32 := Scalar.muli v8 c1_i32_1076
  let v1305 : BitVec 32 := Scalar.addi v1303 v1304
  v1305.toNat
def k0_off64 (d0 : Dev nD) : Fin 2 → Nat :=
  let c896_i32_1095 : BitVec 32 := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![896, v28.toNat]
def k0_dev115 (d0 : Dev nD) : Nat :=
  let c0_i32_1092 : BitVec 32 := 0#32
  let c1_i32_1088 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1321 : BitVec 32 := Scalar.subi c1_i32_1088 v2
  let c16_i32_1091 : BitVec 32 := 16#32
  let v1322 : BitVec 32 := Scalar.muli v1321 c16_i32_1091
  let v1323 : BitVec 32 := Scalar.addi c0_i32_1092 v1322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1093 : BitVec 32 := 4#32
  let v1324 : BitVec 32 := Scalar.muli v5 c4_i32_1093
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1094 : BitVec 32 := 1#32
  let v1326 : BitVec 32 := Scalar.muli v8 c1_i32_1094
  let v1327 : BitVec 32 := Scalar.addi v1325 v1326
  v1327.toNat
def k0_dev116 (d0 : Dev nD) : Nat :=
  let c0_i32_1100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1099 : BitVec 32 := 16#32
  let v1334 : BitVec 32 := Scalar.muli v2 c16_i32_1099
  let v1335 : BitVec 32 := Scalar.addi c0_i32_1100 v1334
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1101 : BitVec 32 := 4#32
  let v1336 : BitVec 32 := Scalar.muli v5 c4_i32_1101
  let v1337 : BitVec 32 := Scalar.addi v1335 v1336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_1102 : BitVec 32 := 1#32
  let v1338 : BitVec 32 := Scalar.muli v25 c1_i32_1102
  let v1339 : BitVec 32 := Scalar.addi v1337 v1338
  v1339.toNat
def k0_off65 (d0 : Dev nD) : Fin 2 → Nat :=
  let c0_i32_49 : BitVec 32 := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![0, v28.toNat]
def k0_off66 (d0 : Dev nD) : Fin 2 → Nat :=
  let c0_i32_57 : BitVec 32 := 0#32
  let c2_i32_14 : BitVec 32 := 2#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let v30 : BitVec 32 := Scalar.muli c2_i32_14 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v31 : BitVec 32 := Scalar.addi v30 v22
  let c128_i32_15 : BitVec 32 := 128#32
  let v32 : BitVec 32 := Scalar.muli v31 c128_i32_15
  ![0, v32.toNat]
def k0_dev117 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v82 : BitVec 32 := Scalar.muli v2 c16_i32_53
  let v83 : BitVec 32 := Scalar.addi c0_i32_54 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v84 : BitVec 32 := Scalar.muli v5 c4_i32_55
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_56 : BitVec 32 := 1#32
  let v86 : BitVec 32 := Scalar.muli v25 c1_i32_56
  let v87 : BitVec 32 := Scalar.addi v85 v86
  v87.toNat
def k0_off67 (d0 : Dev nD) : Fin 2 → Nat :=
  let c128_i32_66 : BitVec 32 := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![128, v28.toNat]
def k0_off68 (d0 : Dev nD) : Fin 2 → Nat :=
  let c128_i32_74 : BitVec 32 := 128#32
  let c2_i32_14 : BitVec 32 := 2#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let v30 : BitVec 32 := Scalar.muli c2_i32_14 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v31 : BitVec 32 := Scalar.addi v30 v22
  let c128_i32_15 : BitVec 32 := 128#32
  let v32 : BitVec 32 := Scalar.muli v31 c128_i32_15
  ![128, v32.toNat]
def k0_dev118 (d0 : Dev nD) : Nat :=
  let c0_i32_71 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_70 : BitVec 32 := 16#32
  let v105 : BitVec 32 := Scalar.muli v2 c16_i32_70
  let v106 : BitVec 32 := Scalar.addi c0_i32_71 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v107 : BitVec 32 := Scalar.muli v5 c4_i32_72
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_73 : BitVec 32 := 1#32
  let v109 : BitVec 32 := Scalar.muli v25 c1_i32_73
  let v110 : BitVec 32 := Scalar.addi v108 v109
  v110.toNat
def k0_off69 (d0 : Dev nD) : Fin 2 → Nat :=
  let c256_i32 : BitVec 32 := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![256, v28.toNat]
def k0_off70 (d0 : Dev nD) : Fin 2 → Nat :=
  let c256_i32_90 : BitVec 32 := 256#32
  let c2_i32_14 : BitVec 32 := 2#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let v30 : BitVec 32 := Scalar.muli c2_i32_14 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v31 : BitVec 32 := Scalar.addi v30 v22
  let c128_i32_15 : BitVec 32 := 128#32
  let v32 : BitVec 32 := Scalar.muli v31 c128_i32_15
  ![256, v32.toNat]
def k0_dev119 (d0 : Dev nD) : Nat :=
  let c0_i32_87 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_86 : BitVec 32 := 16#32
  let v128 : BitVec 32 := Scalar.muli v2 c16_i32_86
  let v129 : BitVec 32 := Scalar.addi c0_i32_87 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v130 : BitVec 32 := Scalar.muli v5 c4_i32_88
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_89 : BitVec 32 := 1#32
  let v132 : BitVec 32 := Scalar.muli v25 c1_i32_89
  let v133 : BitVec 32 := Scalar.addi v131 v132
  v133.toNat
def k0_off71 (d0 : Dev nD) : Fin 2 → Nat :=
  let c384_i32 : BitVec 32 := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![384, v28.toNat]
def k0_off72 (d0 : Dev nD) : Fin 2 → Nat :=
  let c384_i32_106 : BitVec 32 := 384#32
  let c2_i32_14 : BitVec 32 := 2#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let v30 : BitVec 32 := Scalar.muli c2_i32_14 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v31 : BitVec 32 := Scalar.addi v30 v22
  let c128_i32_15 : BitVec 32 := 128#32
  let v32 : BitVec 32 := Scalar.muli v31 c128_i32_15
  ![384, v32.toNat]
def k0_dev120 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_102 : BitVec 32 := 16#32
  let v151 : BitVec 32 := Scalar.muli v2 c16_i32_102
  let v152 : BitVec 32 := Scalar.addi c0_i32_103 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_104 : BitVec 32 := 4#32
  let v153 : BitVec 32 := Scalar.muli v5 c4_i32_104
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_105 : BitVec 32 := 1#32
  let v155 : BitVec 32 := Scalar.muli v25 c1_i32_105
  let v156 : BitVec 32 := Scalar.addi v154 v155
  v156.toNat
def k0_off73 (d0 : Dev nD) : Fin 2 → Nat :=
  let c512_i32 : BitVec 32 := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![512, v28.toNat]
def k0_off74 (d0 : Dev nD) : Fin 2 → Nat :=
  let c512_i32_122 : BitVec 32 := 512#32
  let c2_i32_14 : BitVec 32 := 2#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let v30 : BitVec 32 := Scalar.muli c2_i32_14 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v31 : BitVec 32 := Scalar.addi v30 v22
  let c128_i32_15 : BitVec 32 := 128#32
  let v32 : BitVec 32 := Scalar.muli v31 c128_i32_15
  ![512, v32.toNat]
def k0_dev121 (d0 : Dev nD) : Nat :=
  let c0_i32_119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_118 : BitVec 32 := 16#32
  let v174 : BitVec 32 := Scalar.muli v2 c16_i32_118
  let v175 : BitVec 32 := Scalar.addi c0_i32_119 v174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_120 : BitVec 32 := 4#32
  let v176 : BitVec 32 := Scalar.muli v5 c4_i32_120
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_121 : BitVec 32 := 1#32
  let v178 : BitVec 32 := Scalar.muli v25 c1_i32_121
  let v179 : BitVec 32 := Scalar.addi v177 v178
  v179.toNat
def k0_off75 (d0 : Dev nD) : Fin 2 → Nat :=
  let c640_i32 : BitVec 32 := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![640, v28.toNat]
def k0_off76 (d0 : Dev nD) : Fin 2 → Nat :=
  let c640_i32_137 : BitVec 32 := 640#32
  let c2_i32_14 : BitVec 32 := 2#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let v30 : BitVec 32 := Scalar.muli c2_i32_14 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v31 : BitVec 32 := Scalar.addi v30 v22
  let c128_i32_15 : BitVec 32 := 128#32
  let v32 : BitVec 32 := Scalar.muli v31 c128_i32_15
  ![640, v32.toNat]
def k0_dev122 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v197 : BitVec 32 := Scalar.muli v2 c16_i32_133
  let v198 : BitVec 32 := Scalar.addi c0_i32_134 v197
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v199 : BitVec 32 := Scalar.muli v5 c4_i32_135
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_136 : BitVec 32 := 1#32
  let v201 : BitVec 32 := Scalar.muli v25 c1_i32_136
  let v202 : BitVec 32 := Scalar.addi v200 v201
  v202.toNat
def k0_off77 (d0 : Dev nD) : Fin 2 → Nat :=
  let c768_i32 : BitVec 32 := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![768, v28.toNat]
def k0_off78 (d0 : Dev nD) : Fin 2 → Nat :=
  let c768_i32_152 : BitVec 32 := 768#32
  let c2_i32_14 : BitVec 32 := 2#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let v30 : BitVec 32 := Scalar.muli c2_i32_14 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v31 : BitVec 32 := Scalar.addi v30 v22
  let c128_i32_15 : BitVec 32 := 128#32
  let v32 : BitVec 32 := Scalar.muli v31 c128_i32_15
  ![768, v32.toNat]
def k0_dev123 (d0 : Dev nD) : Nat :=
  let c0_i32_149 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_148 : BitVec 32 := 16#32
  let v220 : BitVec 32 := Scalar.muli v2 c16_i32_148
  let v221 : BitVec 32 := Scalar.addi c0_i32_149 v220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_150 : BitVec 32 := 4#32
  let v222 : BitVec 32 := Scalar.muli v5 c4_i32_150
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_151 : BitVec 32 := 1#32
  let v224 : BitVec 32 := Scalar.muli v25 c1_i32_151
  let v225 : BitVec 32 := Scalar.addi v223 v224
  v225.toNat
def k0_off79 (d0 : Dev nD) : Fin 2 → Nat :=
  let c896_i32 : BitVec 32 := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![896, v28.toNat]
def k0_off80 (d0 : Dev nD) : Fin 2 → Nat :=
  let c896_i32_167 : BitVec 32 := 896#32
  let c2_i32_14 : BitVec 32 := 2#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let v30 : BitVec 32 := Scalar.muli c2_i32_14 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v31 : BitVec 32 := Scalar.addi v30 v22
  let c128_i32_15 : BitVec 32 := 128#32
  let v32 : BitVec 32 := Scalar.muli v31 c128_i32_15
  ![896, v32.toNat]
def k0_dev124 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v243 : BitVec 32 := Scalar.muli v2 c16_i32_163
  let v244 : BitVec 32 := Scalar.addi c0_i32_164 v243
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_165 : BitVec 32 := 4#32
  let v245 : BitVec 32 := Scalar.muli v5 c4_i32_165
  let v246 : BitVec 32 := Scalar.addi v244 v245
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.addi v8 c1_i32_10
  let c2_i32_11 : BitVec 32 := 2#32
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v24 : BitVec 32 := Scalar.muli c2_i32_11 v22
  let v25 : BitVec 32 := Scalar.subi v23 v24
  let c1_i32_166 : BitVec 32 := 1#32
  let v247 : BitVec 32 := Scalar.muli v25 c1_i32_166
  let v248 : BitVec 32 := Scalar.addi v246 v247
  v248.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_425 : BitVec 32 := 0#32
  let v519 : BitVec 1 := Scalar.cmpi .eq v5 c0_i32_425
  let v520 : BitVec 32 := Scalar.extui v519
  let c0_i32_426 : BitVec 32 := 0#32
  let v521 : BitVec 1 := Scalar.cmpi .ne v520 c0_i32_426
  v521

def k0_off81 (d0 : Dev nD) : Fin 2 → Nat :=
  let c0_i32_436 : BitVec 32 := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![0, v28.toNat]
def k0_off82 (d0 : Dev nD) : Fin 2 → Nat :=
  let c128_i32_443 : BitVec 32 := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![128, v28.toNat]
def k0_off83 (d0 : Dev nD) : Fin 2 → Nat :=
  let c256_i32_450 : BitVec 32 := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![256, v28.toNat]
def k0_off84 (d0 : Dev nD) : Fin 2 → Nat :=
  let c384_i32_457 : BitVec 32 := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![384, v28.toNat]
def k0_off85 (d0 : Dev nD) : Fin 2 → Nat :=
  let c512_i32_464 : BitVec 32 := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![512, v28.toNat]
def k0_off86 (d0 : Dev nD) : Fin 2 → Nat :=
  let c640_i32_471 : BitVec 32 := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![640, v28.toNat]
def k0_off87 (d0 : Dev nD) : Fin 2 → Nat :=
  let c768_i32_478 : BitVec 32 := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![768, v28.toNat]
def k0_off88 (d0 : Dev nD) : Fin 2 → Nat :=
  let c896_i32_485 : BitVec 32 := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![896, v28.toNat]
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_427 : BitVec 32 := 3#32
  let v522 : BitVec 1 := Scalar.cmpi .eq v5 c3_i32_427
  let v523 : BitVec 32 := Scalar.extui v522
  let c0_i32_428 : BitVec 32 := 0#32
  let v524 : BitVec 1 := Scalar.cmpi .ne v523 c0_i32_428
  v524

def k0_off89 (d0 : Dev nD) : Fin 2 → Nat :=
  let c0_i32_436 : BitVec 32 := 0#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![0, v28.toNat]
def k0_off90 (d0 : Dev nD) : Fin 2 → Nat :=
  let c128_i32_443 : BitVec 32 := 128#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![128, v28.toNat]
def k0_off91 (d0 : Dev nD) : Fin 2 → Nat :=
  let c256_i32_450 : BitVec 32 := 256#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![256, v28.toNat]
def k0_off92 (d0 : Dev nD) : Fin 2 → Nat :=
  let c384_i32_457 : BitVec 32 := 384#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![384, v28.toNat]
def k0_off93 (d0 : Dev nD) : Fin 2 → Nat :=
  let c512_i32_464 : BitVec 32 := 512#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![512, v28.toNat]
def k0_off94 (d0 : Dev nD) : Fin 2 → Nat :=
  let c640_i32_471 : BitVec 32 := 640#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![640, v28.toNat]
def k0_off95 (d0 : Dev nD) : Fin 2 → Nat :=
  let c768_i32_478 : BitVec 32 := 768#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![768, v28.toNat]
def k0_off96 (d0 : Dev nD) : Fin 2 → Nat :=
  let c896_i32_485 : BitVec 32 := 896#32
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32_5 : BitVec 32 := 0#32
  let v13 : BitVec 1 := Scalar.cmpi .eq c2_i32_4 c0_i32_5
  let c1_i32_6 : BitVec 32 := 1#32
  let v14 : BitVec 32 := Scalar.select v13 c1_i32_6 c2_i32_4
  let v15 : BitVec 32 := Scalar.remsi v8 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let v27 : BitVec 32 := Scalar.addi v26 v22
  let c128_i32 : BitVec 32 := 128#32
  let v28 : BitVec 32 := Scalar.muli v27 c128_i32
  ![896, v28.toNat]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x1024x512, .f32⟩
  | .hbm, ⟨2, _⟩ => ⟨S_, .f32⟩
  | .hbm, ⟨3, _⟩ => ⟨S1024x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Geometry.lean ====
/-
# The mesh of the all-reduce: neighbours, partners, tiles

The 32 devices stand in a mesh of 2 × 4 × 4 places `(x, y, z)`, device `16 x + 4 y + z`. A device has a neighbour in
each direction along `y`, a partner across `x` and a partner across the low bit of `z`. The columns fall into four
quarters; device `(x, y, z)` reduces the quarter `2 x + z % 2` over its column of four devices along `y`, in eight
tiles of 128 rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe
open Idealize.SL.Sem

/-! ## Directions, duties and semaphore kinds -/

/-- The two directions in which partial sums travel along `y`. -/
inductive Dir
  | right
  | left
deriving DecidableEq

/-- The other direction. -/
def Dir.op : Dir → Dir
  | .right => .left
  | .left => .right

/-- Turning a direction twice gives it back. -/
theorem Dir.op_op (d : Dir) : d.op.op = d := by cases d <;> rfl

instance : Fintype Dir := ⟨{.right, .left}, by rintro ⟨⟩ <;> decide⟩

/-- The ten arrays of transfer semaphores: the send and the receive side of each direction, of the exchange across
`x`, of the exchange across `z`, and of the forwarding across `z` of what came across `x`. -/
inductive Kind
  | send (d : Dir)
  | recv (d : Dir)
  | xs
  | xr
  | zs
  | zr
  | ws
  | wr
deriving DecidableEq

instance : Fintype Kind :=
  ⟨{.send .right, .send .left, .recv .right, .recv .left, .xs, .xr, .zs, .zr, .ws, .wr}, by
    rintro (⟨⟨⟩⟩ | ⟨⟨⟩⟩ | _ | _ | _ | _ | _ | _) <;> decide⟩

/-- The array of eight semaphores of a kind. -/
def Kind.arr : Kind → DmaSems sig S8
  | .send .right => cc0_scratch4
  | .send .left => cc0_scratch5
  | .recv .right => cc0_scratch6
  | .recv .left => cc0_scratch7
  | .xs => cc0_scratch8
  | .xr => cc0_scratch9
  | .zs => cc0_scratch10
  | .zr => cc0_scratch11
  | .ws => cc0_scratch12
  | .wr => cc0_scratch13

/-- A semaphore of an array of eight is within the array. -/
theorem semIn : ∀ t : Fin 8, ∀ a, (![t.val] : Fin 1 → ℕ) a + S1.size a ≤ S8.size a := by decide

/-- The semaphore of a kind for tile `t`. -/
def semOf (k : Kind) (t : Fin 8) : DmaSem sig :=
  ((k.arr.slice (Rect.unit (s := S8) ![t.val] S1.size (semIn t))).squeeze S_ squeezes_S1_S_).sem

/-- The runtime's barrier semaphore. -/
def barS : Idealize.ShloMosaic.Sem sig := (SemArray.scalar (sig.barrier 0 rfl) : Sems sig S_).sem

/-! ## Places -/

set_option backward.proofsInPublic true in
/-- The neighbour of a device along `y`, cyclically. -/
def nbr (d : Dir) (c : Dev nD) : Dev nD :=
  match d with
  | .right => ⟨16 * (c.val / 16) + (c.val % 16 + 4) % 16, by have : c.val < 32 := c.isLt; show _ < 32; omega⟩
  | .left => ⟨16 * (c.val / 16) + (c.val % 16 + 12) % 16, by have : c.val < 32 := c.isLt; show _ < 32; omega⟩

set_option backward.proofsInPublic true in
/-- The partner across `x`. -/
def xp (c : Dev nD) : Dev nD := ⟨(c.val + 16) % 32, by show _ < 32; omega⟩

set_option backward.proofsInPublic true in
/-- The partner across the low bit of `z`. -/
def zp (c : Dev nD) : Dev nD :=
  ⟨c.val + 1 - 2 * (c.val % 2), by have : c.val < 32 := c.isLt; show _ < 32; omega⟩

/-- The place along `y`. -/
def yOf (c : Dev nD) : ℕ := c.val / 4 % 4

set_option backward.proofsInPublic true in
/-- The quarter of the columns that a device reduces. -/
def colq (c : Dev nD) : Fin 4 := ⟨2 * (c.val / 16) + c.val % 2, by have : c.val < 32 := c.isLt; omega⟩

/-- Whether a device has a neighbour in a direction (the chain along `y` does not wrap around). -/
def hasNbr (d : Dir) (c : Dev nD) : Bool :=
  match d with
  | .right => decide (yOf c < 3)
  | .left => decide (0 < yOf c)

/-- How many devices stand before a device on the chain of a direction. -/
def hop (d : Dir) (c : Dev nD) : ℕ :=
  match d with
  | .right => yOf c
  | .left => 3 - yOf c

/-- One step along `y` and one back lead to the start. -/
theorem nbr_op_nbr : ∀ (d : Dir) (c : Dev nD), nbr d.op (nbr d c) = c := by decide +kernel
/-- One step back and one forth lead to the start. -/
theorem nbr_nbr_op : ∀ (d : Dir) (c : Dev nD), nbr d (nbr d.op c) = c := by decide +kernel
/-- The partner across `x` of the partner is the device. -/
theorem xp_xp : ∀ c : Dev nD, xp (xp c) = c := by decide +kernel
/-- The partner across `z` of the partner is the device. -/
theorem zp_zp : ∀ c : Dev nD, zp (zp c) = c := by decide +kernel
/-- The partners across `x` and across `z` may be taken in either order. -/
theorem xp_zp : ∀ c : Dev nD, xp (zp c) = zp (xp c) := by decide +kernel
/-- The neighbour has a neighbour on the way back exactly if the device has it as one. -/
theorem hasNbr_nbr : ∀ (d : Dir) (c : Dev nD), hasNbr d.op (nbr d c) = hasNbr d c := by decide +kernel
/-- The same of the neighbour on the other side. -/
theorem hasNbr_nbr_op : ∀ (d : Dir) (c : Dev nD), hasNbr d (nbr d.op c) = hasNbr d.op c := by decide +kernel
/-- Neighbours along `y` reduce the same quarter of the columns. -/
theorem colq_nbr : ∀ (d : Dir) (c : Dev nD), colq (nbr d c) = colq c := by decide +kernel
/-- The next device of a chain stands one place further. -/
theorem hop_nbr : ∀ (d : Dir) (c : Dev nD), hasNbr d c = true → hop d (nbr d c) = hop d c + 1 := by decide +kernel
/-- A device with one before it on a chain stands one place further than that one. -/
theorem hop_pos : ∀ (d : Dir) (c : Dev nD), hasNbr d.op c = true → hop d c = hop d (nbr d.op c) + 1 := by decide +kernel
/-- A device with none before it stands first. -/
theorem hop_zero : ∀ (d : Dir) (c : Dev nD), hasNbr d.op c = false → hop d c = 0 := by decide +kernel
/-- A device with one before it does not stand first. -/
theorem hop_ne_zero : ∀ (d : Dir) (c : Dev nD), hasNbr d.op c = true → hop d c ≠ 0 := by decide +kernel
/-- The partner across `x` reduces another quarter. -/
theorem colq_xp_ne : ∀ c : Dev nD, colq (xp c) ≠ colq c := by decide +kernel
/-- The partner across `z` reduces another quarter. -/
theorem colq_zp_ne : ∀ c : Dev nD, colq (zp c) ≠ colq c := by decide +kernel

/-- The four quarters of a device: its own, its `x` partner's, its `z` partner's, and the one of the `x` partner of
its `z` partner. -/
theorem colq_cover : ∀ c : Dev nD,
    (Finset.univ : Finset (Fin 4)) = {colq c, colq (xp c), colq (zp c), colq (xp (zp c))} ∧
    colq c ∉ ({colq (xp c), colq (zp c), colq (xp (zp c))} : Finset (Fin 4)) ∧
    colq (xp c) ∉ ({colq (zp c), colq (xp (zp c))} : Finset (Fin 4)) ∧
    colq (zp c) ∉ ({colq (xp (zp c))} : Finset (Fin 4)) := by decide +kernel

/-! ## Tiles -/

/-- Where the tile `t` of the column quarter `q` begins. -/
def tileOff (q : Fin 4) (t : Fin 8) : Fin 2 → ℕ := ![128 * t.val, 128 * q.val]

/-- Every tile is within the block. -/
theorem tileIn : ∀ (q : Fin 4) (t : Fin 8), ∀ a, tileOff q t a + S128x128.size a ≤ S1024x512.size a := by decide +kernel
/-- Every tile of a scratch buffer is within the buffer. -/
theorem cutIn : ∀ t : Fin 8, ∀ a, (![t.val, 0, 0] : Fin 3 → ℕ) a + S1x128x128.size a ≤ S8x128x128.size a := by decide +kernel

end Cert.AllReduce
-- ==== Proof.Program.lean ====
/-
# The straight-line program of a device

What a device runs, written as loops over the eight tiles, for each place along `y`. The printed body of the kernel
is shown to be this program.
-/
module

public import proofs.«01_k».proof.Proof.Geometry

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-! ## Buffers and views -/

/-- The staged input block. -/
abbrev xb : Memref sig .tc .vmem S1024x512 .f32 := Memref.whole cc0_stg0_0
/-- The staged result block. -/
abbrev ob : Memref sig .tc .vmem S1024x512 .f32 := Memref.whole cc0_stg1_0

/-- Where the partial sums of a direction arrive. -/
def comm (d : Dir) : Memref sig .tc .vmem S8x128x128 .f32 :=
  match d with
  | .right => Memref.whole cc0_scratch0
  | .left => Memref.whole cc0_scratch1

/-- Where the partial sums of a direction are put together before they travel on. -/
def stage (d : Dir) : Memref sig .tc .vmem S8x128x128 .f32 :=
  match d with
  | .right => Memref.whole cc0_scratch2
  | .left => Memref.whole cc0_scratch3

/-- The 128 × 128 tile of a block that begins at `off`. -/
abbrev tileAt (b : Memref sig .tc .vmem S1024x512 .f32) (off : Fin 2 → ℕ)
    (h : ∀ a, off a + S128x128.size a ≤ S1024x512.size a) : Memref sig .tc .vmem S128x128 .f32 :=
  b.slice (Rect.unit (s := S1024x512) off S128x128.size h) (fun _ => rfl)

/-- The tile `t` of a scratch buffer of eight tiles. -/
abbrev cut (b : Memref sig .tc .vmem S8x128x128 .f32) (t : Fin 8) : Memref sig .tc .vmem S128x128 .f32 :=
  (b.slice (Rect.unit (s := S8x128x128) ![t.val, 0, 0] S1x128x128.size (cutIn t)) (fun _ => rfl)).squeeze S128x128
    squeezes_S1x128x128_S128x128

/-- A tile of a block consists of whole words. -/
theorem tileAt_exact (b : Memref sig .tc .vmem S1024x512 .f32) (off : Fin 2 → ℕ)
    (h : ∀ a, off a + S128x128.size a ≤ S1024x512.size a) : (tileAt b off h).view.WordExact := View.wordExact_bits rfl

/-- A tile of a scratch buffer consists of whole words. -/
theorem cut_exact (b : Memref sig .tc .vmem S8x128x128 .f32) (t : Fin 8) : (cut b t).view.WordExact :=
  (View.wordExact_bits rfl).reshape _ _

/-- A statement about each of the eight tiles. -/
theorem eachTile {P : Fin 8 → Prop} (h0 : P 0) (h1 : P 1) (h2 : P 2) (h3 : P 3) (h4 : P 4) (h5 : P 5) (h6 : P 6)
    (h7 : P 7) : ∀ t, P t
  | 0 => h0
  | 1 => h1
  | 2 => h2
  | 3 => h3
  | 4 => h4
  | 5 => h5
  | 6 => h6
  | 7 => h7

/-! ## The pieces -/

variable (F) in
/-- Programs of a device without a result. -/
abbrev Pg : Type 1 := Prog (TpuEff nD τ sig (Elt F) Λ₀ .tc) PUnit

/-- Run a program for each of the eight tiles in turn. -/
def forTiles (f : Fin 8 → Pg F) : Pg F := do
  f 0; f 1; f 2; f 3; f 4; f 5; f 6; f 7

/-- Copy `src` to `dst` on device `e`, crediting `sS` here and `sR` there. -/
def copyTo (sS sR : DmaSem sig) (e : Dev nD) (src dst : Memref sig .tc .vmem S128x128 .f32) (hs : src.view.WordExact)
    (hd : dst.view.WordExact) : Pg F :=
  Prog.lift (.enqueueDma src (.remote (Dev.tc e) dst (.dma sS)) (.dma sR) hs hd ⟨⟨rfl, Or.inl rfl⟩, trivial⟩)

/-- Wait on a transfer semaphore for one tile. -/
def await (s : DmaSem sig) (src dst : Memref sig .tc .vmem S128x128 .f32) (hs : src.view.WordExact)
    (hd : dst.view.WordExact) : Pg F :=
  Prog.lift (.waitDma2 s src dst hs hd)

/-- Load a tile of a block. -/
def loadTile (b : Memref sig .tc .vmem S1024x512 .f32) (off : Fin 2 → ℕ)
    (h : ∀ a, off a + S128x128.size a ≤ S1024x512.size a) :
    Prog (TpuEff nD τ sig (Elt F) Λ₀ .tc) (Vec F S128x128 .f32) :=
  Prog.lift (.load b (Rect.unit (s := S1024x512) off S128x128.size h).toLoadRect (View.loadsAt_vmem h_S128x128))

/-- Load a tile of a scratch buffer. -/
def loadCut (b : Memref sig .tc .vmem S8x128x128 .f32) (t : Fin 8) :
    Prog (TpuEff nD τ sig (Elt F) Λ₀ .tc) (Vec F S1x128x128 .f32) :=
  Prog.lift (.load b (Rect.unit (s := S8x128x128) ![t.val, 0, 0] S1x128x128.size (cutIn t)).toLoadRect
    (View.loadsAt_vmem h_S1x128x128))

/-- Store a tile of a block. -/
def storeTile (b : Memref sig .tc .vmem S1024x512 .f32) (off : Fin 2 → ℕ)
    (h : ∀ a, off a + S128x128.size a ≤ S1024x512.size a) (w : FVec F S128x128 .f32) : Pg F :=
  Prog.lift (.store b (Rect.unit (s := S1024x512) off S128x128.size h) w Finset.univ
    (View.stores_vmem_bits_univ h_S128x128 rfl) (.inl rfl))

/-- Store a tile of a scratch buffer. -/
def storeCut (b : Memref sig .tc .vmem S8x128x128 .f32) (t : Fin 8) (w : FVec F S1x128x128 .f32) : Pg F :=
  Prog.lift (.store b (Rect.unit (s := S8x128x128) ![t.val, 0, 0] S1x128x128.size (cutIn t)) w Finset.univ
    (View.stores_vmem_bits_univ h_S1x128x128 rfl) (.inl rfl))

/-- The last sum at the end of a chain: the input tile and what arrived. -/
def sumEnd (x : Vec F S128x128 .f32) (v : Vec F S1x128x128 .f32) : FVec F S128x128 .f32 :=
  addf (shapeCast S128x128 x shapeCasts_S128x128_S128x128) (shapeCast S128x128 v shapeCasts_S1x128x128_S128x128)

/-- The partial sum that travels on: what arrived and the input tile. -/
def sumOn (v : Vec F S1x128x128 .f32) (x : Vec F S128x128 .f32) : FVec F S1x128x128 .f32 :=
  shapeCast S1x128x128 (addf (shapeCast S128x128 v shapeCasts_S1x128x128_S128x128)
    (shapeCast S128x128 x shapeCasts_S128x128_S128x128)) shapeCasts_S128x128_S1x128x128

/-- The last sum in the middle of a chain: the partial sum from the left and what arrived from the right. -/
def sumMid (s v : Vec F S1x128x128 .f32) : FVec F S128x128 .f32 :=
  addf (shapeCast S128x128 s shapeCasts_S1x128x128_S128x128) (shapeCast S128x128 v shapeCasts_S1x128x128_S128x128)

/-- Send an input tile to the neighbour in direction `d`. -/
def sendXAt (d : Dir) (off : Fin 2 → ℕ) (h : ∀ a, off a + S128x128.size a ≤ S1024x512.size a) (e : Dev nD) (t : Fin 8) :
    Pg F :=
  copyTo (semOf (.send d) t) (semOf (.recv d) t) e (tileAt xb off h) (cut (comm d) t) (tileAt_exact xb off h)
    (cut_exact (comm d) t)

/-- Receive a tile in direction `d` at the end of its chain and store the whole sum. -/
def endAt (d : Dir) (off : Fin 2 → ℕ) (h : ∀ a, off a + S128x128.size a ≤ S1024x512.size a) (t : Fin 8) : Pg F := do
  await (semOf (.recv d) t) (cut (stage d) t) (cut (comm d) t) (cut_exact (stage d) t) (cut_exact (comm d) t)
  let x ← loadTile xb off h
  let v ← loadCut (comm d) t
  let _ ← loadTile ob off h
  storeTile ob off h (sumEnd x v)

/-- Send a finished tile to the two partners. -/
def pushAt (off : Fin 2 → ℕ) (h : ∀ a, off a + S128x128.size a ≤ S1024x512.size a) (ex ez : Dev nD) (t : Fin 8) : Pg F := do
  copyTo (semOf .xs t) (semOf .xr t) ex (tileAt ob off h) (tileAt ob off h) (tileAt_exact ob off h) (tileAt_exact ob off h)
  copyTo (semOf .zs t) (semOf .zr t) ez (tileAt ob off h) (tileAt ob off h) (tileAt_exact ob off h) (tileAt_exact ob off h)

/-- Receive a tile in direction `d`, add the input tile, and send the sum on. -/
def relayAt (d : Dir) (off : Fin 2 → ℕ) (h : ∀ a, off a + S128x128.size a ≤ S1024x512.size a) (e : Dev nD) (t : Fin 8) :
    Pg F := do
  await (semOf (.recv d) t) (cut (stage d) t) (cut (comm d) t) (cut_exact (stage d) t) (cut_exact (comm d) t)
  let v ← loadCut (comm d) t
  let x ← loadTile xb off h
  let _ ← loadCut (stage d) t
  storeCut (stage d) t (sumOn v x)
  copyTo (semOf (.send d) t) (semOf (.recv d) t) e (cut (stage d) t) (cut (comm d) t) (cut_exact (stage d) t)
    (cut_exact (comm d) t)

/-- Add the partial sums of the two directions and store the whole sum. -/
def finishAt (off : Fin 2 → ℕ) (h : ∀ a, off a + S128x128.size a ≤ S1024x512.size a) (t : Fin 8) : Pg F := do
  let s ← loadCut (stage .right) t
  let v ← loadCut (comm .left) t
  let _ ← loadTile ob off h
  storeTile ob off h (sumMid s v)

/-- Receive a tile across `x` and forward it across `z`. -/
def forwardAt (off off' : Fin 2 → ℕ) (h : ∀ a, off a + S128x128.size a ≤ S1024x512.size a)
    (h' : ∀ a, off' a + S128x128.size a ≤ S1024x512.size a) (e : Dev nD) (t : Fin 8) : Pg F := do
  await (semOf .xr t) (tileAt ob off h) (tileAt ob off h) (tileAt_exact ob off h) (tileAt_exact ob off h)
  copyTo (semOf .ws t) (semOf .wr t) e (tileAt ob off' h') (tileAt ob off' h') (tileAt_exact ob off' h')
    (tileAt_exact ob off' h')

/-- Receive the two tiles that come across `z`. -/
def receiveAt (off off' : Fin 2 → ℕ) (h : ∀ a, off a + S128x128.size a ≤ S1024x512.size a)
    (h' : ∀ a, off' a + S128x128.size a ≤ S1024x512.size a) (t : Fin 8) : Pg F := do
  await (semOf .zr t) (tileAt ob off h) (tileAt ob off h) (tileAt_exact ob off h) (tileAt_exact ob off h)
  await (semOf .wr t) (tileAt ob off' h') (tileAt ob off' h') (tileAt_exact ob off' h') (tileAt_exact ob off' h')

/-- Wait until the three copies of a finished tile have left. -/
def settleAt (off off' : Fin 2 → ℕ) (h : ∀ a, off a + S128x128.size a ≤ S1024x512.size a)
    (h' : ∀ a, off' a + S128x128.size a ≤ S1024x512.size a) (t : Fin 8) : Pg F := do
  await (semOf .xs t) (tileAt ob off h) (tileAt ob off h) (tileAt_exact ob off h) (tileAt_exact ob off h)
  await (semOf .zs t) (tileAt ob off h) (tileAt ob off h) (tileAt_exact ob off h) (tileAt_exact ob off h)
  await (semOf .ws t) (tileAt ob off' h') (tileAt ob off' h') (tileAt_exact ob off' h') (tileAt_exact ob off' h')

/-- Wait until an input tile sent in direction `d` has left. -/
def drainXAt (d : Dir) (off : Fin 2 → ℕ) (h : ∀ a, off a + S128x128.size a ≤ S1024x512.size a) (t : Fin 8) : Pg F :=
  await (semOf (.send d) t) (cut (comm d) t) (tileAt xb off h) (cut_exact (comm d) t) (tileAt_exact xb off h)

/-- Wait until the partial sums sent in both directions have left. -/
def drainMid (t : Fin 8) : Pg F := do
  await (semOf (.send .right) t) (cut (comm .right) t) (cut (stage .right) t) (cut_exact (comm .right) t)
    (cut_exact (stage .right) t)
  await (semOf (.send .left) t) (cut (comm .left) t) (cut (stage .left) t) (cut_exact (comm .left) t)
    (cut_exact (stage .left) t)

/-! ## The printed views and devices, tile by tile -/

/-- The views of the printed list from 1 on, tile by tile. -/
def offs1 (c : Dev nD) : Fin 8 → (Fin 2 → ℕ) :=
  ![k0_off1 c, k0_off2 c, k0_off3 c, k0_off4 c, k0_off5 c, k0_off6 c, k0_off7 c, k0_off8 c]

/-- The tiles at the printed offsets from number 1 on are within the block. -/
theorem offs1_in (c : Dev nD) (h : k0_cond3 c = 1#1) : ∀ t a, offs1 c t a + S128x128.size a ≤ S1024x512.size a := by
  exact eachTile (k0_off1_inb c h) (k0_off2_inb c h) (k0_off3_inb c h) (k0_off4_inb c h) (k0_off5_inb c h) (k0_off6_inb c h) (k0_off7_inb c h) (k0_off8_inb c h)

/-- The printed offsets from number 1 on are those of the tiles of the device's own quarter. -/
theorem offs1_eq : ∀ (c : Dev nD) (t : Fin 8), offs1 c t = tileOff (colq c) t := by decide +kernel

/-- The views of the printed list from 9 on, tile by tile. -/
def offs9 (c : Dev nD) : Fin 8 → (Fin 2 → ℕ) :=
  ![k0_off9 c, k0_off10 c, k0_off11 c, k0_off12 c, k0_off13 c, k0_off14 c, k0_off15 c, k0_off16 c]

/-- The tiles at the printed offsets from number 9 on are within the block. -/
theorem offs9_in (c : Dev nD) (h : k0_cond3 c = 1#1) : ∀ t a, offs9 c t a + S128x128.size a ≤ S1024x512.size a := by
  exact eachTile (k0_off9_inb c h) (k0_off10_inb c h) (k0_off11_inb c h) (k0_off12_inb c h) (k0_off13_inb c h) (k0_off14_inb c h) (k0_off15_inb c h) (k0_off16_inb c h)

/-- The printed offsets from number 9 on are those of the tiles of the device's own quarter. -/
theorem offs9_eq : ∀ (c : Dev nD) (t : Fin 8), offs9 c t = tileOff (colq c) t := by decide +kernel

/-- The views of the printed list from 17 on, tile by tile. -/
def offs17 (c : Dev nD) : Fin 8 → (Fin 2 → ℕ) :=
  ![k0_off17 c, k0_off18 c, k0_off19 c, k0_off20 c, k0_off21 c, k0_off22 c, k0_off23 c, k0_off24 c]

/-- The tiles at the printed offsets from number 17 on are within the block. -/
theorem offs17_in (c : Dev nD) (h : k0_cond4 c = 1#1) : ∀ t a, offs17 c t a + S128x128.size a ≤ S1024x512.size a := by
  exact eachTile (k0_off17_inb c h) (k0_off18_inb c h) (k0_off19_inb c h) (k0_off20_inb c h) (k0_off21_inb c h) (k0_off22_inb c h) (k0_off23_inb c h) (k0_off24_inb c h)

/-- The printed offsets from number 17 on are those of the tiles of the device's own quarter. -/
theorem offs17_eq : ∀ (c : Dev nD) (t : Fin 8), offs17 c t = tileOff (colq c) t := by decide +kernel

/-- The views of the printed list from 25 on, tile by tile. -/
def offs25 (c : Dev nD) : Fin 8 → (Fin 2 → ℕ) :=
  ![k0_off25 c, k0_off26 c, k0_off27 c, k0_off28 c, k0_off29 c, k0_off30 c, k0_off31 c, k0_off32 c]

/-- The tiles at the printed offsets from number 25 on are within the block. -/
theorem offs25_in (c : Dev nD) (h : k0_cond4 c = 1#1) : ∀ t a, offs25 c t a + S128x128.size a ≤ S1024x512.size a := by
  exact eachTile (k0_off25_inb c h) (k0_off26_inb c h) (k0_off27_inb c h) (k0_off28_inb c h) (k0_off29_inb c h) (k0_off30_inb c h) (k0_off31_inb c h) (k0_off32_inb c h)

/-- The printed offsets from number 25 on are those of the tiles of the device's own quarter. -/
theorem offs25_eq : ∀ (c : Dev nD) (t : Fin 8), offs25 c t = tileOff (colq c) t := by decide +kernel

/-- The views of the printed list from 33 on, tile by tile. -/
def offs33 (c : Dev nD) : Fin 8 → (Fin 2 → ℕ) :=
  ![k0_off33 c, k0_off34 c, k0_off35 c, k0_off36 c, k0_off37 c, k0_off38 c, k0_off39 c, k0_off40 c]

/-- The tiles at the printed offsets from number 33 on are within the block. -/
theorem offs33_in (c : Dev nD) (h : k0_cond5 c = 1#1) : ∀ t a, offs33 c t a + S128x128.size a ≤ S1024x512.size a := by
  exact eachTile (k0_off33_inb c h) (k0_off34_inb c h) (k0_off35_inb c h) (k0_off36_inb c h) (k0_off37_inb c h) (k0_off38_inb c h) (k0_off39_inb c h) (k0_off40_inb c h)

/-- The printed offsets from number 33 on are those of the tiles of the device's own quarter. -/
theorem offs33_eq : ∀ (c : Dev nD) (t : Fin 8), offs33 c t = tileOff (colq c) t := by decide +kernel

/-- The views of the printed list from 41 on, tile by tile. -/
def offs41 (c : Dev nD) : Fin 8 → (Fin 2 → ℕ) :=
  ![k0_off41 c, k0_off42 c, k0_off43 c, k0_off44 c, k0_off45 c, k0_off46 c, k0_off47 c, k0_off48 c]

/-- The tiles at the printed offsets from number 41 on are within the block. -/
theorem offs41_in (c : Dev nD) (h : k0_cond5 c = 1#1) : ∀ t a, offs41 c t a + S128x128.size a ≤ S1024x512.size a := by
  exact eachTile (k0_off41_inb c h) (k0_off42_inb c h) (k0_off43_inb c h) (k0_off44_inb c h) (k0_off45_inb c h) (k0_off46_inb c h) (k0_off47_inb c h) (k0_off48_inb c h)

/-- The printed offsets from number 41 on are those of the tiles of the device's own quarter. -/
theorem offs41_eq : ∀ (c : Dev nD) (t : Fin 8), offs41 c t = tileOff (colq c) t := by decide +kernel

/-- The views of the printed list from 49 on, tile by tile. -/
def offs49 (c : Dev nD) : Fin 8 → (Fin 2 → ℕ) :=
  ![k0_off49 c, k0_off50 c, k0_off51 c, k0_off52 c, k0_off53 c, k0_off54 c, k0_off55 c, k0_off56 c]

/-- The tiles at the printed offsets from number 49 on are within the block. -/
theorem offs49_in (c : Dev nD) (h : k0_cond6 c = 1#1) : ∀ t a, offs49 c t a + S128x128.size a ≤ S1024x512.size a := by
  exact eachTile (k0_off49_inb c h) (k0_off50_inb c h) (k0_off51_inb c h) (k0_off52_inb c h) (k0_off53_inb c h) (k0_off54_inb c h) (k0_off55_inb c h) (k0_off56_inb c h)

/-- The printed offsets from number 49 on are those of the tiles of the device's own quarter. -/
theorem offs49_eq : ∀ (c : Dev nD) (t : Fin 8), offs49 c t = tileOff (colq c) t := by decide +kernel

/-- The views of the printed list from 57 on, tile by tile. -/
def offs57 (c : Dev nD) : Fin 8 → (Fin 2 → ℕ) :=
  ![k0_off57 c, k0_off58 c, k0_off59 c, k0_off60 c, k0_off61 c, k0_off62 c, k0_off63 c, k0_off64 c]

/-- The tiles at the printed offsets from number 57 on are within the block. -/
theorem offs57_in (c : Dev nD) (h : k0_cond6 c = 1#1) : ∀ t a, offs57 c t a + S128x128.size a ≤ S1024x512.size a := by
  exact eachTile (k0_off57_inb c h) (k0_off58_inb c h) (k0_off59_inb c h) (k0_off60_inb c h) (k0_off61_inb c h) (k0_off62_inb c h) (k0_off63_inb c h) (k0_off64_inb c h)

/-- The printed offsets from number 57 on are those of the tiles of the device's own quarter. -/
theorem offs57_eq : ∀ (c : Dev nD) (t : Fin 8), offs57 c t = tileOff (colq c) t := by decide +kernel

/-- The views of the printed list from 65 on, tile by tile. -/
def offs65 (c : Dev nD) : Fin 8 → (Fin 2 → ℕ) :=
  ![k0_off65 c, k0_off67 c, k0_off69 c, k0_off71 c, k0_off73 c, k0_off75 c, k0_off77 c, k0_off79 c]

/-- The tiles at the printed offsets from number 65 on are within the block. -/
theorem offs65_in (c : Dev nD) : ∀ t a, offs65 c t a + S128x128.size a ≤ S1024x512.size a := by
  exact eachTile (k0_off65_inb c) (k0_off67_inb c) (k0_off69_inb c) (k0_off71_inb c) (k0_off73_inb c) (k0_off75_inb c) (k0_off77_inb c) (k0_off79_inb c)

/-- The printed offsets from number 65 on are those of the tiles of the device's own quarter. -/
theorem offs65_eq : ∀ (c : Dev nD) (t : Fin 8), offs65 c t = tileOff (colq c) t := by decide +kernel

/-- The views of the printed list from 66 on, tile by tile. -/
def offs66 (c : Dev nD) : Fin 8 → (Fin 2 → ℕ) :=
  ![k0_off66 c, k0_off68 c, k0_off70 c, k0_off72 c, k0_off74 c, k0_off76 c, k0_off78 c, k0_off80 c]

/-- The tiles at the printed offsets from number 66 on are within the block. -/
theorem offs66_in (c : Dev nD) : ∀ t a, offs66 c t a + S128x128.size a ≤ S1024x512.size a := by
  exact eachTile (k0_off66_inb c) (k0_off68_inb c) (k0_off70_inb c) (k0_off72_inb c) (k0_off74_inb c) (k0_off76_inb c) (k0_off78_inb c) (k0_off80_inb c)

/-- The printed offsets from number 66 on are those of the tiles of the quarter of the partner across `x`. -/
theorem offs66_eq : ∀ (c : Dev nD) (t : Fin 8), offs66 c t = tileOff (colq (xp c)) t := by decide +kernel

/-- The views of the printed list from 81 on, tile by tile. -/
def offs81 (c : Dev nD) : Fin 8 → (Fin 2 → ℕ) :=
  ![k0_off81 c, k0_off82 c, k0_off83 c, k0_off84 c, k0_off85 c, k0_off86 c, k0_off87 c, k0_off88 c]

/-- The tiles at the printed offsets from number 81 on are within the block. -/
theorem offs81_in (c : Dev nD) (h : k0_cond7 c = 1#1) : ∀ t a, offs81 c t a + S128x128.size a ≤ S1024x512.size a := by
  exact eachTile (k0_off81_inb c h) (k0_off82_inb c h) (k0_off83_inb c h) (k0_off84_inb c h) (k0_off85_inb c h) (k0_off86_inb c h) (k0_off87_inb c h) (k0_off88_inb c h)

/-- The printed offsets from number 81 on are those of the tiles of the device's own quarter. -/
theorem offs81_eq : ∀ (c : Dev nD) (t : Fin 8), offs81 c t = tileOff (colq c) t := by decide +kernel

/-- The views of the printed list from 89 on, tile by tile. -/
def offs89 (c : Dev nD) : Fin 8 → (Fin 2 → ℕ) :=
  ![k0_off89 c, k0_off90 c, k0_off91 c, k0_off92 c, k0_off93 c, k0_off94 c, k0_off95 c, k0_off96 c]

/-- The tiles at the printed offsets from number 89 on are within the block. -/
theorem offs89_in (c : Dev nD) (h : k0_cond8 c = 1#1) : ∀ t a, offs89 c t a + S128x128.size a ≤ S1024x512.size a := by
  exact eachTile (k0_off89_inb c h) (k0_off90_inb c h) (k0_off91_inb c h) (k0_off92_inb c h) (k0_off93_inb c h) (k0_off94_inb c h) (k0_off95_inb c h) (k0_off96_inb c h)

/-- The printed offsets from number 89 on are those of the tiles of the device's own quarter. -/
theorem offs89_eq : ∀ (c : Dev nD) (t : Fin 8), offs89 c t = tileOff (colq c) t := by decide +kernel

/-- The devices of the printed list from 5 on, tile by tile. -/
def devs5 (c : Dev nD) (h : k0_cond3 c = 1#1) : Fin 8 → Dev nD :=
  ![⟨k0_dev5 c, k0_dev5_lt c h⟩, ⟨k0_dev6 c, k0_dev6_lt c h⟩, ⟨k0_dev7 c, k0_dev7_lt c h⟩, ⟨k0_dev8 c, k0_dev8_lt c h⟩, ⟨k0_dev9 c, k0_dev9_lt c h⟩, ⟨k0_dev10 c, k0_dev10_lt c h⟩, ⟨k0_dev11 c, k0_dev11_lt c h⟩, ⟨k0_dev12 c, k0_dev12_lt c h⟩]

/-- The printed receivers from number 5 on are the right neighbour, by number. -/
theorem devs5_val : ∀ c : Dev nD, k0_cond3 c = 1#1 → ∀ t : Fin 8, (![k0_dev5 c, k0_dev6 c, k0_dev7 c, k0_dev8 c, k0_dev9 c, k0_dev10 c, k0_dev11 c, k0_dev12 c] : Fin 8 → ℕ) t = (nbr .right c).val := by decide +kernel
/-- The printed receivers from number 5 on are the right neighbour. -/
theorem devs5_eq (c : Dev nD) (h : k0_cond3 c = 1#1) (t : Fin 8) : devs5 c h t = nbr .right c := by
  have e := devs5_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 13 on, tile by tile. -/
def devs13 (c : Dev nD) (h : k0_cond3 c = 1#1) : Fin 8 → Dev nD :=
  ![⟨k0_dev13 c, k0_dev13_lt c h⟩, ⟨k0_dev15 c, k0_dev15_lt c h⟩, ⟨k0_dev17 c, k0_dev17_lt c h⟩, ⟨k0_dev19 c, k0_dev19_lt c h⟩, ⟨k0_dev21 c, k0_dev21_lt c h⟩, ⟨k0_dev23 c, k0_dev23_lt c h⟩, ⟨k0_dev25 c, k0_dev25_lt c h⟩, ⟨k0_dev27 c, k0_dev27_lt c h⟩]

/-- The printed receivers from number 13 on are the partner across `x`, by number. -/
theorem devs13_val : ∀ c : Dev nD, k0_cond3 c = 1#1 → ∀ t : Fin 8, (![k0_dev13 c, k0_dev15 c, k0_dev17 c, k0_dev19 c, k0_dev21 c, k0_dev23 c, k0_dev25 c, k0_dev27 c] : Fin 8 → ℕ) t = (xp c).val := by decide +kernel
/-- The printed receivers from number 13 on are the partner across `x`. -/
theorem devs13_eq (c : Dev nD) (h : k0_cond3 c = 1#1) (t : Fin 8) : devs13 c h t = xp c := by
  have e := devs13_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 14 on, tile by tile. -/
def devs14 (c : Dev nD) (h : k0_cond3 c = 1#1) : Fin 8 → Dev nD :=
  ![⟨k0_dev14 c, k0_dev14_lt c h⟩, ⟨k0_dev16 c, k0_dev16_lt c h⟩, ⟨k0_dev18 c, k0_dev18_lt c h⟩, ⟨k0_dev20 c, k0_dev20_lt c h⟩, ⟨k0_dev22 c, k0_dev22_lt c h⟩, ⟨k0_dev24 c, k0_dev24_lt c h⟩, ⟨k0_dev26 c, k0_dev26_lt c h⟩, ⟨k0_dev28 c, k0_dev28_lt c h⟩]

/-- The printed receivers from number 14 on are the partner across `z`, by number. -/
theorem devs14_val : ∀ c : Dev nD, k0_cond3 c = 1#1 → ∀ t : Fin 8, (![k0_dev14 c, k0_dev16 c, k0_dev18 c, k0_dev20 c, k0_dev22 c, k0_dev24 c, k0_dev26 c, k0_dev28 c] : Fin 8 → ℕ) t = (zp c).val := by decide +kernel
/-- The printed receivers from number 14 on are the partner across `z`. -/
theorem devs14_eq (c : Dev nD) (h : k0_cond3 c = 1#1) (t : Fin 8) : devs14 c h t = zp c := by
  have e := devs14_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 29 on, tile by tile. -/
def devs29 (c : Dev nD) (h : k0_cond4 c = 1#1) : Fin 8 → Dev nD :=
  ![⟨k0_dev29 c, k0_dev29_lt c h⟩, ⟨k0_dev30 c, k0_dev30_lt c h⟩, ⟨k0_dev31 c, k0_dev31_lt c h⟩, ⟨k0_dev32 c, k0_dev32_lt c h⟩, ⟨k0_dev33 c, k0_dev33_lt c h⟩, ⟨k0_dev34 c, k0_dev34_lt c h⟩, ⟨k0_dev35 c, k0_dev35_lt c h⟩, ⟨k0_dev36 c, k0_dev36_lt c h⟩]

/-- The printed receivers from number 29 on are the left neighbour, by number. -/
theorem devs29_val : ∀ c : Dev nD, k0_cond4 c = 1#1 → ∀ t : Fin 8, (![k0_dev29 c, k0_dev30 c, k0_dev31 c, k0_dev32 c, k0_dev33 c, k0_dev34 c, k0_dev35 c, k0_dev36 c] : Fin 8 → ℕ) t = (nbr .left c).val := by decide +kernel
/-- The printed receivers from number 29 on are the left neighbour. -/
theorem devs29_eq (c : Dev nD) (h : k0_cond4 c = 1#1) (t : Fin 8) : devs29 c h t = nbr .left c := by
  have e := devs29_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 37 on, tile by tile. -/
def devs37 (c : Dev nD) (h : k0_cond4 c = 1#1) : Fin 8 → Dev nD :=
  ![⟨k0_dev37 c, k0_dev37_lt c h⟩, ⟨k0_dev39 c, k0_dev39_lt c h⟩, ⟨k0_dev41 c, k0_dev41_lt c h⟩, ⟨k0_dev43 c, k0_dev43_lt c h⟩, ⟨k0_dev45 c, k0_dev45_lt c h⟩, ⟨k0_dev47 c, k0_dev47_lt c h⟩, ⟨k0_dev49 c, k0_dev49_lt c h⟩, ⟨k0_dev51 c, k0_dev51_lt c h⟩]

/-- The printed receivers from number 37 on are the partner across `x`, by number. -/
theorem devs37_val : ∀ c : Dev nD, k0_cond4 c = 1#1 → ∀ t : Fin 8, (![k0_dev37 c, k0_dev39 c, k0_dev41 c, k0_dev43 c, k0_dev45 c, k0_dev47 c, k0_dev49 c, k0_dev51 c] : Fin 8 → ℕ) t = (xp c).val := by decide +kernel
/-- The printed receivers from number 37 on are the partner across `x`. -/
theorem devs37_eq (c : Dev nD) (h : k0_cond4 c = 1#1) (t : Fin 8) : devs37 c h t = xp c := by
  have e := devs37_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 38 on, tile by tile. -/
def devs38 (c : Dev nD) (h : k0_cond4 c = 1#1) : Fin 8 → Dev nD :=
  ![⟨k0_dev38 c, k0_dev38_lt c h⟩, ⟨k0_dev40 c, k0_dev40_lt c h⟩, ⟨k0_dev42 c, k0_dev42_lt c h⟩, ⟨k0_dev44 c, k0_dev44_lt c h⟩, ⟨k0_dev46 c, k0_dev46_lt c h⟩, ⟨k0_dev48 c, k0_dev48_lt c h⟩, ⟨k0_dev50 c, k0_dev50_lt c h⟩, ⟨k0_dev52 c, k0_dev52_lt c h⟩]

/-- The printed receivers from number 38 on are the partner across `z`, by number. -/
theorem devs38_val : ∀ c : Dev nD, k0_cond4 c = 1#1 → ∀ t : Fin 8, (![k0_dev38 c, k0_dev40 c, k0_dev42 c, k0_dev44 c, k0_dev46 c, k0_dev48 c, k0_dev50 c, k0_dev52 c] : Fin 8 → ℕ) t = (zp c).val := by decide +kernel
/-- The printed receivers from number 38 on are the partner across `z`. -/
theorem devs38_eq (c : Dev nD) (h : k0_cond4 c = 1#1) (t : Fin 8) : devs38 c h t = zp c := by
  have e := devs38_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 53 on, tile by tile. -/
def devs53 (c : Dev nD) (h : k0_cond5 c = 1#1) : Fin 8 → Dev nD :=
  ![⟨k0_dev53 c, k0_dev53_lt c h⟩, ⟨k0_dev54 c, k0_dev54_lt c h⟩, ⟨k0_dev55 c, k0_dev55_lt c h⟩, ⟨k0_dev56 c, k0_dev56_lt c h⟩, ⟨k0_dev57 c, k0_dev57_lt c h⟩, ⟨k0_dev58 c, k0_dev58_lt c h⟩, ⟨k0_dev59 c, k0_dev59_lt c h⟩, ⟨k0_dev60 c, k0_dev60_lt c h⟩]

/-- The printed receivers from number 53 on are the right neighbour, by number. -/
theorem devs53_val : ∀ c : Dev nD, k0_cond5 c = 1#1 → ∀ t : Fin 8, (![k0_dev53 c, k0_dev54 c, k0_dev55 c, k0_dev56 c, k0_dev57 c, k0_dev58 c, k0_dev59 c, k0_dev60 c] : Fin 8 → ℕ) t = (nbr .right c).val := by decide +kernel
/-- The printed receivers from number 53 on are the right neighbour. -/
theorem devs53_eq (c : Dev nD) (h : k0_cond5 c = 1#1) (t : Fin 8) : devs53 c h t = nbr .right c := by
  have e := devs53_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 61 on, tile by tile. -/
def devs61 (c : Dev nD) (h : k0_cond5 c = 1#1) : Fin 8 → Dev nD :=
  ![⟨k0_dev61 c, k0_dev61_lt c h⟩, ⟨k0_dev64 c, k0_dev64_lt c h⟩, ⟨k0_dev67 c, k0_dev67_lt c h⟩, ⟨k0_dev70 c, k0_dev70_lt c h⟩, ⟨k0_dev73 c, k0_dev73_lt c h⟩, ⟨k0_dev76 c, k0_dev76_lt c h⟩, ⟨k0_dev79 c, k0_dev79_lt c h⟩, ⟨k0_dev82 c, k0_dev82_lt c h⟩]

/-- The printed receivers from number 61 on are the left neighbour, by number. -/
theorem devs61_val : ∀ c : Dev nD, k0_cond5 c = 1#1 → ∀ t : Fin 8, (![k0_dev61 c, k0_dev64 c, k0_dev67 c, k0_dev70 c, k0_dev73 c, k0_dev76 c, k0_dev79 c, k0_dev82 c] : Fin 8 → ℕ) t = (nbr .left c).val := by decide +kernel
/-- The printed receivers from number 61 on are the left neighbour. -/
theorem devs61_eq (c : Dev nD) (h : k0_cond5 c = 1#1) (t : Fin 8) : devs61 c h t = nbr .left c := by
  have e := devs61_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 62 on, tile by tile. -/
def devs62 (c : Dev nD) (h : k0_cond5 c = 1#1) : Fin 8 → Dev nD :=
  ![⟨k0_dev62 c, k0_dev62_lt c h⟩, ⟨k0_dev65 c, k0_dev65_lt c h⟩, ⟨k0_dev68 c, k0_dev68_lt c h⟩, ⟨k0_dev71 c, k0_dev71_lt c h⟩, ⟨k0_dev74 c, k0_dev74_lt c h⟩, ⟨k0_dev77 c, k0_dev77_lt c h⟩, ⟨k0_dev80 c, k0_dev80_lt c h⟩, ⟨k0_dev83 c, k0_dev83_lt c h⟩]

/-- The printed receivers from number 62 on are the partner across `x`, by number. -/
theorem devs62_val : ∀ c : Dev nD, k0_cond5 c = 1#1 → ∀ t : Fin 8, (![k0_dev62 c, k0_dev65 c, k0_dev68 c, k0_dev71 c, k0_dev74 c, k0_dev77 c, k0_dev80 c, k0_dev83 c] : Fin 8 → ℕ) t = (xp c).val := by decide +kernel
/-- The printed receivers from number 62 on are the partner across `x`. -/
theorem devs62_eq (c : Dev nD) (h : k0_cond5 c = 1#1) (t : Fin 8) : devs62 c h t = xp c := by
  have e := devs62_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 63 on, tile by tile. -/
def devs63 (c : Dev nD) (h : k0_cond5 c = 1#1) : Fin 8 → Dev nD :=
  ![⟨k0_dev63 c, k0_dev63_lt c h⟩, ⟨k0_dev66 c, k0_dev66_lt c h⟩, ⟨k0_dev69 c, k0_dev69_lt c h⟩, ⟨k0_dev72 c, k0_dev72_lt c h⟩, ⟨k0_dev75 c, k0_dev75_lt c h⟩, ⟨k0_dev78 c, k0_dev78_lt c h⟩, ⟨k0_dev81 c, k0_dev81_lt c h⟩, ⟨k0_dev84 c, k0_dev84_lt c h⟩]

/-- The printed receivers from number 63 on are the partner across `z`, by number. -/
theorem devs63_val : ∀ c : Dev nD, k0_cond5 c = 1#1 → ∀ t : Fin 8, (![k0_dev63 c, k0_dev66 c, k0_dev69 c, k0_dev72 c, k0_dev75 c, k0_dev78 c, k0_dev81 c, k0_dev84 c] : Fin 8 → ℕ) t = (zp c).val := by decide +kernel
/-- The printed receivers from number 63 on are the partner across `z`. -/
theorem devs63_eq (c : Dev nD) (h : k0_cond5 c = 1#1) (t : Fin 8) : devs63 c h t = zp c := by
  have e := devs63_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 85 on, tile by tile. -/
def devs85 (c : Dev nD) (h : k0_cond6 c = 1#1) : Fin 8 → Dev nD :=
  ![⟨k0_dev85 c, k0_dev85_lt c h⟩, ⟨k0_dev86 c, k0_dev86_lt c h⟩, ⟨k0_dev87 c, k0_dev87_lt c h⟩, ⟨k0_dev88 c, k0_dev88_lt c h⟩, ⟨k0_dev89 c, k0_dev89_lt c h⟩, ⟨k0_dev90 c, k0_dev90_lt c h⟩, ⟨k0_dev91 c, k0_dev91_lt c h⟩, ⟨k0_dev92 c, k0_dev92_lt c h⟩]

/-- The printed receivers from number 85 on are the left neighbour, by number. -/
theorem devs85_val : ∀ c : Dev nD, k0_cond6 c = 1#1 → ∀ t : Fin 8, (![k0_dev85 c, k0_dev86 c, k0_dev87 c, k0_dev88 c, k0_dev89 c, k0_dev90 c, k0_dev91 c, k0_dev92 c] : Fin 8 → ℕ) t = (nbr .left c).val := by decide +kernel
/-- The printed receivers from number 85 on are the left neighbour. -/
theorem devs85_eq (c : Dev nD) (h : k0_cond6 c = 1#1) (t : Fin 8) : devs85 c h t = nbr .left c := by
  have e := devs85_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 93 on, tile by tile. -/
def devs93 (c : Dev nD) (h : k0_cond6 c = 1#1) : Fin 8 → Dev nD :=
  ![⟨k0_dev93 c, k0_dev93_lt c h⟩, ⟨k0_dev96 c, k0_dev96_lt c h⟩, ⟨k0_dev99 c, k0_dev99_lt c h⟩, ⟨k0_dev102 c, k0_dev102_lt c h⟩, ⟨k0_dev105 c, k0_dev105_lt c h⟩, ⟨k0_dev108 c, k0_dev108_lt c h⟩, ⟨k0_dev111 c, k0_dev111_lt c h⟩, ⟨k0_dev114 c, k0_dev114_lt c h⟩]

/-- The printed receivers from number 93 on are the right neighbour, by number. -/
theorem devs93_val : ∀ c : Dev nD, k0_cond6 c = 1#1 → ∀ t : Fin 8, (![k0_dev93 c, k0_dev96 c, k0_dev99 c, k0_dev102 c, k0_dev105 c, k0_dev108 c, k0_dev111 c, k0_dev114 c] : Fin 8 → ℕ) t = (nbr .right c).val := by decide +kernel
/-- The printed receivers from number 93 on are the right neighbour. -/
theorem devs93_eq (c : Dev nD) (h : k0_cond6 c = 1#1) (t : Fin 8) : devs93 c h t = nbr .right c := by
  have e := devs93_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 94 on, tile by tile. -/
def devs94 (c : Dev nD) (h : k0_cond6 c = 1#1) : Fin 8 → Dev nD :=
  ![⟨k0_dev94 c, k0_dev94_lt c h⟩, ⟨k0_dev97 c, k0_dev97_lt c h⟩, ⟨k0_dev100 c, k0_dev100_lt c h⟩, ⟨k0_dev103 c, k0_dev103_lt c h⟩, ⟨k0_dev106 c, k0_dev106_lt c h⟩, ⟨k0_dev109 c, k0_dev109_lt c h⟩, ⟨k0_dev112 c, k0_dev112_lt c h⟩, ⟨k0_dev115 c, k0_dev115_lt c h⟩]

/-- The printed receivers from number 94 on are the partner across `x`, by number. -/
theorem devs94_val : ∀ c : Dev nD, k0_cond6 c = 1#1 → ∀ t : Fin 8, (![k0_dev94 c, k0_dev97 c, k0_dev100 c, k0_dev103 c, k0_dev106 c, k0_dev109 c, k0_dev112 c, k0_dev115 c] : Fin 8 → ℕ) t = (xp c).val := by decide +kernel
/-- The printed receivers from number 94 on are the partner across `x`. -/
theorem devs94_eq (c : Dev nD) (h : k0_cond6 c = 1#1) (t : Fin 8) : devs94 c h t = xp c := by
  have e := devs94_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 95 on, tile by tile. -/
def devs95 (c : Dev nD) (h : k0_cond6 c = 1#1) : Fin 8 → Dev nD :=
  ![⟨k0_dev95 c, k0_dev95_lt c h⟩, ⟨k0_dev98 c, k0_dev98_lt c h⟩, ⟨k0_dev101 c, k0_dev101_lt c h⟩, ⟨k0_dev104 c, k0_dev104_lt c h⟩, ⟨k0_dev107 c, k0_dev107_lt c h⟩, ⟨k0_dev110 c, k0_dev110_lt c h⟩, ⟨k0_dev113 c, k0_dev113_lt c h⟩, ⟨k0_dev116 c, k0_dev116_lt c h⟩]

/-- The printed receivers from number 95 on are the partner across `z`, by number. -/
theorem devs95_val : ∀ c : Dev nD, k0_cond6 c = 1#1 → ∀ t : Fin 8, (![k0_dev95 c, k0_dev98 c, k0_dev101 c, k0_dev104 c, k0_dev107 c, k0_dev110 c, k0_dev113 c, k0_dev116 c] : Fin 8 → ℕ) t = (zp c).val := by decide +kernel
/-- The printed receivers from number 95 on are the partner across `z`. -/
theorem devs95_eq (c : Dev nD) (h : k0_cond6 c = 1#1) (t : Fin 8) : devs95 c h t = zp c := by
  have e := devs95_val c h t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-- The devices of the printed list from 117 on, tile by tile. -/
def devs117 (c : Dev nD) : Fin 8 → Dev nD :=
  ![⟨k0_dev117 c, k0_dev117_lt c⟩, ⟨k0_dev118 c, k0_dev118_lt c⟩, ⟨k0_dev119 c, k0_dev119_lt c⟩, ⟨k0_dev120 c, k0_dev120_lt c⟩, ⟨k0_dev121 c, k0_dev121_lt c⟩, ⟨k0_dev122 c, k0_dev122_lt c⟩, ⟨k0_dev123 c, k0_dev123_lt c⟩, ⟨k0_dev124 c, k0_dev124_lt c⟩]

/-- The printed receivers from number 117 on are the partner across `z`, by number. -/
theorem devs117_val : ∀ c : Dev nD, ∀ t : Fin 8, (![k0_dev117 c, k0_dev118 c, k0_dev119 c, k0_dev120 c, k0_dev121 c, k0_dev122 c, k0_dev123 c, k0_dev124 c] : Fin 8 → ℕ) t = (zp c).val := by decide +kernel
/-- The printed receivers from number 117 on are the partner across `z`. -/
theorem devs117_eq (c : Dev nD) (t : Fin 8) : devs117 c t = zp c := by
  have e := devs117_val c t
  revert e; revert t
  exact eachTile (fun e => Fin.ext e) (fun e => Fin.ext e) (fun e => Fin.ext e) (fun e => Fin.ext e) (fun e => Fin.ext e) (fun e => Fin.ext e) (fun e => Fin.ext e) (fun e => Fin.ext e)

/-! ## The program at each place along `y`, with the printed views -/

/-- Signal a device on the barrier. -/
def sigAt (e : Dev nD) : Pg F := semSignalWord e barS 1#32

/-- Signal the two partners and wait on the barrier. -/
def meetAt (c : Dev nD) : Pg F := do
  sigAt ⟨k0_dev3 c, k0_dev3_lt c⟩
  sigAt ⟨k0_dev4 c, k0_dev4_lt c⟩
  semWaitWord barS (k0_amt1 c)

/-- The exchange with the partners. -/
def exchangeAt (c : Dev nD) : Pg F := do
  forTiles fun t => forwardAt (offs65 c t) (offs66 c t) (offs65_in c t) (offs66_in c t) (devs117 c t) t
  forTiles fun t => receiveAt (offs65 c t) (offs66 c t) (offs65_in c t) (offs66_in c t) t
  forTiles fun t => settleAt (offs65 c t) (offs66 c t) (offs65_in c t) (offs66_in c t) t

/-- The program at `y = 0`. -/
def prog0At (c : Dev nD) (h2 : k0_cond2 c = 1#1) (h3 : k0_cond3 c = 1#1) (h7 : k0_cond7 c = 1#1) : Pg F := do
  sigAt ⟨k0_dev2 c, k0_dev2_lt c h2⟩
  meetAt c
  forTiles fun t => sendXAt .right (offs1 c t) (offs1_in c h3 t) (devs5 c h3 t) t
  forTiles fun t => do
    endAt .left (offs9 c t) (offs9_in c h3 t) t
    pushAt (offs1 c t) (offs1_in c h3 t) (devs13 c h3 t) (devs14 c h3 t) t
  exchangeAt c
  forTiles fun t => drainXAt .right (offs81 c t) (offs81_in c h7 t) t

/-- The program at `y = 3`. -/
def prog3At (c : Dev nD) (h1 : k0_cond1 c = 1#1) (h4 : k0_cond4 c = 1#1) (h8 : k0_cond8 c = 1#1) : Pg F := do
  sigAt ⟨k0_dev1 c, k0_dev1_lt c h1⟩
  meetAt c
  forTiles fun t => sendXAt .left (offs17 c t) (offs17_in c h4 t) (devs29 c h4 t) t
  forTiles fun t => do
    endAt .right (offs25 c t) (offs25_in c h4 t) t
    pushAt (offs17 c t) (offs17_in c h4 t) (devs37 c h4 t) (devs38 c h4 t) t
  exchangeAt c
  forTiles fun t => drainXAt .left (offs89 c t) (offs89_in c h8 t) t

/-- The program at `y = 1`. -/
def prog1At (c : Dev nD) (h1 : k0_cond1 c = 1#1) (h2 : k0_cond2 c = 1#1) (h5 : k0_cond5 c = 1#1) : Pg F := do
  sigAt ⟨k0_dev1 c, k0_dev1_lt c h1⟩
  sigAt ⟨k0_dev2 c, k0_dev2_lt c h2⟩
  meetAt c
  forTiles fun t => relayAt .right (offs33 c t) (offs33_in c h5 t) (devs53 c h5 t) t
  forTiles fun t => do
    relayAt .left (offs33 c t) (offs33_in c h5 t) (devs61 c h5 t) t
    finishAt (offs33 c t) (offs33_in c h5 t) t
    pushAt (offs41 c t) (offs41_in c h5 t) (devs62 c h5 t) (devs63 c h5 t) t
  exchangeAt c
  forTiles fun t => drainMid t

/-- The program at `y = 2`. -/
def prog2At (c : Dev nD) (h1 : k0_cond1 c = 1#1) (h2 : k0_cond2 c = 1#1) (h6 : k0_cond6 c = 1#1) : Pg F := do
  sigAt ⟨k0_dev1 c, k0_dev1_lt c h1⟩
  sigAt ⟨k0_dev2 c, k0_dev2_lt c h2⟩
  meetAt c
  forTiles fun t => relayAt .left (offs49 c t) (offs49_in c h6 t) (devs85 c h6 t) t
  forTiles fun t => do
    relayAt .right (offs49 c t) (offs49_in c h6 t) (devs93 c h6 t) t
    finishAt (offs49 c t) (offs49_in c h6 t) t
    pushAt (offs57 c t) (offs57_in c h6 t) (devs94 c h6 t) (devs95 c h6 t) t
  exchangeAt c
  forTiles fun t => drainMid t

/-! ## The same with the views and devices in closed form -/

/-- Send the device's input tile to its neighbour in direction `d`. -/
def sendX (c : Dev nD) (d : Dir) (t : Fin 8) : Pg F := sendXAt d (tileOff (colq c) t) (tileIn (colq c) t) (nbr d c) t

/-- Finish a tile at the end of the chain of direction `d` and send it to the partners. -/
def endPush (c : Dev nD) (d : Dir) (t : Fin 8) : Pg F := do
  endAt d (tileOff (colq c) t) (tileIn (colq c) t) t
  pushAt (tileOff (colq c) t) (tileIn (colq c) t) (xp c) (zp c) t

/-- Relay a tile in direction `d`. -/
def relay (c : Dev nD) (d : Dir) (t : Fin 8) : Pg F := relayAt d (tileOff (colq c) t) (tileIn (colq c) t) (nbr d c) t

/-- Relay a tile in direction `d`, then finish it and send it to the partners. -/
def relayPush (c : Dev nD) (d : Dir) (t : Fin 8) : Pg F := do
  relay c d t
  finishAt (tileOff (colq c) t) (tileIn (colq c) t) t
  pushAt (tileOff (colq c) t) (tileIn (colq c) t) (xp c) (zp c) t

/-- Forward across `z` what came across `x`. -/
def forward (c : Dev nD) (t : Fin 8) : Pg F :=
  forwardAt (tileOff (colq c) t) (tileOff (colq (xp c)) t) (tileIn (colq c) t) (tileIn (colq (xp c)) t) (zp c) t

/-- Receive the two tiles that come across `z`. -/
def receive (c : Dev nD) (t : Fin 8) : Pg F :=
  receiveAt (tileOff (colq c) t) (tileOff (colq (xp c)) t) (tileIn (colq c) t) (tileIn (colq (xp c)) t) t

/-- Wait until the three copies of a tile have left. -/
def settle (c : Dev nD) (t : Fin 8) : Pg F :=
  settleAt (tileOff (colq c) t) (tileOff (colq (xp c)) t) (tileIn (colq c) t) (tileIn (colq (xp c)) t) t

/-- Wait until an input tile has left. -/
def drainX (c : Dev nD) (d : Dir) (t : Fin 8) : Pg F := drainXAt d (tileOff (colq c) t) (tileIn (colq c) t) t

/-- Signal the partners and wait on the barrier. -/
def meet (c : Dev nD) : Pg F := do
  sigAt (xp c)
  sigAt (zp c)
  semWaitWord barS (k0_amt1 c)

/-- The exchange with the partners. -/
def exchange (c : Dev nD) : Pg F := do
  forTiles (forward c)
  forTiles (receive c)
  forTiles (settle c)

/-- The program of a device at the end of its column of devices, with its one neighbour in direction `d`. -/
def edgeProg (c : Dev nD) (d : Dir) : Pg F := do
  sigAt (nbr d c)
  meet c
  forTiles (sendX c d)
  forTiles (endPush c d.op)
  exchange c
  forTiles (drainX c d)

/-- The program of a device in the middle of its column of devices, which serves the direction `d` first. -/
def midProg (c : Dev nD) (d : Dir) : Pg F := do
  sigAt (nbr .left c)
  sigAt (nbr .right c)
  meet c
  forTiles (relay c d)
  forTiles (relayPush c d.op)
  exchange c
  forTiles drainMid

section Congr

variable {off off' offx offx' : Fin 2 → ℕ} {e e' ez ez' : Dev nD}
  (ho : off = off') (hx : offx = offx') (he : e = e') (hz : ez = ez')
  (h : ∀ a, off a + S128x128.size a ≤ S1024x512.size a) (h' : ∀ a, off' a + S128x128.size a ≤ S1024x512.size a)
  (g : ∀ a, offx a + S128x128.size a ≤ S1024x512.size a) (g' : ∀ a, offx' a + S128x128.size a ≤ S1024x512.size a)

include ho he in
/-- Sending an input tile depends on the offset and the receiver only. -/
theorem sendXAt_congr (d : Dir) (t : Fin 8) : sendXAt (F := F) d off h e t = sendXAt d off' h' e' t := by
  subst ho he; rfl

include ho in
/-- The last sum at the end of a chain depends on the offset only. -/
theorem endAt_congr (d : Dir) (t : Fin 8) : endAt (F := F) d off h t = endAt d off' h' t := by
  subst ho; rfl

include ho he hz in
/-- Handing a finished tile to the partners depends on the offset and the partners only. -/
theorem pushAt_congr (t : Fin 8) : pushAt (F := F) off h e ez t = pushAt off' h' e' ez' t := by
  subst ho he hz; rfl

include ho he in
/-- Passing a partial sum on depends on the offset and the receiver only. -/
theorem relayAt_congr (d : Dir) (t : Fin 8) : relayAt (F := F) d off h e t = relayAt d off' h' e' t := by
  subst ho he; rfl

include ho in
/-- The last sum in the middle of a chain depends on the offset only. -/
theorem finishAt_congr (t : Fin 8) : finishAt (F := F) off h t = finishAt off' h' t := by
  subst ho; rfl

include ho hx he in
/-- Forwarding across `z` depends on the offsets and the receiver only. -/
theorem forwardAt_congr (t : Fin 8) : forwardAt (F := F) off offx h g e t = forwardAt off' offx' h' g' e' t := by
  subst ho hx he; rfl

include ho hx in
/-- Receiving across `z` depends on the offsets only. -/
theorem receiveAt_congr (t : Fin 8) : receiveAt (F := F) off offx h g t = receiveAt off' offx' h' g' t := by
  subst ho hx; rfl

include ho hx in
/-- Waiting for one's own copies across `x` and `z` depends on the offsets only. -/
theorem settleAt_congr (t : Fin 8) : settleAt (F := F) off offx h g t = settleAt off' offx' h' g' t := by
  subst ho hx; rfl

include ho in
/-- Waiting for the sent input tiles depends on the offset only. -/
theorem drainXAt_congr (d : Dir) (t : Fin 8) : drainXAt (F := F) d off h t = drainXAt d off' h' t := by
  subst ho; rfl

end Congr

/-- The same by number: the first signal. -/
theorem dev1_val : ∀ c : Dev nD, k0_cond1 c = 1#1 → k0_dev1 c = (nbr .left c).val := by decide +kernel
/-- The same by number: the second signal. -/
theorem dev2_val : ∀ c : Dev nD, k0_cond2 c = 1#1 → k0_dev2 c = (nbr .right c).val := by decide +kernel
/-- The same by number: the third signal. -/
theorem dev3_val : ∀ c : Dev nD, k0_dev3 c = (xp c).val := by decide +kernel
/-- The same by number: the fourth signal. -/
theorem dev4_val : ∀ c : Dev nD, k0_dev4 c = (zp c).val := by decide +kernel
/-- The first printed barrier signal goes to the left neighbour. -/
theorem dev1_eq (c : Dev nD) (h : k0_cond1 c = 1#1) : (⟨k0_dev1 c, k0_dev1_lt c h⟩ : Dev nD) = nbr .left c :=
  Fin.ext (dev1_val c h)
/-- The second printed barrier signal goes to the right neighbour. -/
theorem dev2_eq (c : Dev nD) (h : k0_cond2 c = 1#1) : (⟨k0_dev2 c, k0_dev2_lt c h⟩ : Dev nD) = nbr .right c :=
  Fin.ext (dev2_val c h)
/-- The third printed barrier signal goes to the partner across `x`. -/
theorem dev3_eq (c : Dev nD) : (⟨k0_dev3 c, k0_dev3_lt c⟩ : Dev nD) = xp c := Fin.ext (dev3_val c)
/-- The fourth printed barrier signal goes to the partner across `z`. -/
theorem dev4_eq (c : Dev nD) : (⟨k0_dev4 c, k0_dev4_lt c⟩ : Dev nD) = zp c := Fin.ext (dev4_val c)

/-- The printed barrier is the barrier. -/
theorem meetAt_eq (c : Dev nD) : meetAt (F := F) c = meet c := by
  unfold meetAt meet; rw [dev3_eq, dev4_eq]

/-- The printed exchange across `x` and `z` is the exchange. -/
theorem exchangeAt_eq (c : Dev nD) : exchangeAt (F := F) c = exchange c := by
  have e1 : (forTiles fun t => forwardAt (offs65 c t) (offs66 c t) (offs65_in c t) (offs66_in c t) (devs117 c t) t)
      = forTiles (F := F) (forward c) :=
    congrArg _ (funext fun t => forwardAt_congr (offs65_eq c t) (offs66_eq c t) (devs117_eq c t) _ _ _ _ t)
  have e2 : (forTiles fun t => receiveAt (offs65 c t) (offs66 c t) (offs65_in c t) (offs66_in c t) t)
      = forTiles (F := F) (receive c) :=
    congrArg _ (funext fun t => receiveAt_congr (offs65_eq c t) (offs66_eq c t) _ _ _ _ t)
  have e3 : (forTiles fun t => settleAt (offs65 c t) (offs66 c t) (offs65_in c t) (offs66_in c t) t)
      = forTiles (F := F) (settle c) :=
    congrArg _ (funext fun t => settleAt_congr (offs65_eq c t) (offs66_eq c t) _ _ _ _ t)
  unfold exchangeAt exchange
  rw [e1, e2, e3]

/-- The printed program at `y = 0` is the program of an end of the column. -/
theorem prog0At_eq (c : Dev nD) (h2 : k0_cond2 c = 1#1) (h3 : k0_cond3 c = 1#1) (h7 : k0_cond7 c = 1#1) :
    prog0At (F := F) c h2 h3 h7 = edgeProg c .right := by
  have e1 : (forTiles fun t => sendXAt .right (offs1 c t) (offs1_in c h3 t) (devs5 c h3 t) t) = forTiles (F := F) (sendX c .right) :=
    congrArg _ (funext fun t => sendXAt_congr (offs1_eq c t) (devs5_eq c h3 t) _ _ _ t)
  have e2 : (forTiles fun t => do
      endAt .left (offs9 c t) (offs9_in c h3 t) t
      pushAt (offs1 c t) (offs1_in c h3 t) (devs13 c h3 t) (devs14 c h3 t) t) = forTiles (F := F) (endPush c (Dir.op .right)) :=
    congrArg _ (funext fun t => congr (congrArg _ (endAt_congr (offs9_eq c t) _ _ _ t)) (funext fun _ =>
      pushAt_congr (offs1_eq c t) (devs13_eq c h3 t) (devs14_eq c h3 t) _ _ t))
  have e3 : (forTiles fun t => drainXAt .right (offs81 c t) (offs81_in c h7 t) t) = forTiles (F := F) (drainX c .right) :=
    congrArg _ (funext fun t => drainXAt_congr (offs81_eq c t) _ _ _ t)
  unfold prog0At edgeProg
  rw [dev2_eq c h2, meetAt_eq, exchangeAt_eq, e1, e2, e3]

/-- The printed program at `y = 3` is the program of the other end. -/
theorem prog3At_eq (c : Dev nD) (h1 : k0_cond1 c = 1#1) (h4 : k0_cond4 c = 1#1) (h8 : k0_cond8 c = 1#1) :
    prog3At (F := F) c h1 h4 h8 = edgeProg c .left := by
  have e1 : (forTiles fun t => sendXAt .left (offs17 c t) (offs17_in c h4 t) (devs29 c h4 t) t) = forTiles (F := F) (sendX c .left) :=
    congrArg _ (funext fun t => sendXAt_congr (offs17_eq c t) (devs29_eq c h4 t) _ _ _ t)
  have e2 : (forTiles fun t => do
      endAt .right (offs25 c t) (offs25_in c h4 t) t
      pushAt (offs17 c t) (offs17_in c h4 t) (devs37 c h4 t) (devs38 c h4 t) t) = forTiles (F := F) (endPush c (Dir.op .left)) :=
    congrArg _ (funext fun t => congr (congrArg _ (endAt_congr (offs25_eq c t) _ _ _ t)) (funext fun _ =>
      pushAt_congr (offs17_eq c t) (devs37_eq c h4 t) (devs38_eq c h4 t) _ _ t))
  have e3 : (forTiles fun t => drainXAt .left (offs89 c t) (offs89_in c h8 t) t) = forTiles (F := F) (drainX c .left) :=
    congrArg _ (funext fun t => drainXAt_congr (offs89_eq c t) _ _ _ t)
  unfold prog3At edgeProg
  rw [dev1_eq c h1, meetAt_eq, exchangeAt_eq, e1, e2, e3]

/-- The printed program at `y = 1` is the program of the inside, to the right first. -/
theorem prog1At_eq (c : Dev nD) (h1 : k0_cond1 c = 1#1) (h2 : k0_cond2 c = 1#1) (h5 : k0_cond5 c = 1#1) :
    prog1At (F := F) c h1 h2 h5 = midProg c .right := by
  have e1 : (forTiles fun t => relayAt .right (offs33 c t) (offs33_in c h5 t) (devs53 c h5 t) t) = forTiles (F := F) (relay c .right) :=
    congrArg _ (funext fun t => relayAt_congr (offs33_eq c t) (devs53_eq c h5 t) _ _ _ t)
  have e2 : (forTiles fun t => do
      relayAt .left (offs33 c t) (offs33_in c h5 t) (devs61 c h5 t) t
      finishAt (offs33 c t) (offs33_in c h5 t) t
      pushAt (offs41 c t) (offs41_in c h5 t) (devs62 c h5 t) (devs63 c h5 t) t) = forTiles (F := F) (relayPush c (Dir.op .right)) :=
    congrArg _ (funext fun t => congr (congrArg _ (relayAt_congr (offs33_eq c t) (devs61_eq c h5 t) _ _ _ t)) (funext fun _ =>
      congr (congrArg _ (finishAt_congr (offs33_eq c t) _ _ t)) (funext fun _ =>
      pushAt_congr (offs41_eq c t) (devs62_eq c h5 t) (devs63_eq c h5 t) _ _ t)))
  unfold prog1At midProg
  rw [dev1_eq c h1, dev2_eq c h2, meetAt_eq, exchangeAt_eq, e1, e2]

/-- The printed program at `y = 2` is the program of the inside, to the left first. -/
theorem prog2At_eq (c : Dev nD) (h1 : k0_cond1 c = 1#1) (h2 : k0_cond2 c = 1#1) (h6 : k0_cond6 c = 1#1) :
    prog2At (F := F) c h1 h2 h6 = midProg c .left := by
  have e1 : (forTiles fun t => relayAt .left (offs49 c t) (offs49_in c h6 t) (devs85 c h6 t) t) = forTiles (F := F) (relay c .left) :=
    congrArg _ (funext fun t => relayAt_congr (offs49_eq c t) (devs85_eq c h6 t) _ _ _ t)
  have e2 : (forTiles fun t => do
      relayAt .right (offs49 c t) (offs49_in c h6 t) (devs93 c h6 t) t
      finishAt (offs49 c t) (offs49_in c h6 t) t
      pushAt (offs57 c t) (offs57_in c h6 t) (devs94 c h6 t) (devs95 c h6 t) t) = forTiles (F := F) (relayPush c (Dir.op .left)) :=
    congrArg _ (funext fun t => congr (congrArg _ (relayAt_congr (offs49_eq c t) (devs93_eq c h6 t) _ _ _ t)) (funext fun _ =>
      congr (congrArg _ (finishAt_congr (offs49_eq c t) _ _ t)) (funext fun _ =>
      pushAt_congr (offs57_eq c t) (devs94_eq c h6 t) (devs95_eq c h6 t) _ _ t)))
  unfold prog2At midProg
  rw [dev1_eq c h1, dev2_eq c h2, meetAt_eq, exchangeAt_eq, e1, e2]

/-! ## The printed body is the program of its place -/

/-- At `y = 0`: which of the first four printed conditions hold. -/
theorem conds0a : ∀ c : Dev nD, yOf c = 0 → k0_cond1 c ≠ 1#1 ∧ k0_cond2 c = 1#1 ∧ k0_cond3 c = 1#1 ∧ k0_cond4 c ≠ 1#1 := by decide +kernel
/-- At `y = 0`: which of the other four printed conditions hold. -/
theorem conds0b : ∀ c : Dev nD, yOf c = 0 → k0_cond5 c ≠ 1#1 ∧ k0_cond6 c ≠ 1#1 ∧ k0_cond7 c = 1#1 ∧ k0_cond8 c ≠ 1#1 := by decide +kernel
/-- At `y = 1`: which of the first four printed conditions hold. -/
theorem conds1a : ∀ c : Dev nD, yOf c = 1 → k0_cond1 c = 1#1 ∧ k0_cond2 c = 1#1 ∧ k0_cond3 c ≠ 1#1 ∧ k0_cond4 c ≠ 1#1 := by decide +kernel
/-- At `y = 1`: which of the other four printed conditions hold. -/
theorem conds1b : ∀ c : Dev nD, yOf c = 1 → k0_cond5 c = 1#1 ∧ k0_cond6 c ≠ 1#1 ∧ k0_cond7 c ≠ 1#1 ∧ k0_cond8 c ≠ 1#1 := by decide +kernel
/-- At `y = 2`: which of the first four printed conditions hold. -/
theorem conds2a : ∀ c : Dev nD, yOf c = 2 → k0_cond1 c = 1#1 ∧ k0_cond2 c = 1#1 ∧ k0_cond3 c ≠ 1#1 ∧ k0_cond4 c ≠ 1#1 := by decide +kernel
/-- At `y = 2`: which of the other four printed conditions hold. -/
theorem conds2b : ∀ c : Dev nD, yOf c = 2 → k0_cond5 c ≠ 1#1 ∧ k0_cond6 c = 1#1 ∧ k0_cond7 c ≠ 1#1 ∧ k0_cond8 c ≠ 1#1 := by decide +kernel
/-- At `y = 3`: which of the first four printed conditions hold. -/
theorem conds3a : ∀ c : Dev nD, yOf c = 3 → k0_cond1 c = 1#1 ∧ k0_cond2 c ≠ 1#1 ∧ k0_cond3 c ≠ 1#1 ∧ k0_cond4 c = 1#1 := by decide +kernel
/-- At `y = 3`: which of the other four printed conditions hold. -/
theorem conds3b : ∀ c : Dev nD, yOf c = 3 → k0_cond5 c ≠ 1#1 ∧ k0_cond6 c ≠ 1#1 ∧ k0_cond7 c ≠ 1#1 ∧ k0_cond8 c = 1#1 := by decide +kernel

/-- The word of the place along `y`, as the body computes it. -/
def yWord (c : Dev nD) : BitVec 32 := Scalar.remsi (Scalar.divsi (Dev.word c) 4#32) 4#32

/-- The condition that the kernel computes for the inside of a column holds exactly at `y = 1` and `y = 2`. -/
theorem midWord : ∀ c : Dev nD, (Scalar.cmpi .ne (Scalar.extui (Scalar.andi (Scalar.cmpi .sgt (yWord c) 0#32) (Scalar.cmpi .slt (yWord c) 3#32))) 0#32 = 1#1) ↔ (yOf c = 1 ∨ yOf c = 2) := by
  decide +kernel

end Cert.AllReduce
-- ==== Proof.Match.lean ====
/-
# The printed body is the program of the device's place
-/
module

public import proofs.«01_k».proof.Proof.Program

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-- The printed body on the buffers and semaphores of the call. -/
def body : Pg F :=
  cc0_body xb (hstage0_0 0) ob (hstage0_1 0) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7
    cc0_scratch8 cc0_scratch9 cc0_scratch10 cc0_scratch11 cc0_scratch12 cc0_scratch13

/-- What a program does after it has read which device it runs on. -/
def restOf (p : Pg F) (c : Dev nD) : Pg F :=
  match p with
  | .op .deviceId k => k c
  | q => q

/-- A program that asks for the device's number goes on with that number. -/
theorem restOf_lift (k : Dev nD → Pg F) (c : Dev nD) : restOf (Prog.lift .deviceId >>= k) c = k c := rfl

/-- Whether the body finds the device in the middle of its column of devices. -/
abbrev isMid (c : Dev nD) : Prop :=
  Scalar.cmpi .ne (Scalar.extui (Scalar.andi
    (Scalar.cmpi .sgt (Scalar.remsi (Scalar.divsi (Dev.word c) 4#32) 4#32) 0#32)
    (Scalar.cmpi .slt (Scalar.remsi (Scalar.divsi (Dev.word c) 4#32) 4#32) 3#32))) 0#32 = 1#1

/-- `y = 0` is not inside the column. -/
theorem isMid0 : ∀ c : Dev nD, yOf c = 0 → ¬ isMid c := by decide +kernel

set_option maxRecDepth 65536 in
set_option maxHeartbeats 4000000 in
/-- At `y = 0` the printed body is the program of that place. -/
theorem body_rest0 (c : Dev nD) (h1 : ¬ k0_cond1 c = 1#1) (h2 : k0_cond2 c = 1#1) (h3 : k0_cond3 c = 1#1) (h4 : ¬ k0_cond4 c = 1#1) (h5 : ¬ k0_cond5 c = 1#1) (h6 : ¬ k0_cond6 c = 1#1) (h7 : k0_cond7 c = 1#1) (h8 : ¬ k0_cond8 c = 1#1)
    (h9 : ¬ isMid c) :
    restOf (F := F) body c = prog0At c h2 h3 h7 := by
  unfold body
  rw [cc0_body_eq_skeleton]
  unfold cc0_body_skel
  rw [k0_part87_eq_skeleton, k0_part88_eq_skeleton, k0_part89_eq_skeleton]
  unfold k0_part87_skel k0_part88_skel k0_part89_skel
  simp only [bind_assoc, restOf_lift, pure_bind, dif_neg h1, dif_pos h2, dif_pos h3, dif_neg h4, dif_neg h5, dif_neg h6, dif_pos h7, dif_neg h8, dif_neg h9]
  rfl

/-- `y = 1` is inside the column. -/
theorem isMid1 : ∀ c : Dev nD, yOf c = 1 → isMid c := by decide +kernel

set_option maxRecDepth 65536 in
set_option maxHeartbeats 4000000 in
/-- At `y = 1` the printed body is the program of that place. -/
theorem body_rest1 (c : Dev nD) (h1 : k0_cond1 c = 1#1) (h2 : k0_cond2 c = 1#1) (h3 : ¬ k0_cond3 c = 1#1) (h4 : ¬ k0_cond4 c = 1#1) (h5 : k0_cond5 c = 1#1) (h6 : ¬ k0_cond6 c = 1#1) (h7 : ¬ k0_cond7 c = 1#1) (h8 : ¬ k0_cond8 c = 1#1)
    (h9 : isMid c) :
    restOf (F := F) body c = prog1At c h1 h2 h5 := by
  unfold body
  rw [cc0_body_eq_skeleton]
  unfold cc0_body_skel
  rw [k0_part87_eq_skeleton, k0_part88_eq_skeleton, k0_part89_eq_skeleton]
  unfold k0_part87_skel k0_part88_skel k0_part89_skel
  simp only [bind_assoc, restOf_lift, pure_bind, dif_pos h1, dif_pos h2, dif_neg h3, dif_neg h4, dif_pos h5, dif_neg h6, dif_neg h7, dif_neg h8, dif_pos h9]
  rfl

/-- `y = 2` is inside the column. -/
theorem isMid2 : ∀ c : Dev nD, yOf c = 2 → isMid c := by decide +kernel

set_option maxRecDepth 65536 in
set_option maxHeartbeats 4000000 in
/-- At `y = 2` the printed body is the program of that place. -/
theorem body_rest2 (c : Dev nD) (h1 : k0_cond1 c = 1#1) (h2 : k0_cond2 c = 1#1) (h3 : ¬ k0_cond3 c = 1#1) (h4 : ¬ k0_cond4 c = 1#1) (h5 : ¬ k0_cond5 c = 1#1) (h6 : k0_cond6 c = 1#1) (h7 : ¬ k0_cond7 c = 1#1) (h8 : ¬ k0_cond8 c = 1#1)
    (h9 : isMid c) :
    restOf (F := F) body c = prog2At c h1 h2 h6 := by
  unfold body
  rw [cc0_body_eq_skeleton]
  unfold cc0_body_skel
  rw [k0_part87_eq_skeleton, k0_part88_eq_skeleton, k0_part89_eq_skeleton]
  unfold k0_part87_skel k0_part88_skel k0_part89_skel
  simp only [bind_assoc, restOf_lift, pure_bind, dif_pos h1, dif_pos h2, dif_neg h3, dif_neg h4, dif_neg h5, dif_pos h6, dif_neg h7, dif_neg h8, dif_pos h9]
  rfl

/-- `y = 3` is not inside the column. -/
theorem isMid3 : ∀ c : Dev nD, yOf c = 3 → ¬ isMid c := by decide +kernel

set_option maxRecDepth 65536 in
set_option maxHeartbeats 4000000 in
/-- At `y = 3` the printed body is the program of that place. -/
theorem body_rest3 (c : Dev nD) (h1 : k0_cond1 c = 1#1) (h2 : ¬ k0_cond2 c = 1#1) (h3 : ¬ k0_cond3 c = 1#1) (h4 : k0_cond4 c = 1#1) (h5 : ¬ k0_cond5 c = 1#1) (h6 : ¬ k0_cond6 c = 1#1) (h7 : ¬ k0_cond7 c = 1#1) (h8 : k0_cond8 c = 1#1)
    (h9 : ¬ isMid c) :
    restOf (F := F) body c = prog3At c h1 h4 h8 := by
  unfold body
  rw [cc0_body_eq_skeleton]
  unfold cc0_body_skel
  rw [k0_part87_eq_skeleton, k0_part88_eq_skeleton, k0_part89_eq_skeleton]
  unfold k0_part87_skel k0_part88_skel k0_part89_skel
  simp only [bind_assoc, restOf_lift, pure_bind, dif_pos h1, dif_neg h2, dif_neg h3, dif_pos h4, dif_neg h5, dif_neg h6, dif_neg h7, dif_pos h8, dif_neg h9]
  rfl

/-- The program of a device. -/
def prog (c : Dev nD) : Pg F :=
  if yOf c = 0 then edgeProg c .right
  else if yOf c = 1 then midProg c .right
  else if yOf c = 2 then midProg c .left
  else edgeProg c .left

/-- There are four places along `y`. -/
theorem yOf_lt : ∀ c : Dev nD, yOf c < 4 := by decide +kernel

/-- After reading its own name a device runs its program. -/
theorem body_rest (c : Dev nD) : restOf (F := F) body c = prog c := by
  have hy := yOf_lt c
  unfold prog
  by_cases h : yOf c = 0
  · rw [if_pos h]
    obtain ⟨h1, h2, h3, h4⟩ := conds0a c h
    obtain ⟨h5, h6, h7, h8⟩ := conds0b c h
    exact (body_rest0 c h1 h2 h3 h4 h5 h6 h7 h8 (isMid0 c h)).trans (prog0At_eq c h2 h3 h7)
  rw [if_neg h]; clear * - hy  h; rename ¬ yOf c = 0 => g0
  by_cases h : yOf c = 1
  · rw [if_pos h]
    obtain ⟨h1, h2, h3, h4⟩ := conds1a c h
    obtain ⟨h5, h6, h7, h8⟩ := conds1b c h
    exact (body_rest1 c h1 h2 h3 h4 h5 h6 h7 h8 (isMid1 c h)).trans (prog1At_eq c h1 h2 h5)
  rw [if_neg h]; clear * - hy g0 h; rename ¬ yOf c = 1 => g1
  by_cases h : yOf c = 2
  · rw [if_pos h]
    obtain ⟨h1, h2, h3, h4⟩ := conds2a c h
    obtain ⟨h5, h6, h7, h8⟩ := conds2b c h
    exact (body_rest2 c h1 h2 h3 h4 h5 h6 h7 h8 (isMid2 c h)).trans (prog2At_eq c h1 h2 h6)
  rw [if_neg h]; clear * - hy g0 g1 h; rename ¬ yOf c = 2 => g2
  have h : yOf c = 3 := by omega
  obtain ⟨h1, h2, h3, h4⟩ := conds3a c h
  obtain ⟨h5, h6, h7, h8⟩ := conds3b c h
  exact (body_rest3 c h1 h2 h3 h4 h5 h6 h7 h8 (isMid3 c h)).trans (prog3At_eq c h1 h4 h8)

set_option maxRecDepth 65536 in
/-- The printed body reads which device it runs on and then runs the program of that device. -/
theorem body_eq : body (F := F) = Prog.op .deviceId prog := by
  have h : body (F := F) = Prog.op .deviceId (restOf body) := rfl
  rw [h]
  exact congrArg _ (funext body_rest)

end Cert.AllReduce
-- ==== Proof.Protocol.lean ====
/-
# The protocol of the all-reduce

Each semaphore of a device has one round. A duty of the barrier semaphore is one unit from a neighbour or partner, which
hands over the buffers that the receiver of the signal will write on the signalling device. The one duty of a transfer
semaphore is a whole tile: a receive semaphore hands over the tile with what it holds after the copy, a send semaphore
hands the source back.

What each tile holds at each moment is a function of the input blocks: `carry d c t` is the partial sum that device `c`
sends on in direction `d`, `res c t` the finished tile.
-/
module

public import proofs.«01_k».proof.Proof.Match

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Duties and the resource algebra -/

/-- The duties of a round: the barrier units of the two neighbours and the two partners, and the one duty of a transfer. -/
inductive Duty
  | dir (d : Dir)
  | px
  | pz
  | one
deriving DecidableEq

instance : Fintype Duty :=
  ⟨{.dir .right, .dir .left, .px, .pz, .one}, by rintro (⟨⟨⟩⟩ | _ | _ | _) <;> decide⟩

abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Tiles and what they hold -/

/-- The tile `t` of the quarter `q` of a block. -/
abbrev tile (b : Memref sig .tc .vmem S1024x512 .f32) (q : Fin 4) (t : Fin 8) : Memref sig .tc .vmem S128x128 .f32 :=
  tileAt b (tileOff q t) (tileIn q t)

/-- The rectangle of the tile `t` of the quarter `q`. -/
abbrev tileRect (q : Fin 4) (t : Fin 8) : Rect S1024x512 :=
  Rect.unit (s := S1024x512) (tileOff q t) S128x128.size (tileIn q t)

/-- What a block holds on a tile. -/
def tileOf (X : S1024x512.Idx → Elt F .f32) (q : Fin 4) (t : Fin 8) : S128x128.Idx → Elt F .f32 :=
  fun j => X ((tileRect q t).emb j)

section Contents

variable (X : Dev nD → S1024x512.Idx → Elt F .f32)

/-- The device's input on its own quarter. -/
def xt (c : Dev nD) (t : Fin 8) : FVec F S128x128 .f32 := tileOf (X c) (colq c) t

/-- The partial sum over the `n` devices before `c` in direction `d`, and `c` itself. -/
def carryN (d : Dir) : ℕ → Dev nD → Fin 8 → FVec F S128x128 .f32
  | 0, c, t => xt X c t
  | n + 1, c, t => addf (carryN d n (nbr d.op c) t) (xt X c t)

/-- The partial sum that `c` sends on in direction `d`. -/
def carry (d : Dir) (c : Dev nD) (t : Fin 8) : FVec F S128x128 .f32 := carryN X d (hop d c) c t

/-- The finished tile of `c`: the sum over its column of four devices along `y`. -/
def res (c : Dev nD) (t : Fin 8) : FVec F S128x128 .f32 :=
  if hasNbr .right c then
    (if hasNbr .left c then addf (carry X .right c t) (carry X .left (nbr .right c) t)
      else addf (xt X c t) (carry X .left (nbr .right c) t))
  else addf (xt X c t) (carry X .right (nbr .left c) t)

/-- The first device of a chain starts the sum with its own tile. -/
theorem carry_first (d : Dir) (c : Dev nD) (t : Fin 8) (h : hasNbr d.op c = false) : carry X d c t = xt X c t := by
  unfold carry; rw [hop_zero d c h]; rfl

/-- A later device adds its own tile to the sum that arrived. -/
theorem carry_next (d : Dir) (c : Dev nD) (t : Fin 8) (h : hasNbr d.op c = true) :
    carry X d c t = addf (carry X d (nbr d.op c) t) (xt X c t) := by
  unfold carry; rw [hop_pos d c h]; rfl

/-! ## Resources -/

/-- Device `e` owns `m` at some contents. -/
def some' (e : Dev nD) {s : Shape} (m : Memref sig .tc .vmem s .f32) : sProp 𝕄 :=
  iprop(∃ Y : s.Idx → Elt F .f32, owns (e : Thread nD τ) m fullShare Y)

instance some'_storable (e : Dev nD) {s : Shape} (m : Memref sig .tc .vmem s .f32) :
    BI.Storable (upEmb : UEmb _ 𝕄) (some' (F := F) e m) := by unfold some'; infer_instance

/-- The tile that a device sends in direction `d`: at the start of the chain its input tile, else its partial sum. -/
def srcOf (d : Dir) (e : Dev nD) (t : Fin 8) : Memref sig .tc .vmem S128x128 .f32 :=
  if hop d e = 0 then tile xb (colq e) t else cut (stage d) t

/-- Whether a device uses the semaphores of a kind. -/
def active : Kind → Dev nD → Bool
  | .send d, e => hasNbr d e
  | .recv d, e => hasNbr d.op e
  | _, _ => true

/-- What the one duty of a transfer semaphore of device `e` hands over. -/
def pay (e : Dev nD) (k : Kind) (t : Fin 8) : sProp 𝕄 :=
  match k with
  | .send d => owns (e : Thread nD τ) (srcOf d e t) fullShare.right (carry X d e t)
  | .recv d => owns (e : Thread nD τ) (cut (comm d) t) fullShare (carry X d (nbr d.op e) t)
  | .xs => owns (e : Thread nD τ) (tile ob (colq e) t) fullShare.left (res X e t)
  | .xr => owns (e : Thread nD τ) (tile ob (colq (xp e)) t) fullShare (res X (xp e) t)
  | .zs => owns (e : Thread nD τ) (tile ob (colq e) t) fullShare.right (res X e t)
  | .zr => owns (e : Thread nD τ) (tile ob (colq (zp e)) t) fullShare (res X (zp e) t)
  | .ws => owns (e : Thread nD τ) (tile ob (colq (xp e)) t) fullShare (res X (xp e) t)
  | .wr => owns (e : Thread nD τ) (tile ob (colq (xp (zp e))) t) fullShare (res X (xp (zp e)) t)

instance pay_storable (e : Dev nD) (k : Kind) (t : Fin 8) : BI.Storable (upEmb : UEmb _ 𝕄) (pay (F := F) X e k t) := by
  unfold pay; split <;> infer_instance

/-- What a unit of the barrier semaphore of device `e` hands over: the eight tiles that `e` will write on the device that
signals. -/
def barPay (e : Dev nD) (u : Duty) : sProp 𝕄 :=
  match u with
  | .dir d => bigSep Finset.univ fun t : Fin 8 => some' (nbr d e) (cut (comm d) t)
  | .px => bigSep Finset.univ fun t : Fin 8 => some' (xp e) (tile ob (colq e) t)
  | .pz => bigSep Finset.univ fun t : Fin 8 =>
      iprop(some' (zp e) (tile ob (colq e) t) ∗ some' (zp e) (tile ob (colq (xp e)) t))
  | .one => iprop(emp)

instance barPay_storable (e : Dev nD) (u : Duty) : BI.Storable (upEmb : UEmb _ 𝕄) (barPay (F := F) e u) := by
  unfold barPay; split <;> infer_instance

end Contents

/-! ## Cells -/

/-- A semaphore of the protocol: the barrier semaphore, or a transfer semaphore by its kind and tile. -/
abbrev Cell := Option (Kind × Fin 8)

/-- Where a semaphore of the protocol lies. -/
def locOf : Cell → SemLoc sig
  | none => .reg barS
  | some (k, t) => .dma (semOf k t)

/-- The kinds in the order of their semaphores. -/
def kindAt : ℕ → Option Kind
  | 0 => some (.send .right)
  | 1 => some (.send .left)
  | 2 => some (.recv .right)
  | 3 => some (.recv .left)
  | 4 => some .xs
  | 5 => some .xr
  | 6 => some .zs
  | 7 => some .zr
  | 8 => some .ws
  | 9 => some .wr
  | _ => none

set_option backward.proofsInPublic true in
/-- Which semaphore of the protocol lies at a place. -/
def cellAt : SemLoc sig → Option Cell
  | .reg s => if s = barS then some none else none
  | .dma i => if 2 ≤ i.val then (kindAt ((i.val - 2) / 8)).map fun k => some (k, ⟨(i.val - 2) % 8, Nat.mod_lt _ (by decide)⟩)
      else none

/-- The duty cell of a transfer semaphore is that of its kind and tile. -/
theorem cellAt_dma : ∀ (k : Kind) (t : Fin 8), cellAt (.dma (semOf k t)) = some (some (k, t)) := by decide +kernel

/-- Reading the cell off a semaphore's place gives the cell back. -/
theorem cellAt_locOf (k : Cell) : cellAt (locOf k) = some k := by
  cases k with
  | none => decide +kernel
  | some kt => exact cellAt_dma kt.1 kt.2

/-- Two cells have two semaphores. -/
theorem locOf_injective : Function.Injective locOf := fun a b h => by
  have := congrArg cellAt h
  rw [cellAt_locOf, cellAt_locOf] at this
  exact Option.some.inj this

/-- A semaphore of the protocol on a device. -/
abbrev cell (e : Dev nD) (k : Cell) : GSem nD τ sig := ((e : Thread nD τ), locOf k)

/-- The transfer semaphore of a kind and a tile on a device. -/
abbrev dcell (e : Dev nD) (k : Kind) (t : Fin 8) : GSem nD τ sig := cell e (some (k, t))

/-- The barrier semaphore of a device. -/
abbrev bcell (e : Dev nD) : GSem nD τ sig := cell e none

/-- What a tile's transfer credits. -/
abbrev N : ℕ := (tile ob 0 0).view.dmaCredit
/-- A copied tile raises its semaphores by more than nothing. -/
theorem N_pos : 0 < N := View.dmaCredit_pos _ (by decide)

/-! ## The schedule -/

/-- Whether a barrier duty of a device is there: the one from a neighbour only where there is that neighbour. -/
def hasUnit (e : Dev nD) : Duty → Bool
  | .dir d => hasNbr d e
  | .px => true
  | .pz => true
  | .one => false

/-- The duties of the one round of a semaphore. -/
def dutiesAt (e : Dev nD) : Cell → Finset Duty
  | none => Finset.univ.filter fun u => hasUnit e u = true
  | some (k, _) => if active k e then {.one} else ∅

/-- What a duty hands over. -/
def payAt (X : Dev nD → S1024x512.Idx → Elt F .f32) (e : Dev nD) (u : Duty) : Cell → sProp 𝕄
  | none => barPay e u
  | some (k, t) => pay X e k t

instance payAt_storable (X : Dev nD → S1024x512.Idx → Elt F .f32) (e : Dev nD) (u : Duty) (k : Cell) :
    BI.Storable (upEmb : UEmb _ 𝕄) (payAt X e u k) := by
  cases k <;> unfold payAt <;> infer_instance

/-- The schedule: one round per semaphore. -/
def sched (X : Dev nD → S1024x512.Idx → Elt F .f32) : Rounds.Schedule (GSem nD τ sig) Duty 𝕄 where
  duties g r := if r = 0 ∧ g.1.2 = .tc then (match cellAt g.2 with | some k => dutiesAt g.1.1 k | none => ∅) else ∅
  unitless _ := False
  amount g _ _ := match cellAt g.2 with | some none => 1 | _ => N
  payload g _ u := match cellAt g.2 with | some k => payAt X g.1.1 u k | none => iprop(emp)
  amount_pos g _ _ _ := by
    split
    · exact Nat.one_pos
    · exact N_pos

instance sched_storable (X : Dev nD → S1024x512.Idx → Elt F .f32) (g : GSem nD τ sig) (r : ℕ) (u : Duty) :
    BI.Storable (upEmb : UEmb _ 𝕄) ((sched X).payload g r u) := by
  show BI.Storable upEmb (match cellAt g.2 with | some k => payAt X g.1.1 u k | none => iprop(emp))
  split <;> infer_instance

section Sched

variable (X : Dev nD → S1024x512.Idx → Elt F .f32) (e : Dev nD)

/-- The duties of a cell are those of the table. -/
theorem duties_cell (k : Cell) : (sched X).duties (cell e k) 0 = dutiesAt e k := by
  show (if 0 = 0 ∧ (Proc.tc : Proc τ) = .tc then (match cellAt (locOf k) with | some k => dutiesAt e k | none => ∅) else ∅) = _
  rw [if_pos ⟨rfl, rfl⟩, cellAt_locOf]

/-- No semaphore is raised after the first round. -/
theorem duties_later (g : GSem nD τ sig) : ∀ r, 1 ≤ r → (sched X).duties g r = ∅ :=
  fun r hr => by dsimp only [sched]; rw [if_neg fun h => by omega]

/-- What a duty hands over is what the table says. -/
theorem payload_cell (k : Cell) (u : Duty) : (sched X).payload (cell e k) 0 u = payAt X e u k := by
  show (match cellAt (locOf k) with | some k => payAt X e u k | none => iprop(emp)) = _
  rw [cellAt_locOf]

/-- A signal of the barrier counts one. -/
theorem amount_bar (u : Duty) : (sched X).amount (bcell e) 0 u = 1 := by
  show (match cellAt (locOf none) with | some none => 1 | _ => N) = 1
  rw [cellAt_locOf]

/-- A copied tile counts its size. -/
theorem amount_dma (k : Kind) (t : Fin 8) (u : Duty) : (sched X).amount (dcell e k t) 0 u = N := by
  show (match cellAt (locOf (some (k, t))) with | some none => 1 | _ => N) = N
  rw [cellAt_locOf]

/-- A transfer semaphore in use has one duty. -/
theorem duties_dma {k : Kind} (t : Fin 8) (h : active k e = true) : (sched X).duties (dcell e k t) 0 = {.one} := by
  rw [duties_cell]; exact if_pos h

/-- A transfer semaphore that is not in use has none. -/
theorem duties_idle {k : Kind} (t : Fin 8) (h : active k e = false) : (sched X).duties (dcell e k t) 0 = ∅ := by
  rw [duties_cell]; exact if_neg (by rw [h]; decide)

/-- A transfer semaphore in use is raised by one tile in all. -/
theorem expect_dma {k : Kind} (t : Fin 8) (h : active k e = true) : (sched X).expect (dcell e k t) 0 = N := by
  unfold Schedule.expect Schedule.amountOf; rw [duties_dma X e t h, Finset.sum_singleton, amount_dma]

/-- The barrier is raised once by each of the peers. -/
theorem expect_bar : (sched X).expect (bcell e) 0 = (dutiesAt e none).card := by
  unfold Schedule.expect Schedule.amountOf
  rw [duties_cell, Finset.sum_congr rfl fun u _ => amount_bar X e u, Finset.sum_const, smul_eq_mul, mul_one]

/-- Waiting for a transfer gives what the transfer hands over. -/
theorem rest_dma {k : Kind} (t : Fin 8) (h : active k e = true) :
    bigSep ((sched X).duties (dcell e k t) 0 \ ∅) (fun u => (sched X).payload (dcell e k t) 0 u) = pay X e k t := by
  rw [Finset.sdiff_empty, duties_dma X e t h, bigSep_singleton, payload_cell]
  rfl

/-- Waiting for the barrier gives what all the peers hand over. -/
theorem rest_bar : bigSep ((sched X).duties (bcell e) 0 \ ∅) (fun u => (sched X).payload (bcell e) 0 u)
    = bigSep (dutiesAt e none) fun u => barPay (F := F) e u := by
  rw [Finset.sdiff_empty, duties_cell]
  exact bigSep_congr fun u _ => payload_cell X e none u

end Sched

/-- The number that the kernel waits for at the barrier is the number of its peers. -/
theorem dutiesAt_bar : ∀ e : Dev nD, (k0_amt1 e).toInt = ((dutiesAt e none).card : ℤ) := by decide +kernel

/-- At an end of the column three peers signal. -/
theorem dutiesAt_edge : ∀ (e : Dev nD) (d : Dir), hasNbr d.op e = false →
    dutiesAt e none = {.dir d, .px, .pz} := by decide +kernel

/-- Inside the column four peers signal. -/
theorem dutiesAt_mid : ∀ e : Dev nD, hasNbr .right e = true → hasNbr .left e = true →
    dutiesAt e none = {.dir .left, .dir .right, .px, .pz} := by decide +kernel

/-! ## Levels -/

/-- The levels of the semaphores of a device: the barrier, then the receive semaphores by their place on the chain, then
the exchange across `x` and across `z`; the send semaphores lie below all. -/
def lvl (e : Dev nD) : Cell → ℕ
  | none => 1
  | some (.recv d, _) => 1 + hop d e
  | some (.xr, _) => 5
  | some (.zr, _) => 6
  | some (.wr, _) => 6
  | some _ => 0

def L (g : GSem nD τ sig) : Finset Unit := if g.1.2 = .tc then {()} else ∅
def lv (g : GSem nD τ sig) (_ : Unit) : ℕ := match cellAt g.2 with | some k => lvl g.1.1 k | none => 0

/-- No level stands at a semaphore off the tensor core. -/
theorem L_of_ne (g : GSem nD τ sig) (h : g.1.2 ≠ .tc) : L g = ∅ := if_neg h
/-- Every semaphore of the tensor core has a level. -/
theorem L_tc (c : Dev nD) (sm : SemLoc sig) : () ∈ L ((c : Thread nD τ), sm) := by
  rw [L, if_pos rfl]; exact Finset.mem_singleton_self _
/-- The level of a cell is that of the table. -/
theorem lv_cell (e : Dev nD) (k : Cell) : lv (cell e k) () = lvl e k := by
  show (match cellAt (locOf k) with | some k => lvl e k | none => 0) = _
  rw [cellAt_locOf]

/-- What is owed: a tally for every semaphore. -/
abbrev Owed := CellTallies nD τ sig Unit

/-- Everything owed lies above level `n`. -/
def Above (n : ℕ) (O : Owed) : Prop := ∀ g i, 0 < O g i → i ∈ L g ∧ n < lv g i

/-- Owing nothing is above every level. -/
theorem above_zero (n : ℕ) : Above n 0 := fun g i h => absurd h (Nat.lt_irrefl 0)

/-- Two debts above a level are so together. -/
theorem above_add {n : ℕ} {O O' : Owed} (h : Above n O) (h' : Above n O') : Above n (O + O') := fun g i hg =>
  (Pipeline.add_pos_cases hg).elim (h g i) (h' g i)

/-- A single debt is above the levels below its cell's. -/
theorem above_tally {n : ℕ} (e : Dev nD) (k : Cell) (a : ℕ) (h : n < lvl e k) : Above n (tallyAt (cell e k) () a) :=
  fun g i hg => by
    obtain ⟨rfl, rfl⟩ := Pipeline.tallyAt_pos hg
    exact ⟨L_tc e _, by rw [lv_cell]; exact h⟩

/-- A sum of debts above a level is above it. -/
theorem above_sum {n : ℕ} {T : Type} (s : Finset T) (f : T → Owed) (h : ∀ t ∈ s, Above n (f t)) : Above n (∑ t ∈ s, f t) := by
  classical
  induction s using Finset.induction_on with
  | empty => rw [Finset.sum_empty]; exact above_zero n
  | insert a s ha ih =>
    rw [Finset.sum_insert ha]
    exact above_add (h a (Finset.mem_insert_self _ _)) (ih fun t ht => h t (Finset.mem_insert_of_mem ht))

/-- A device may wait at a cell if all that it owes is above the cell's level. -/
theorem mayWait_above (c : Dev nD) (k : Cell) (O : Owed) (n : ℕ) (hk : lvl c k ≤ n) (h : Above n O) :
    (levAts L lv : sProp 𝕄) ⊢ MayWait (c : Thread nD τ) (locOf k) () O :=
  Pipeline.mayWait_of_levAts (L_tc c _) fun g i hg => ⟨(h g i hg).1, by
    have := lv_cell c k
    rw [this]; exact lt_of_le_of_lt hk (h g i hg).2⟩

/-! ## What is owed, tile by tile -/

/-- The part of an owed family that belongs to the tiles from `n` on. -/
def tl (f : Fin 8 → Owed) (n : ℕ) : Owed := ∑ t ∈ Finset.univ.filter (fun t : Fin 8 => n ≤ t.val), f t

/-- What is owed from tile `t` on is what is owed from the next one on, and tile `t`. -/
theorem tl_step (f : Fin 8 → Owed) (t : Fin 8) : tl f t.val = tl f (t.val + 1) + f t := by
  unfold tl
  have h : Finset.univ.filter (fun s : Fin 8 => t.val ≤ s.val)
      = insert t (Finset.univ.filter fun s : Fin 8 => t.val + 1 ≤ s.val) := by
    ext s; simp only [Finset.mem_filter, Finset.mem_univ, true_and, Finset.mem_insert, Fin.ext_iff]; omega
  rw [h, Finset.sum_insert (by simp), add_comm]

/-- After the last tile nothing is owed. -/
theorem tl_end (f : Fin 8 → Owed) : tl f 8 = 0 := by
  unfold tl
  rw [Finset.filter_false_of_mem (fun t _ => by have := t.isLt; omega), Finset.sum_empty]

/-- What is owed from some tile on is above a level if every tile is. -/
theorem above_tl {n : ℕ} (f : Fin 8 → Owed) (i : ℕ) (h : ∀ t, Above n (f t)) : Above n (tl f i) :=
  above_sum _ _ fun t _ => h t

/-- The credit of the copies of device `c` in direction `d`. -/
def owedDir (d : Dir) (c : Dev nD) (t : Fin 8) : Owed := tallyAt (dcell (nbr d c) (.recv d) t) () N
/-- The credit of the copies of device `c` across `x`. -/
def owedX (c : Dev nD) (t : Fin 8) : Owed := tallyAt (dcell (xp c) .xr t) () N
/-- The credit of the copies of device `c` across `z`. -/
def owedZ (c : Dev nD) (t : Fin 8) : Owed := tallyAt (dcell (zp c) .zr t) () N
/-- The credit of the forwarding copies of device `c` across `z`. -/
def owedW (c : Dev nD) (t : Fin 8) : Owed := tallyAt (dcell (zp c) .wr t) () N

/-- What a device owes for its finished tiles and the forwarding. -/
def owedOut (c : Dev nD) : Owed := tl (owedW c) 0 + tl (owedZ c) 0 + tl (owedX c) 0

/-- What a device owes for the copies in a direction. -/
def owedChain (d : Dir) (c : Dev nD) : Owed := if hasNbr d c then tl (owedDir d c) 0 else 0

/-- What a device owes for its signal in a direction. -/
def owedSig (d : Dir) (c : Dev nD) : Owed := if hasNbr d c then tallyAt (bcell (nbr d c)) () 1 else 0

/-- What a device owes at launch. -/
def O₀ (c : Dev nD) : Owed :=
  owedOut c + owedChain .right c + owedChain .left c + tallyAt (bcell (zp c)) () 1 + tallyAt (bcell (xp c)) () 1
    + owedSig .right c + owedSig .left c

/-- The level of a receive semaphore along `y` is one more than the device's place on the chain. -/
theorem lvl_recv (d : Dir) (e : Dev nD) (t : Fin 8) : lvl e (some (.recv d, t)) = 1 + hop d e := rfl

/-- What a device owes its neighbour is above the level of its own receive semaphore. -/
theorem above_dir (d : Dir) (c : Dev nD) (n : ℕ) (h : hasNbr d c = true) (hn : n ≤ 1 + hop d c) (t : Fin 8) :
    Above n (owedDir d c t) := above_tally _ _ _ (by rw [lvl_recv, hop_nbr d c h]; omega)
/-- What is owed across `x` is above the levels of the chains. -/
theorem above_X (c : Dev nD) (n : ℕ) (hn : n ≤ 4) (t : Fin 8) : Above n (owedX c t) :=
  above_tally _ _ _ (by show n < 5; omega)
/-- What is owed across `z` is above the level of the exchange across `x`. -/
theorem above_Z (c : Dev nD) (n : ℕ) (hn : n ≤ 5) (t : Fin 8) : Above n (owedZ c t) :=
  above_tally _ _ _ (by show n < 6; omega)
/-- What is owed by forwarding is above the level of the exchange across `x`. -/
theorem above_W (c : Dev nD) (n : ℕ) (hn : n ≤ 5) (t : Fin 8) : Above n (owedW c t) :=
  above_tally _ _ _ (by show n < 6; omega)
/-- All that is owed across `x` and `z` is above the levels of the chains. -/
theorem above_out (c : Dev nD) (n : ℕ) (hn : n ≤ 4) : Above n (owedOut c) :=
  above_add (above_add (above_tl _ _ fun t => above_W c n (by omega) t) (above_tl _ _ fun t => above_Z c n (by omega) t))
    (above_tl _ _ fun t => above_X c n hn t)
/-- What is owed along a chain is above the level of the device's own place. -/
theorem above_chain (d : Dir) (c : Dev nD) (n : ℕ) (hn : hasNbr d c = true → n ≤ 1 + hop d c) : Above n (owedChain d c) := by
  unfold owedChain
  split
  · next h => exact above_tl _ _ fun t => above_dir d c n h (hn h) t
  · exact above_zero n

/-- All that a device owes at the start is above the barrier. -/
theorem above_O₀ (c : Dev nD) : Above 0 (O₀ c) := by
  have hs : ∀ d, Above 0 (owedSig d c) := fun d => by
    unfold owedSig
    split
    · exact above_tally _ _ _ (by show 0 < 1; omega)
    · exact above_zero 0
  exact above_add (above_add (above_add (above_add (above_add (above_add (above_out c 0 (by omega))
    (above_chain _ c 0 fun _ => by omega)) (above_chain _ c 0 fun _ => by omega))
    (above_tally _ _ _ (by show 0 < 1; omega))) (above_tally _ _ _ (by show 0 < 1; omega))) (hs _)) (hs _)

end Cert.AllReduce
-- ==== Proof.Steps.lean ====
/-
# The rules of the single steps

What one wait, copy, load, store or signal of the program does to the resources of the protocol, and the rule for the
loop over eight tiles.
-/
module

public import proofs.«01_k».proof.Proof.Protocol

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev WP (c : Dev nD) {α : Type} (p : Prog (TpuEff nD τ sig (Elt F) Λ₀ .tc) α) (Φ : α → sProp 𝕄) : sProp 𝕄 :=
  wp frame (wpE (defs₀ (F := F)) 𝒱₀ (c : Thread nD τ) none) Set.univ p Φ

/-- What device `c` owes, whatever it has waited on. -/
def ow (c : Dev nD) (O : Owed) : sProp 𝕄 := iprop(∃ W, owes (c : Thread nD τ) O W)

/-- Device `c` stands at round `r` of a semaphore of its own. -/
abbrev stands (c : Dev nD) (k : Cell) (r : ℕ) : sProp 𝕄 := atPos ER (cell c k) r ∅ 0

/-- The right to pay a duty of a semaphore. -/
abbrev tok (e : Dev nD) (k : Cell) (u : Duty) : sProp 𝕄 := dutyTok ER (cell e k) 0 u

/-- The right to pay the one duty of a transfer semaphore. -/
abbrev tok1 (e : Dev nD) (k : Kind) (t : Fin 8) : sProp 𝕄 := tok e (some (k, t)) .one

/-- The credit to take a whole tile from a transfer semaphore of `c`. -/
abbrev crd (c : Dev nD) (k : Kind) (t : Fin 8) : sProp 𝕄 := cred (tallyAt (dcell c k t) () N)

section Rules

variable (X : Dev nD → S1024x512.Idx → Elt F .f32) (K : Dev nD × Cell → ℕ)

/-- The invariants of all semaphores of the protocol, that all stand at their round, and the levels. -/
def recs : sProp 𝕄 :=
  iprop((bigSep Finset.univ fun p : Dev nD × Cell => cellInv ER (sched X) (K p) (cell p.1 p.2))
    ∗ (bigSep Finset.univ fun p : Dev nD × Cell => reached ER (cell p.1 p.2) 0) ∗ levAts L lv)

instance recs_persistent : BI.Persistent (recs X K) := by unfold recs; infer_instance

/-- Out of the shared records, the invariant of one semaphore. -/
theorem recs_inv (e : Dev nD) (k : Cell) : recs X K ⊢ cellInv ER (sched X) (K (e, k)) (cell e k) := by
  have h : (bigSep Finset.univ fun p : Dev nD × Cell => (cellInv ER (sched X) (K p) (cell p.1 p.2) : sProp 𝕄))
      ⊢ cellInv ER (sched X) (K (e, k)) (cell e k) := bigSep_elim (Finset.mem_univ (e, k))
  unfold recs
  iintro ⟨H, -, -⟩
  iapply h; iexact H

/-- Out of the shared records, that a semaphore has reached its first round. -/
theorem recs_reached (e : Dev nD) (k : Cell) : recs X K ⊢ reached ER (cell e k) 0 := by
  have h : (bigSep Finset.univ fun p : Dev nD × Cell => (reached ER (cell p.1 p.2) 0 : sProp 𝕄))
      ⊢ reached ER (cell e k) 0 := bigSep_elim (Finset.mem_univ (e, k))
  unfold recs
  iintro ⟨-, H, -⟩
  iapply h; iexact H

/-- What device `c` may wait on while everything that it owes lies higher. -/
theorem recs_wait (c : Dev nD) (k : Cell) (n : ℕ) (O : Owed) (hk : lvl c k ≤ n) (hO : Above n O) :
    recs X K ⊢ MayWait (c : Thread nD τ) (locOf k) () O := by
  have h := mayWait_above (F := F) c k O n hk hO
  unfold recs
  iintro ⟨-, -, H⟩
  iapply h; iexact H

variable (c : Dev nD)

/-- A wait on a transfer semaphore hands over its tile. -/
theorem wp_await {k : Kind} {t : Fin 8} {src dst : Memref sig .tc .vmem S128x128 .f32} {hs : src.view.WordExact}
    {hd : dst.view.WordExact} (hN : dst.view.dmaCredit = N) (ha : active k c = true) (n : ℕ) (O : Owed)
    (hk : lvl c (some (k, t)) ≤ n) (hO : Above n O) {Φ : PUnit → sProp 𝕄} :
    iprop(recs X K ∗ stands c (some (k, t)) 0 ∗ crd c k t ∗ ow c O)
      ⊢ iprop(((stands c (some (k, t)) 1 ∗ pay X c k t ∗ ow c O) -∗ Φ ⟨⟩)
        -∗ WP c (await (semOf k t) src dst hs hd) Φ) := by
  unfold await Prog.lift ow
  iintro ⟨#HR, Hat, Hc, %W, Ho⟩ Hk
  ihave #HI := (recs_inv X K c (some (k, t))) $$ HR
  ihave HM := (recs_wait X K c (some (k, t)) n O hk hO) $$ HR
  iapply (Rounds.wp_wait_rest_token 𝒱₀ ER (sched X) (c : Thread nD τ) none (κ := K (c, some (k, t)))
      (sm := locOf (some (k, t))) (k' := N)
      (fun Q => (wpE_waitDma2_eq 𝒱₀ (c : Thread nD τ) none Set.univ Q).trans (by rw [hN]; rfl)) (Set.mem_univ _) () (O := O) (W := W) (R := 0) (m := 0) (T := ∅)
      (by rw [Nat.zero_add]; exact (expect_dma X c t ha).symm)) $$ [Hat Hc Ho HM]
  · isplitr; · iexact HI
    isplitl [Hc]; · iexact Hc
    isplitl [Ho]; · iexact Ho
    isplitl [HM]; · iexact HM
    iexact Hat
  iintro ⟨Ho, Hat, -, Hp⟩
  ihave Hp := (Entails.of_eq (rest_dma X c t ha)) $$ Hp
  rw [wp_ret]; imodintro
  iapply Hk
  isplitl [Hat]; · iexact Hat
  isplitl [Hp]; · iexact Hp
  iexists _; iexact Ho

/-- A copy to device `e` pays the duty of its send semaphore here and of its receive semaphore there. -/
theorem wp_copyTo {kS kR : Kind} {t : Fin 8} (e : Dev nD) {src dst : Memref sig .tc .vmem S128x128 .f32}
    {hs : src.view.WordExact} {hd : dst.view.WordExact} (hN : dst.view.dmaCredit = N)
    (haS : active kS c = true) (haR : active kR e = true) (q : PosShare TreeShare) (Y : S128x128.Idx → Elt F .f32)
    (O : Owed) (hpS : owns (c : Thread nD τ) src q Y ⊢ pay X c kS t)
    (hpR : owns (e : Thread nD τ) dst fullShare Y ⊢ pay X e kR t) {Φ : PUnit → sProp 𝕄} :
    iprop(recs X K ∗ owns (c : Thread nD τ) src q Y ∗ some' e dst ∗ ow c (O + tallyAt (dcell e kR t) () N)
        ∗ tok1 c kS t ∗ tok1 e kR t)
      ⊢ iprop(((crd c kS t ∗ ow c O) -∗ Φ ⟨⟩)
        -∗ WP c (copyTo (semOf kS t) (semOf kR t) e src dst hs hd) Φ) := by
  unfold copyTo Prog.lift ow some' owns
  iintro ⟨#HR, ⟨%fs, %hfs, Hs⟩, ⟨%Z, %fd, %hfd, Hd⟩, ⟨%W, Ho⟩, HtS, HtR⟩ Hk
  ihave #HIS := (recs_inv X K c (some (kS, t))) $$ HR
  ihave #HIR := (recs_inv X K e (some (kR, t))) $$ HR
  ihave #HrS := (recs_reached X K c (some (kS, t))) $$ HR
  ihave #HrR := (recs_reached X K e (some (kR, t))) $$ HR
  iapply (Rounds.wp_send_pointsTo 𝒱₀ ER (sched X) (c : Thread nD τ) none (κ₁ := K (c, some (kS, t)))
      (κ₂ := K (e, some (kR, t))) (r₁ := 0) (r₂ := 0) (d₁ := Duty.one) (d₂ := Duty.one) (fs := fs) (fd := fd)
      (by rw [duties_dma X c t haS]; exact Finset.mem_singleton_self _)
      (by rw [duties_dma X e t haR]; exact Finset.mem_singleton_self _)
      () () N (show dst.view.amount (SemLoc.dma (semOf kR t)) = N from hN) (amount_dma X c kS t .one) (amount_dma X e kR t .one) O rfl (W := W)
      (by
        rw [payload_cell X c (some (kS, t)) .one]
        refine BIBase.Entails.trans ?_ hpS
        rw [← hfs]; exact owns_intro (c : Thread nD τ) src q fs)
      (by
        rw [payload_cell X e (some (kR, t)) .one]
        refine BIBase.Entails.trans ?_ hpR
        refine (owns_intro (e : Thread nD τ) dst fullShare _).trans (Entails.of_eq ?_)
        rw [View.read_write_univ, hfs])) $$ [Hs Hd Ho HtS HtR]
  · isplitr; · iexact HIS
    isplitr; · iexact HIR
    isplitl [Hs]; · iexact Hs
    isplitl [Hd]; · iexact Hd
    isplitl [Ho]; · iexact Ho
    isplitl [HtS]; · iexact HtS
    isplitr; · iexact HrS
    isplitl [HtR]; · iexact HtR
    iexact HrR
  iintro ⟨Hc, Ho⟩
  rw [wp_ret]; imodintro
  iapply Hk
  isplitl [Hc]; · iexact Hc
  iexists _; iexact Ho

/-- A signal to the barrier semaphore of device `e` pays one of its duties. -/
theorem wp_sigAt (e : Dev nD) (u : Duty) (hu : hasUnit e u = true) (O : Owed) {Φ : PUnit → sProp 𝕄} :
    iprop(recs X K ∗ ow c (O + tallyAt (bcell e) () 1) ∗ tok e none u ∗ barPay e u)
      ⊢ iprop((ow c O -∗ Φ ⟨⟩) -∗ WP c (sigAt e) Φ) := by
  unfold sigAt semSignalWord ow
  iintro ⟨#HR, ⟨%W, Ho⟩, Ht, Hp⟩ Hk
  ihave #HI := (recs_inv X K e none) $$ HR
  ihave #Hr := (recs_reached X K e none) $$ HR
  iapply (Rounds.wp_signal 𝒱₀ ER (sched X) (c : Thread nD τ) none (dst := (e : Thread nD τ)) (κ := K (e, none))
      (d := u) (by
        rw [show (((e : Thread nD τ), SemLoc.reg barS) : GSem nD τ sig) = bcell e from rfl, duties_cell]
        exact Finset.mem_filter.mpr ⟨Finset.mem_univ _, hu⟩)
      ((amount_bar X e u).trans (by decide)) () O rfl) $$ [Ho Ht Hp]
  · isplitr; · iexact HI
    isplitl [Ho]; · iexact Ho
    isplitl [Ht]; · iexact Ht
    isplitl [Hp]
    · rw [show (sched X).payload ((e : Thread nD τ), SemLoc.reg barS) 0 u = barPay e u from payload_cell X e none u]
      iexact Hp
    iexact Hr
  iintro Ho
  rw [wp_ret]; imodintro
  iapply Hk
  iexists _; iexact Ho

/-- The wait on the barrier hands over what all its duties carry. -/
theorem wp_barrier (O : Owed) (hO : Above 1 O) {Φ : PUnit → sProp 𝕄} :
    iprop(recs X K ∗ stands c none 0 ∗ cred (tallyAt (bcell c) () (dutiesAt c none).card) ∗ ow c O)
      ⊢ iprop(((stands c none 1 ∗ (bigSep (dutiesAt c none) fun u => barPay c u) ∗ ow c O) -∗ Φ ⟨⟩)
        -∗ WP c (semWaitWord barS (k0_amt1 c)) Φ) := by
  unfold semWaitWord ow
  rw [dutiesAt_bar]
  iintro ⟨#HR, Hat, Hc, %W, Ho⟩ Hk
  ihave #HI := (recs_inv X K c none) $$ HR
  ihave HM := (recs_wait X K c none 1 O le_rfl hO) $$ HR
  iapply (Rounds.wp_wait_rest_token 𝒱₀ ER (sched X) (c : Thread nD τ) none (κ := K (c, none))
      (sm := locOf none) (k' := (dutiesAt c none).card)
      (wpE_semWait_eq 𝒱₀ (c : Thread nD τ) none Set.univ) (Set.mem_univ _) () (O := O) (W := W) (R := 0) (m := 0) (T := ∅)
      (by rw [Nat.zero_add]; exact (expect_bar X c).symm)) $$ [Hat Hc Ho HM]
  · isplitr; · iexact HI
    isplitl [Hc]; · iexact Hc
    isplitl [Ho]; · iexact Ho
    isplitl [HM]; · iexact HM
    iexact Hat
  iintro ⟨Ho, Hat, -, Hp⟩
  ihave Hp := (Entails.of_eq (rest_bar X c)) $$ Hp
  rw [wp_ret]; imodintro
  iapply Hk
  isplitl [Hat]; · iexact Hat
  isplitl [Hp]; · iexact Hp
  iexists _; iexact Ho

/-! ## Loads and stores -/

/-- Loading a tile of a block. -/
theorem wp_loadTile {b : Memref sig .tc .vmem S1024x512 .f32} {off : Fin 2 → ℕ}
    {h : ∀ a, off a + S128x128.size a ≤ S1024x512.size a} {q : PosShare TreeShare} (Y : S128x128.Idx → Elt F .f32)
    {Φ : Vec F S128x128 .f32 → sProp 𝕄} :
    owns (c : Thread nD τ) (tileAt b off h) q Y
      ⊢ iprop((owns (c : Thread nD τ) (tileAt b off h) q Y -∗ Φ Y) -∗ WP c (loadTile b off h) Φ) := by
  unfold loadTile Prog.lift owns
  iintro ⟨%f, %hf, H⟩ Hk
  iapply (wp_load_rect 𝒱₀ (c : Thread nD τ) none Set.univ (m := b)
    (r := Rect.unit (s := S1024x512) off S128x128.size h) (f := f) (Finset.Subset.refl _)) $$ H
  iintro H
  rw [wp_ret]; imodintro
  have hY : (b.access (Rect.unit (s := S1024x512) off S128x128.size h)).read (Elt F) f = Y := hf
  rw [hY]
  iapply Hk
  iexists f; isplitr; · ipureintro; exact hf
  iexact H

/-- Storing a tile of a block. -/
theorem wp_storeTile {b : Memref sig .tc .vmem S1024x512 .f32} {off : Fin 2 → ℕ}
    {h : ∀ a, off a + S128x128.size a ≤ S1024x512.size a} (Y Z : S128x128.Idx → Elt F .f32)
    {Φ : PUnit → sProp 𝕄} :
    owns (c : Thread nD τ) (tileAt b off h) fullShare Y
      ⊢ iprop((owns (c : Thread nD τ) (tileAt b off h) fullShare Z -∗ Φ ⟨⟩) -∗ WP c (storeTile b off h Z) Φ) := by
  unfold storeTile Prog.lift owns
  iintro ⟨%f, %hf, H⟩ Hk
  iapply (wp_store 𝒱₀ (c : Thread nD τ) none Set.univ (m := b)
    (r := Rect.unit (s := S1024x512) off S128x128.size h) (w := Z) (Mk := Finset.univ) (f := f) (S := (tileAt b off h).view.set)
    (Finset.Subset.refl _)) $$ H
  iintro H
  rw [wp_ret]; imodintro
  iapply Hk
  iexists _; isplitr
  · ipureintro
    exact View.read_write_univ (v := b.access (Rect.unit (s := S1024x512) off S128x128.size h)) f Z
  iexact H

/-- The window of a scratch buffer that the tile `t` fills. -/
abbrev cutRect (t : Fin 8) : Rect S8x128x128 := Rect.unit (s := S8x128x128) ![t.val, 0, 0] S1x128x128.size (cutIn t)

/-- Loading a tile of a scratch buffer. -/
theorem wp_loadCut {b : Memref sig .tc .vmem S8x128x128 .f32} {t : Fin 8} {q : PosShare TreeShare}
    (Y : S128x128.Idx → Elt F .f32) {Φ : Vec F S1x128x128 .f32 → sProp 𝕄} :
    owns (c : Thread nD τ) (cut b t) q Y
      ⊢ iprop((∀ v, ⌜shapeCast S128x128 v shapeCasts_S1x128x128_S128x128 = Y⌝ -∗ owns (c : Thread nD τ) (cut b t) q Y -∗ Φ v)
        -∗ WP c (loadCut b t) Φ) := by
  unfold loadCut Prog.lift owns
  iintro ⟨%f, %hf, H⟩ Hk
  iapply (wp_load_rect 𝒱₀ (c : Thread nD τ) none Set.univ (m := b)
    (r := cutRect t) (f := f) (S := (cut b t).view.set) (by rw [View.set_reshape])) $$ H
  iintro H
  rw [wp_ret]; imodintro
  iapply Hk $$ [] [H]
  · ipureintro; exact hf
  iexists f; isplitr; · ipureintro; exact hf
  iexact H

/-- Storing a tile of a scratch buffer. -/
theorem wp_storeCut {b : Memref sig .tc .vmem S8x128x128 .f32} {t : Fin 8} (Y Z : S128x128.Idx → Elt F .f32)
    {Φ : PUnit → sProp 𝕄} :
    owns (c : Thread nD τ) (cut b t) fullShare Y
      ⊢ iprop((owns (c : Thread nD τ) (cut b t) fullShare Z -∗ Φ ⟨⟩)
        -∗ WP c (storeCut b t (shapeCast S1x128x128 Z shapeCasts_S128x128_S1x128x128)) Φ) := by
  unfold storeCut Prog.lift owns
  iintro ⟨%f, %hf, H⟩ Hk
  iapply (wp_store 𝒱₀ (c : Thread nD τ) none Set.univ (m := b)
    (r := cutRect t) (f := f) (S := (cut b t).view.set) (by rw [View.set_reshape]; exact Finset.Subset.refl _)) $$ H
  iintro H
  rw [wp_ret]; imodintro
  iapply Hk
  iexists _; isplitr
  · ipureintro
    funext x
    have := congrFun (View.read_write_univ (v := b.access (cutRect t)) (Val := Elt F) f
      (shapeCast S1x128x128 Z shapeCasts_S128x128_S1x128x128)) (Shape.reshapeEquiv squeezes_S1x128x128_S128x128.numel_eq x)
    refine Eq.trans this ?_
    unfold shapeCast
    rw [Shape.reshapeEquiv_reshapeEquiv]
    exact congrArg Z (Shape.reshapeEquiv_self _ x)
  iexact H

/-! ## The loop -/

/-- Eight resources, one by one. -/
theorem tiles8 (A : Fin 8 → sProp 𝕄) :
    bigSep Finset.univ A = iprop(A 0 ∗ A 1 ∗ A 2 ∗ A 3 ∗ A 4 ∗ A 5 ∗ A 6 ∗ A 7) :=
  (bigSep_univ_eq_bigSepL [0, 1, 2, 3, 4, 5, 6, 7] (by decide) (by decide) A).trans (by
    simp only [bigSepL_cons, bigSepL_nil]
    rw [sep_emp_eq]; rfl)

/-- The loop over eight tiles: each turn turns one `A t` into one `B t` and moves the state on. -/
theorem wp_forTiles (f : Fin 8 → Pg F) (P : ℕ → sProp 𝕄) (A B : Fin 8 → sProp 𝕄)
    (h : ∀ t : Fin 8, iprop(P t.val ∗ A t) ⊢ WP c (f t) (fun _ => iprop(P (t.val + 1) ∗ B t))) {Φ : PUnit → sProp 𝕄} :
    iprop(P 0 ∗ bigSep Finset.univ A)
      ⊢ iprop(((P 8 ∗ bigSep Finset.univ B) -∗ Φ ⟨⟩) -∗ WP c (forTiles f) Φ) := by
  have step : ∀ (t : Fin 8) (n m : ℕ) (hn : t.val = n) (hm : t.val + 1 = m) (Ψ : PUnit → sProp 𝕄),
      iprop(P n ∗ A t) ⊢ iprop(((P m ∗ B t) -∗ Ψ ⟨⟩) -∗ WP c (f t) Ψ) := fun t n m hn hm Ψ => by
    subst hn; subst hm
    iintro H Hk
    ihave H' := (h t) $$ H
    iapply (wp_wand frame _ Set.univ (p := f t)) $$ H'
    iintro %a H
    iapply Hk; iexact H
  unfold forTiles
  rw [tiles8 A, tiles8 B]
  simp only [wp_bind]
  iintro ⟨HP, A0, A1, A2, A3, A4, A5, A6, A7⟩ Hk
  iapply (step 0 0 1 rfl rfl _) $$ [HP A0]; · isplitl [HP] <;> iassumption
  iintro ⟨HP, B0⟩
  iapply (step 1 1 2 rfl rfl _) $$ [HP A1]; · isplitl [HP] <;> iassumption
  iintro ⟨HP, B1⟩
  iapply (step 2 2 3 rfl rfl _) $$ [HP A2]; · isplitl [HP] <;> iassumption
  iintro ⟨HP, B2⟩
  iapply (step 3 3 4 rfl rfl _) $$ [HP A3]; · isplitl [HP] <;> iassumption
  iintro ⟨HP, B3⟩
  iapply (step 4 4 5 rfl rfl _) $$ [HP A4]; · isplitl [HP] <;> iassumption
  iintro ⟨HP, B4⟩
  iapply (step 5 5 6 rfl rfl _) $$ [HP A5]; · isplitl [HP] <;> iassumption
  iintro ⟨HP, B5⟩
  iapply (step 6 6 7 rfl rfl _) $$ [HP A6]; · isplitl [HP] <;> iassumption
  iintro ⟨HP, B6⟩
  iapply (step 7 7 8 rfl rfl _) $$ [HP A7]; · isplitl [HP] <;> iassumption
  iintro ⟨HP, B7⟩
  iapply Hk
  isplitl [HP]; · iexact HP
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

end Rules

end Cert.AllReduce
-- ==== Proof.Frags.lean ====
/-
# The turns of the loops

For each turn of a loop of the program: what it takes and what it leaves.
-/
module

public import proofs.«01_k».proof.Proof.Steps
public import Idealize.ShloMosaic.Lib.MemrefSat

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device `e` owns `m` at share `q` with contents `Y`. -/
abbrev own (e : Dev nD) {s : Shape} (m : Memref sig .tc .vmem s .f32) (q : PosShare TreeShare) (Y : s.Idx → Elt F .f32) :
    sProp 𝕄 := owns (e : Thread nD τ) m q Y

/-! ## Values -/

/-- Reshaping a tile to its own shape changes nothing. -/
theorem shapeCast_same (x : Vec F S128x128 .f32) : shapeCast S128x128 x shapeCasts_S128x128_S128x128 = x :=
  funext fun j => congrArg x (Shape.reshapeEquiv_self _ j)

section Values

variable (X : Dev nD → S1024x512.Idx → Elt F .f32) (c : Dev nD) (t : Fin 8)

/-- The sum at the end of the chain of direction `d` is the finished tile. -/
theorem sumEnd_res (d : Dir) (h : hasNbr d c = false) (h' : hasNbr d.op c = true) (v : Vec F S1x128x128 .f32)
    (hv : shapeCast S128x128 v shapeCasts_S1x128x128_S128x128 = carry X d (nbr d.op c) t) :
    sumEnd (xt X c t) v = res X c t := by
  unfold sumEnd
  rw [hv, shapeCast_same]
  unfold res
  cases d with
  | right => rw [if_neg (by rw [h]; decide)]; rfl
  | left =>
    have h'' : hasNbr .right c = true := h'
    rw [if_pos h'', if_neg (by rw [h]; decide)]; rfl

/-- The sum in the middle of a chain is the finished tile. -/
theorem sumMid_res (h : hasNbr .right c = true) (h' : hasNbr .left c = true) (s v : Vec F S1x128x128 .f32)
    (hs : shapeCast S128x128 s shapeCasts_S1x128x128_S128x128 = carry X .right c t)
    (hv : shapeCast S128x128 v shapeCasts_S1x128x128_S128x128 = carry X .left (nbr .right c) t) :
    sumMid s v = res X c t := by
  unfold sumMid
  rw [hs, hv]
  unfold res
  rw [if_pos h, if_pos h']

/-- The relayed sum is the partial sum that travels on. -/
theorem sumOn_carry (d : Dir) (h : hasNbr d.op c = true) (v : Vec F S1x128x128 .f32)
    (hv : shapeCast S128x128 v shapeCasts_S1x128x128_S128x128 = carry X d (nbr d.op c) t) :
    sumOn v (xt X c t) = shapeCast S1x128x128 (carry X d c t) shapeCasts_S128x128_S1x128x128 := by
  unfold sumOn
  rw [hv, shapeCast_same, ← carry_next X d c t h]

end Values

/-- A tile of a block counts the size of a tile. -/
theorem tile_credit (b : Memref sig .tc .vmem S1024x512 .f32) (off : Fin 2 → ℕ)
    (h : ∀ a, off a + S128x128.size a ≤ S1024x512.size a) : (tileAt b off h).view.dmaCredit = N := rfl

/-- A tile of a scratch buffer counts the size of a tile. -/
theorem cut_credit (b : Memref sig .tc .vmem S8x128x128 .f32) (t : Fin 8) : (cut b t).view.dmaCredit = N := rfl

/-- Holding a buffer with some contents, name the contents. -/
theorem some_open (e : Dev nD) {s : Shape} (m : Memref sig .tc .vmem s .f32) :
    some' (F := F) e m ⊢ iprop(∃ Y : s.Idx → Elt F .f32, own e m fullShare Y) := .rfl

/-- A device stands at most three places down a chain. -/
theorem hop_le : ∀ (d : Dir) (c : Dev nD), hop d c ≤ 3 := by decide +kernel

/-- The second of three summands taken out. -/
theorem owed_swap (A B C b : Owed) : A + (B + b) + C = A + B + C + b := by rw [← add_assoc, add_right_comm]

/-- The sender at the start of a chain gets its input tile back. -/
theorem pay_send_first (X : Dev nD → S1024x512.Idx → Elt F .f32) (c : Dev nD) (d : Dir) (t : Fin 8)
    (h : hasNbr d.op c = false) :
    pay X c (.send d) t = own c (tile xb (colq c) t) fullShare.right (xt X c t) := by
  show own c (srcOf d c t) fullShare.right (carry X d c t) = _
  unfold srcOf
  rw [if_pos (hop_zero d c h), carry_first X d c t h]

/-- A sender further on gets its partial sum back. -/
theorem pay_send_next (X : Dev nD → S1024x512.Idx → Elt F .f32) (c : Dev nD) (d : Dir) (t : Fin 8)
    (h : hasNbr d.op c = true) :
    pay X c (.send d) t = own c (cut (stage d) t) fullShare.right (carry X d c t) := by
  show own c (srcOf d c t) fullShare.right (carry X d c t) = _
  unfold srcOf
  rw [if_neg (hop_ne_zero d c h)]

section Frags

variable (X : Dev nD → S1024x512.Idx → Elt F .f32) (K : Dev nD × Cell → ℕ) (c : Dev nD)

/-- Device `c` owns its input tile. -/
abbrev xbAt (q : PosShare TreeShare) (t : Fin 8) : sProp 𝕄 := own c (tile xb (colq c) t) q (xt X c t)

/-- The state of a loop: the records and what is owed. -/
abbrev st (O : Owed) : sProp 𝕄 := iprop(recs X K ∗ ow c O)

/-! ### Sending input tiles -/

def sendA (d : Dir) (t : Fin 8) : sProp 𝕄 :=
  iprop(xbAt X c fullShare.right t ∗ some' (nbr d c) (cut (comm d) t) ∗ tok1 c (.send d) t ∗ tok1 (nbr d c) (.recv d) t)

/-- One tile of the input is sent along `y`. -/
theorem sendX_step (d : Dir) (h : hasNbr d c = true) (h' : hasNbr d.op c = false) (t : Fin 8) :
    iprop(st X K c (owedOut c + tl (owedDir d c) t.val) ∗ sendA X c d t)
      ⊢ WP c (sendX c d t) (fun _ => iprop(st X K c (owedOut c + tl (owedDir d c) (t.val + 1)) ∗ crd c (.send d) t)) := by
  unfold sendX sendXAt sendA
  rw [tl_step (owedDir d c) t, ← add_assoc]
  iintro ⟨⟨#HR, Ho⟩, Hx, Hd, HtS, HtR⟩
  iapply (wp_copyTo X K c (kS := .send d) (kR := .recv d) (nbr d c) (cut_credit _ _) h (by
      show hasNbr d.op (nbr d c) = true
      rw [hasNbr_nbr]; exact h) fullShare.right (xt X c t)
      (owedOut c + tl (owedDir d c) (t.val + 1))
      (Entails.of_eq (pay_send_first X c d t h').symm)
      (by
        show _ ⊢ own (nbr d c) (cut (comm d) t) fullShare (carry X d (nbr d.op (nbr d c)) t)
        rw [nbr_op_nbr, carry_first X d c t h'])) $$ [Hx Hd Ho HtS HtR]
  · isplitr; · iexact HR
    isplitl [Hx]; · iexact Hx
    isplitl [Hd]; · iexact Hd
    isplitl [Ho]; · iexact Ho
    isplitl [HtS] <;> iassumption
  iintro ⟨Hc, Ho⟩
  isplitl [Ho]
  · isplitr; · iexact HR
    iexact Ho
  iexact Hc

/-! ### Pushing a finished tile to the partners -/

def pushA (t : Fin 8) : sProp 𝕄 :=
  iprop(some' (xp c) (tile ob (colq c) t) ∗ some' (zp c) (tile ob (colq c) t) ∗ tok1 c .xs t ∗ tok1 (xp c) .xr t
    ∗ tok1 c .zs t ∗ tok1 (zp c) .zr t)

/-- One finished tile is handed to both partners. -/
theorem push_step (t : Fin 8) (O : Owed) {Φ : PUnit → sProp 𝕄} :
    iprop(recs X K ∗ ow c (O + owedZ c t + owedX c t) ∗ own c (tile ob (colq c) t) fullShare (res X c t)
        ∗ pushA c t)
      ⊢ iprop(((ow c O ∗ crd c .xs t ∗ crd c .zs t) -∗ Φ ⟨⟩)
        -∗ WP c (pushAt (tileOff (colq c) t) (tileIn (colq c) t) (xp c) (zp c) t) Φ) := by
  unfold pushAt pushA
  simp only [wp_bind]
  iintro ⟨#HR, Ho, Hob, Hx, Hz, T1, T2, T3, T4⟩ Hk
  ihave Hob := (owns_halves (c : Thread nD τ) (tile ob (colq c) t) fullShare (res X c t)).1 $$ Hob
  icases Hob with ⟨Hl, Hr⟩
  iapply (wp_copyTo X K c (kS := .xs) (kR := .xr) (xp c) (tile_credit _ _ _) rfl rfl fullShare.left (res X c t)
      (O + owedZ c t) .rfl (by
        show _ ⊢ own (xp c) (tile ob (colq (xp (xp c))) t) fullShare (res X (xp (xp c)) t)
        rw [xp_xp])) $$ [Hl Hx Ho T1 T2]
  · isplitr; · iexact HR
    isplitl [Hl]; · iexact Hl
    isplitl [Hx]; · iexact Hx
    isplitl [Ho]; · iexact Ho
    isplitl [T1] <;> iassumption
  iintro ⟨C1, Ho⟩
  iapply (wp_copyTo X K c (kS := .zs) (kR := .zr) (zp c) (tile_credit _ _ _) rfl rfl fullShare.right (res X c t)
      O .rfl (by
        show _ ⊢ own (zp c) (tile ob (colq (zp (zp c))) t) fullShare (res X (zp (zp c)) t)
        rw [zp_zp])) $$ [Hr Hz Ho T3 T4]
  · isplitr; · iexact HR
    isplitl [Hr]; · iexact Hr
    isplitl [Hz]; · iexact Hz
    isplitl [Ho]; · iexact Ho
    isplitl [T3] <;> iassumption
  iintro ⟨C2, Ho⟩
  iapply Hk
  isplitl [Ho]; · iexact Ho
  isplitl [C1] <;> iassumption

/-! ### Finishing at the end of a chain -/

def endA (d : Dir) (t : Fin 8) : sProp 𝕄 :=
  iprop(stands c (some (.recv d, t)) 0 ∗ crd c (.recv d) t ∗ xbAt X c fullShare.left t ∗ some' c (tile ob (colq c) t)
    ∗ pushA c t)

def endB (d : Dir) (t : Fin 8) : sProp 𝕄 :=
  iprop(stands c (some (.recv d, t)) 1 ∗ xbAt X c fullShare.left t ∗ some' c (cut (comm d) t) ∗ crd c .xs t ∗ crd c .zs t)

/-- What is owed for finished tiles from tile `n` on. -/
abbrev owedPush (n : ℕ) : Owed := tl (owedW c) 0 + tl (owedZ c) n + tl (owedX c) n

/-- What is owed to the partners from tile `t` on is tile `t` and the rest. -/
theorem owedPush_step (t : Fin 8) : owedPush c t.val = owedPush c (t.val + 1) + owedZ c t + owedX c t := by
  unfold owedPush
  rw [tl_step (owedZ c) t, tl_step (owedX c) t, ← add_assoc, owed_swap]

/-- What is owed to the partners is above the levels of the chains. -/
theorem above_push (n : ℕ) : Above 4 (owedPush c n) :=
  above_add (above_add (above_tl _ _ fun t => above_W c 4 (by omega) t) (above_tl _ _ fun t => above_Z c 4 (by omega) t))
    (above_tl _ _ fun t => above_X c 4 le_rfl t)

/-- At the end of a chain one tile is received, finished and handed on. -/
theorem endPush_step (d : Dir) (h : hasNbr d c = false) (h' : hasNbr d.op c = true) (t : Fin 8) :
    iprop(st X K c (owedPush c t.val) ∗ endA X c d t)
      ⊢ WP c (endPush c d t) (fun _ => iprop(st X K c (owedPush c (t.val + 1)) ∗ endB X c d t)) := by
  unfold endPush endAt endA endB
  simp only [wp_bind]
  iintro ⟨⟨#HR, Ho⟩, Hat, Hc, Hx, Hob, Hp⟩
  ihave Hob := (some_open _ _) $$ Hob
  icases Hob with ⟨%Y, Hob⟩
  iapply (wp_await X K c (k := .recv d) (cut_credit _ _) h' 4 (owedPush c t.val)
    (by rw [lvl_recv]; have := hop_le d c; omega) (above_push c t.val)) $$ [Hat Hc Ho]
  · isplitr; · iexact HR
    isplitl [Hat]; · iexact Hat
    isplitl [Hc] <;> iassumption
  iintro ⟨Hat, Hv, Ho⟩
  unfold pay
  iapply (wp_loadTile c (xt X c t)) $$ Hx
  iintro Hx
  iapply (wp_loadCut c (carry X d (nbr d.op c) t)) $$ Hv
  iintro %v %hv Hv
  iapply (wp_loadTile c Y) $$ Hob
  iintro Hob
  rw [sumEnd_res X c t d h h' v hv]
  iapply (wp_storeTile c Y (res X c t)) $$ Hob
  iintro Hob
  rw [owedPush_step c t]
  iapply (push_step X K c t (owedPush c (t.val + 1))) $$ [Ho Hob Hp]
  · isplitr; · iexact HR
    isplitl [Ho]; · iexact Ho
    isplitl [Hob] <;> iassumption
  iintro ⟨Ho, C1, C2⟩
  isplitl [Ho]
  · isplitr; · iexact HR
    iexact Ho
  isplitl [Hat]; · iexact Hat
  isplitl [Hx]; · iexact Hx
  isplitl [Hv]; · unfold some'; iexists _; iexact Hv
  isplitl [C1] <;> iassumption

/-! ### Relaying in the middle of a chain -/

def relayA (d : Dir) (t : Fin 8) : sProp 𝕄 :=
  iprop(stands c (some (.recv d, t)) 0 ∗ crd c (.recv d) t ∗ some' c (cut (stage d) t) ∗ some' (nbr d c) (cut (comm d) t)
    ∗ tok1 c (.send d) t ∗ tok1 (nbr d c) (.recv d) t)

def relayB (d : Dir) (t : Fin 8) : sProp 𝕄 :=
  iprop(stands c (some (.recv d, t)) 1 ∗ own c (cut (comm d) t) fullShare (carry X d (nbr d.op c) t)
    ∗ own c (cut (stage d) t) fullShare.left (carry X d c t) ∗ crd c (.send d) t)

/-- One tile is received, added to and passed on. -/
theorem relay_step (d : Dir) (h : hasNbr d c = true) (h' : hasNbr d.op c = true) (t : Fin 8) (O : Owed)
    (hO : Above (1 + hop d c) O) {Φ : PUnit → sProp 𝕄} :
    iprop(recs X K ∗ ow c (O + owedDir d c t) ∗ xbAt X c fullShare t ∗ relayA c d t)
      ⊢ iprop(((ow c O ∗ xbAt X c fullShare t ∗ relayB X c d t) -∗ Φ ⟨⟩) -∗ WP c (relay c d t) Φ) := by
  unfold relay relayAt relayA relayB
  simp only [wp_bind]
  iintro ⟨#HR, Ho, Hx, Hat, Hc, Hs, Hd, T1, T2⟩ Hk
  ihave Hs := (some_open _ _) $$ Hs
  icases Hs with ⟨%Y, Hs⟩
  iapply (wp_await X K c (k := .recv d) (cut_credit _ _) h' (1 + hop d c) (O + owedDir d c t)
    (by rw [lvl_recv]) (above_add hO (above_tally _ _ _ (by rw [lvl_recv, hop_nbr d c h]; omega)))) $$ [Hat Hc Ho]
  · isplitr; · iexact HR
    isplitl [Hat]; · iexact Hat
    isplitl [Hc] <;> iassumption
  iintro ⟨Hat, Hv, Ho⟩
  unfold pay
  iapply (wp_loadCut c (carry X d (nbr d.op c) t)) $$ Hv
  iintro %v %hv Hv
  iapply (wp_loadTile c (xt X c t)) $$ Hx
  iintro Hx
  iapply (wp_loadCut c Y) $$ Hs
  iintro %w %hw Hs
  rw [sumOn_carry X c t d h' v hv]
  iapply (wp_storeCut c Y (carry X d c t)) $$ Hs
  iintro Hs
  ihave Hs := (owns_halves (c : Thread nD τ) (cut (stage d) t) fullShare (carry X d c t)).1 $$ Hs
  icases Hs with ⟨Hl, Hr⟩
  iapply (wp_copyTo X K c (kS := .send d) (kR := .recv d) (nbr d c) (cut_credit _ _) h (by
      show hasNbr d.op (nbr d c) = true
      rw [hasNbr_nbr]; exact h) fullShare.right (carry X d c t) O
      (Entails.of_eq (pay_send_next X c d t h').symm)
      (by
        show _ ⊢ own (nbr d c) (cut (comm d) t) fullShare (carry X d (nbr d.op (nbr d c)) t)
        rw [nbr_op_nbr])) $$ [Hr Hd Ho T1 T2]
  · isplitr; · iexact HR
    isplitl [Hr]; · iexact Hr
    isplitl [Hd]; · iexact Hd
    isplitl [Ho]; · iexact Ho
    isplitl [T1] <;> iassumption
  iintro ⟨C, Ho⟩
  iapply Hk
  isplitl [Ho]; · iexact Ho
  isplitl [Hx]; · iexact Hx
  isplitl [Hat]; · iexact Hat
  isplitl [Hv]; · iexact Hv
  isplitl [Hl] <;> iassumption

/-- The first loop of a device in the middle. -/
theorem relay_turn (d : Dir) (h : hasNbr d c = true) (h' : hasNbr d.op c = true) (hle : hop d c ≤ hop d.op c) (t : Fin 8) :
    iprop(st X K c (owedOut c + tl (owedDir d.op c) 0 + tl (owedDir d c) t.val) ∗ (xbAt X c fullShare t ∗ relayA c d t))
      ⊢ WP c (relay c d t) (fun _ => iprop(st X K c (owedOut c + tl (owedDir d.op c) 0 + tl (owedDir d c) (t.val + 1))
          ∗ (xbAt X c fullShare t ∗ relayB X c d t))) := by
  rw [tl_step (owedDir d c) t, ← add_assoc]
  iintro ⟨⟨#HR, Ho⟩, Hx, HA⟩
  have hd : 1 + hop d c ≤ 4 := by have := hop_le d c; omega
  iapply (relay_step X K c d h h' t (owedOut c + tl (owedDir d.op c) 0 + tl (owedDir d c) (t.val + 1))
    (above_add (above_add (above_out c _ hd) (above_tl _ _ fun s => above_dir d.op c _ h' (by omega) s))
      (above_tl _ _ fun s => above_dir d c _ h le_rfl s))) $$ [Ho Hx HA]
  · isplitr; · iexact HR
    isplitl [Ho]; · iexact Ho
    isplitl [Hx] <;> iassumption
  iintro ⟨Ho, Hx, HB⟩
  isplitl [Ho]
  · isplitr; · iexact HR
    iexact Ho
  isplitl [Hx] <;> iassumption

/-- Finishing a tile in the middle of a chain. -/
theorem finish_step (h : hasNbr .right c = true) (h' : hasNbr .left c = true) (t : Fin 8) {Φ : PUnit → sProp 𝕄} :
    iprop(own c (cut (stage .right) t) fullShare.left (carry X .right c t)
        ∗ own c (cut (comm .left) t) fullShare (carry X .left (nbr .right c) t)
        ∗ some' c (tile ob (colq c) t))
      ⊢ iprop(((own c (cut (stage .right) t) fullShare.left (carry X .right c t)
        ∗ own c (cut (comm .left) t) fullShare (carry X .left (nbr .right c) t)
        ∗ own c (tile ob (colq c) t) fullShare (res X c t)) -∗ Φ ⟨⟩)
        -∗ WP c (finishAt (tileOff (colq c) t) (tileIn (colq c) t) t) Φ) := by
  unfold finishAt
  simp only [wp_bind]
  iintro ⟨Hs, Hv, Hob⟩ Hk
  ihave Hob := (some_open _ _) $$ Hob
  icases Hob with ⟨%Y, Hob⟩
  iapply (wp_loadCut c (carry X .right c t)) $$ Hs
  iintro %s %hs Hs
  iapply (wp_loadCut c (carry X .left (nbr .right c) t)) $$ Hv
  iintro %v %hv Hv
  iapply (wp_loadTile c Y) $$ Hob
  iintro Hob
  rw [sumMid_res X c t h h' s v hs hv]
  iapply (wp_storeTile c Y (res X c t)) $$ Hob
  iintro Hob
  iapply Hk
  isplitl [Hs]; · iexact Hs
  isplitl [Hv] <;> iassumption

def midA (d : Dir) (t : Fin 8) : sProp 𝕄 :=
  iprop(xbAt X c fullShare t ∗ relayB X c d t ∗ relayA c d.op t ∗ some' c (tile ob (colq c) t) ∗ pushA c t)

def midB (d : Dir) (t : Fin 8) : sProp 𝕄 :=
  iprop(xbAt X c fullShare t ∗ relayB X c d t ∗ relayB X c d.op t ∗ crd c .xs t ∗ crd c .zs t)

/-- The second loop of a device in the middle. -/
theorem relayPush_turn (d : Dir) (h : hasNbr d c = true) (h' : hasNbr d.op c = true) (t : Fin 8) :
    iprop(st X K c (owedPush c t.val + tl (owedDir d.op c) t.val) ∗ midA X c d t)
      ⊢ WP c (relayPush c d.op t) (fun _ => iprop(st X K c (owedPush c (t.val + 1) + tl (owedDir d.op c) (t.val + 1))
          ∗ midB X c d t)) := by
  unfold relayPush midA midB
  simp only [wp_bind]
  have hr : hasNbr .right c = true := by cases d <;> assumption
  have hl : hasNbr .left c = true := by cases d <;> assumption
  rw [tl_step (owedDir d.op c) t, ← add_assoc]
  iintro ⟨⟨#HR, Ho⟩, Hx, HB, HA, Hob, Hp⟩
  have hd : 1 + hop d.op c ≤ 4 := by have := hop_le d.op c; omega
  have hab : ∀ n, Above (1 + hop d.op c) (owedPush c n) := fun n g i hg => ⟨(above_push c n g i hg).1,
    lt_of_le_of_lt hd (above_push c n g i hg).2⟩
  iapply (relay_step X K c d.op h' (by rw [Dir.op_op]; exact h) t (owedPush c t.val + tl (owedDir d.op c) (t.val + 1))
    (above_add (hab _) (above_tl _ _ fun s => above_dir d.op c _ h' le_rfl s))) $$ [Ho Hx HA]
  · isplitr; · iexact HR
    isplitl [Ho]; · iexact Ho
    isplitl [Hx] <;> iassumption
  iintro ⟨Ho, Hx, HB'⟩
  rw [owedPush_step c t,
    show owedPush c (t.val + 1) + owedZ c t + owedX c t + tl (owedDir d.op c) (t.val + 1)
      = owedPush c (t.val + 1) + tl (owedDir d.op c) (t.val + 1) + owedZ c t + owedX c t from by
        rw [add_right_comm (owedPush c (t.val + 1) + owedZ c t) (owedX c t), add_right_comm (owedPush c (t.val + 1)) (owedZ c t)]]
  cases d with
  | right =>
    unfold relayB
    icases HB with ⟨B1, B2, B3, B4⟩
    icases HB' with ⟨B5, B6, B7, B8⟩
    iapply (finish_step X c hr hl t) $$ [B3 B6 Hob]
    · isplitl [B3]; · iexact B3
      isplitl [B6]; · iexact B6
      iexact Hob
    iintro ⟨B3, B6, Hob⟩
    iapply (push_step X K c t (owedPush c (t.val + 1) + tl (owedDir Dir.right.op c) (t.val + 1))) $$ [Ho Hob Hp]
    · isplitr; · iexact HR
      isplitl [Ho]; · iexact Ho
      isplitl [Hob] <;> iassumption
    iintro ⟨Ho, C1, C2⟩
    isplitl [Ho]
    · isplitr; · iexact HR
      iexact Ho
    isplitl [Hx]; · iexact Hx
    isplitl [B1 B2 B3 B4]
    · isplitl [B1]; · iexact B1
      isplitl [B2]; · iexact B2
      isplitl [B3]; · iexact B3
      iexact B4
    isplitl [B5 B6 B7 B8]
    · isplitl [B5]; · iexact B5
      isplitl [B6]; · iexact B6
      isplitl [B7]; · iexact B7
      iexact B8
    isplitl [C1] <;> iassumption
  | left =>
    unfold relayB
    icases HB with ⟨B1, B2, B3, B4⟩
    icases HB' with ⟨B5, B6, B7, B8⟩
    iapply (finish_step X c hr hl t) $$ [B7 B2 Hob]
    · isplitl [B7]; · iexact B7
      isplitl [B2]; · iexact B2
      iexact Hob
    iintro ⟨B7, B2, Hob⟩
    iapply (push_step X K c t (owedPush c (t.val + 1) + tl (owedDir Dir.left.op c) (t.val + 1))) $$ [Ho Hob Hp]
    · isplitr; · iexact HR
      isplitl [Ho]; · iexact Ho
      isplitl [Hob] <;> iassumption
    iintro ⟨Ho, C1, C2⟩
    isplitl [Ho]
    · isplitr; · iexact HR
      iexact Ho
    isplitl [Hx]; · iexact Hx
    isplitl [B1 B2 B3 B4]
    · isplitl [B1]; · iexact B1
      isplitl [B2]; · iexact B2
      isplitl [B3]; · iexact B3
      iexact B4
    isplitl [B5 B6 B7 B8]
    · isplitl [B5]; · iexact B5
      isplitl [B6]; · iexact B6
      isplitl [B7]; · iexact B7
      iexact B8
    isplitl [C1] <;> iassumption

/-! ### The exchange with the partners -/

def forwardA (t : Fin 8) : sProp 𝕄 :=
  iprop(stands c (some (.xr, t)) 0 ∗ crd c .xr t ∗ some' (zp c) (tile ob (colq (xp c)) t) ∗ tok1 c .ws t ∗ tok1 (zp c) .wr t)

def forwardB (t : Fin 8) : sProp 𝕄 := iprop(stands c (some (.xr, t)) 1 ∗ crd c .ws t)

/-- One tile from the partner across `x` is forwarded across `z`. -/
theorem forward_turn (t : Fin 8) :
    iprop(st X K c (tl (owedW c) t.val) ∗ forwardA c t)
      ⊢ WP c (forward c t) (fun _ => iprop(st X K c (tl (owedW c) (t.val + 1)) ∗ forwardB c t)) := by
  unfold forward forwardAt forwardA forwardB
  simp only [wp_bind]
  iintro ⟨⟨#HR, Ho⟩, Hat, Hc, Hd, T1, T2⟩
  iapply (wp_await X K c (k := .xr) (tile_credit _ _ _) rfl 5 (tl (owedW c) t.val)
    le_rfl (above_tl _ _ fun s => above_W c 5 le_rfl s)) $$ [Hat Hc Ho]
  · isplitr; · iexact HR
    isplitl [Hat]; · iexact Hat
    isplitl [Hc] <;> iassumption
  iintro ⟨Hat, Hv, Ho⟩
  ihave Hv := (show pay X c .xr t ⊢ own c (tile ob (colq (xp c)) t) fullShare (res X (xp c) t) from .rfl) $$ Hv
  rw [tl_step (owedW c) t]
  iapply (wp_copyTo X K c (kS := .ws) (kR := .wr) (zp c) (tile_credit _ _ _) rfl rfl fullShare (res X (xp c) t)
      (tl (owedW c) (t.val + 1)) .rfl (by
        show _ ⊢ own (zp c) (tile ob (colq (xp (zp (zp c)))) t) fullShare (res X (xp (zp (zp c))) t)
        rw [zp_zp])) $$ [Hv Hd Ho T1 T2]
  · isplitr; · iexact HR
    isplitl [Hv]; · iexact Hv
    isplitl [Hd]; · iexact Hd
    isplitl [Ho]; · iexact Ho
    isplitl [T1] <;> iassumption
  iintro ⟨C, Ho⟩
  isplitl [Ho]
  · isplitr; · iexact HR
    iexact Ho
  isplitl [Hat] <;> iassumption

/-- Device `c` owns a tile of the result block in the quarter of `e`, with the finished tile of `e`. -/
abbrev obAt (e : Dev nD) (t : Fin 8) : sProp 𝕄 := own c (tile ob (colq e) t) fullShare (res X e t)

def receiveA (t : Fin 8) : sProp 𝕄 :=
  iprop(stands c (some (.zr, t)) 0 ∗ crd c .zr t ∗ stands c (some (.wr, t)) 0 ∗ crd c .wr t)

def receiveB (t : Fin 8) : sProp 𝕄 :=
  iprop(stands c (some (.zr, t)) 1 ∗ stands c (some (.wr, t)) 1 ∗ obAt X c (zp c) t ∗ obAt X c (xp (zp c)) t)

/-- One tile is received twice across `z`: the partner's own and the forwarded one. -/
theorem receive_turn (t : Fin 8) :
    iprop(st X K c 0 ∗ receiveA c t)
      ⊢ WP c (receive c t) (fun _ => iprop(st X K c 0 ∗ receiveB X c t)) := by
  unfold receive receiveAt receiveA receiveB
  simp only [wp_bind]
  iintro ⟨⟨#HR, Ho⟩, A1, C1, A2, C2⟩
  iapply (wp_await X K c (k := .zr) (tile_credit _ _ _) rfl 6 0 le_rfl (above_zero _)) $$ [A1 C1 Ho]
  · isplitr; · iexact HR
    isplitl [A1]; · iexact A1
    isplitl [C1] <;> iassumption
  iintro ⟨A1, V1, Ho⟩
  iapply (wp_await X K c (k := .wr) (tile_credit _ _ _) rfl 6 0 le_rfl (above_zero _)) $$ [A2 C2 Ho]
  · isplitr; · iexact HR
    isplitl [A2]; · iexact A2
    isplitl [C2] <;> iassumption
  iintro ⟨A2, V2, Ho⟩
  unfold pay
  isplitl [Ho]
  · isplitr; · iexact HR
    iexact Ho
  isplitl [A1]; · iexact A1
  isplitl [A2]; · iexact A2
  isplitl [V1] <;> iassumption

def settleA (t : Fin 8) : sProp 𝕄 :=
  iprop(stands c (some (.xs, t)) 0 ∗ crd c .xs t ∗ stands c (some (.zs, t)) 0 ∗ crd c .zs t
    ∗ stands c (some (.ws, t)) 0 ∗ crd c .ws t)

def settleB (t : Fin 8) : sProp 𝕄 :=
  iprop(stands c (some (.xs, t)) 1 ∗ stands c (some (.zs, t)) 1 ∗ stands c (some (.ws, t)) 1
    ∗ obAt X c c t ∗ obAt X c (xp c) t)

/-- For one tile, the copies to the partners have left. -/
theorem settle_turn (t : Fin 8) :
    iprop(st X K c 0 ∗ settleA c t)
      ⊢ WP c (settle c t) (fun _ => iprop(st X K c 0 ∗ settleB X c t)) := by
  unfold settle settleAt settleA settleB
  simp only [wp_bind]
  iintro ⟨⟨#HR, Ho⟩, A1, C1, A2, C2, A3, C3⟩
  iapply (wp_await X K c (k := .xs) (tile_credit _ _ _) rfl 0 0 le_rfl (above_zero _)) $$ [A1 C1 Ho]
  · isplitr; · iexact HR
    isplitl [A1]; · iexact A1
    isplitl [C1] <;> iassumption
  iintro ⟨A1, V1, Ho⟩
  iapply (wp_await X K c (k := .zs) (tile_credit _ _ _) rfl 0 0 le_rfl (above_zero _)) $$ [A2 C2 Ho]
  · isplitr; · iexact HR
    isplitl [A2]; · iexact A2
    isplitl [C2] <;> iassumption
  iintro ⟨A2, V2, Ho⟩
  iapply (wp_await X K c (k := .ws) (tile_credit _ _ _) rfl 0 0 le_rfl (above_zero _)) $$ [A3 C3 Ho]
  · isplitr; · iexact HR
    isplitl [A3]; · iexact A3
    isplitl [C3] <;> iassumption
  iintro ⟨A3, V3, Ho⟩
  unfold pay
  isplitl [Ho]
  · isplitr; · iexact HR
    iexact Ho
  isplitl [A1]; · iexact A1
  isplitl [A2]; · iexact A2
  isplitl [A3]; · iexact A3
  isplitl [V1 V2]
  · iapply (owns_halves (c : Thread nD τ) (tile ob (colq c) t) fullShare (res X c t)).2
    isplitl [V1] <;> iassumption
  iexact V3

/-! ### Draining -/

def drainA (d : Dir) (t : Fin 8) : sProp 𝕄 := iprop(stands c (some (.send d, t)) 0 ∗ crd c (.send d) t)

/-- For one tile, the copy of the input along `y` has left. -/
theorem drainX_turn (d : Dir) (h : hasNbr d c = true) (h' : hasNbr d.op c = false) (t : Fin 8) :
    iprop(st X K c 0 ∗ drainA c d t)
      ⊢ WP c (drainX c d t) (fun _ => iprop(st X K c 0
          ∗ (stands c (some (.send d, t)) 1 ∗ xbAt X c fullShare.right t))) := by
  unfold drainX drainXAt drainA
  iintro ⟨⟨#HR, Ho⟩, A1, C1⟩
  iapply (wp_await X K c (k := .send d) (tile_credit _ _ _) h 0 0 le_rfl (above_zero _)) $$ [A1 C1 Ho]
  · isplitr; · iexact HR
    isplitl [A1]; · iexact A1
    isplitl [C1] <;> iassumption
  iintro ⟨A1, V1, Ho⟩
  ihave V1 := (Entails.of_eq (pay_send_first X c d t h')) $$ V1
  isplitl [Ho]
  · isplitr; · iexact HR
    iexact Ho
  isplitl [A1] <;> iassumption

def drainMidA (t : Fin 8) : sProp 𝕄 := iprop(drainA c .right t ∗ drainA c .left t)

def drainMidB (t : Fin 8) : sProp 𝕄 :=
  iprop(stands c (some (.send .right, t)) 1 ∗ stands c (some (.send .left, t)) 1
    ∗ own c (cut (stage .right) t) fullShare.right (carry X .right c t)
    ∗ own c (cut (stage .left) t) fullShare.right (carry X .left c t))

/-- For one tile, both copies along `y` from inside the column have left. -/
theorem drainMid_turn (h : hasNbr .right c = true) (h' : hasNbr .left c = true) (t : Fin 8) :
    iprop(st X K c 0 ∗ drainMidA c t)
      ⊢ WP c (drainMid t) (fun _ => iprop(st X K c 0 ∗ drainMidB X c t)) := by
  unfold drainMid drainMidA drainMidB drainA
  simp only [wp_bind]
  iintro ⟨⟨#HR, Ho⟩, ⟨A1, C1⟩, A2, C2⟩
  iapply (wp_await X K c (k := .send .right) (cut_credit _ _) h 0 0 le_rfl (above_zero _)) $$ [A1 C1 Ho]
  · isplitr; · iexact HR
    isplitl [A1]; · iexact A1
    isplitl [C1] <;> iassumption
  iintro ⟨A1, V1, Ho⟩
  iapply (wp_await X K c (k := .send .left) (cut_credit _ _) h' 0 0 le_rfl (above_zero _)) $$ [A2 C2 Ho]
  · isplitr; · iexact HR
    isplitl [A2]; · iexact A2
    isplitl [C2] <;> iassumption
  iintro ⟨A2, V2, Ho⟩
  ihave V1 := (Entails.of_eq (pay_send_next X c .right t h')) $$ V1
  ihave V2 := (Entails.of_eq (pay_send_next X c .left t h)) $$ V2
  isplitl [Ho]
  · isplitr; · iexact HR
    iexact Ho
  isplitl [A1]; · iexact A1
  isplitl [A2]; · iexact A2
  isplitl [V1] <;> iassumption

end Frags

end Cert.AllReduce
-- ==== Proof.Tiles.lean ====
/-
# Blocks and their tiles

A staged block is its 4 × 8 tiles, a scratch buffer is its eight tiles, and the semaphores of a device are those of
each tile. What the result block of a device holds in the end is put together from the finished tiles of four devices.
-/
module

public import proofs.«01_k».proof.Proof.Frags

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The tiles of a block -/

/-- The tile of a pair: quarter and place. -/
abbrev pairRect (p : Fin 4 × Fin 8) : Rect S1024x512 := tileRect p.1 p.2

/-- Two tiles of a block do not overlap. -/
theorem pair_disjoint : ∀ p p' : Fin 4 × Fin 8, p ≠ p' → Disjoint (pairRect p).set (pairRect p').set := fun p p' h => by
  by_cases h2 : p.2 = p'.2
  · have h1 : p.1.val ≠ p'.1.val := fun e => h (Prod.ext (Fin.ext e) h2)
    refine Rect.unit_disjoint (1 : Fin 2) ?_
    show 128 * p.1.val + 128 ≤ 128 * p'.1.val ∨ 128 * p'.1.val + 128 ≤ 128 * p.1.val
    omega
  · have h2' : p.2.val ≠ p'.2.val := fun e => h2 (Fin.ext e)
    refine Rect.unit_disjoint (0 : Fin 2) ?_
    show 128 * p.2.val + 128 ≤ 128 * p'.2.val ∨ 128 * p'.2.val + 128 ≤ 128 * p.2.val
    omega

/-- The 32 tiles of a block are all of it. -/
theorem pair_cover : (Finset.univ : Finset (Fin 4 × Fin 8)).biUnion (fun p => (pairRect p).set) = Finset.univ := by
  refine Finset.eq_univ_iff_forall.mpr fun i => ?_
  have h0 : (i (0 : Fin 2)).val < 1024 := (i (0 : Fin 2)).isLt
  have h1 : (i (1 : Fin 2)).val < 512 := (i (1 : Fin 2)).isLt
  refine Finset.mem_biUnion.mpr ⟨(⟨(i (1 : Fin 2)).val / 128, by omega⟩, ⟨(i (0 : Fin 2)).val / 128, by omega⟩), Finset.mem_univ _, ?_⟩
  refine Rect.mem_set_unit.mpr fun a => ?_
  fin_cases a
  · show 128 * ((i (0 : Fin 2)).val / 128) ≤ (i (0 : Fin 2)).val ∧ (i (0 : Fin 2)).val < 128 * ((i (0 : Fin 2)).val / 128) + 128
    omega
  · show 128 * ((i (1 : Fin 2)).val / 128) ≤ (i (1 : Fin 2)).val ∧ (i (1 : Fin 2)).val < 128 * ((i (1 : Fin 2)).val / 128) + 128
    omega

/-- Forget the contents of a buffer. -/
theorem some_intro (e : Dev nD) {s : Shape} (m : Memref sig .tc .vmem s .f32) (Y : s.Idx → Elt F .f32) :
    own e m fullShare Y ⊢ some' e m := by
  unfold some'; iintro H; iexists Y; iexact H

section Blocks

variable (c : Dev nD) (b : Memref sig .tc .vmem S1024x512 .f32)

/-- A block is its tiles. -/
theorem block_split (Y : S1024x512.Idx → Elt F .f32) :
    own c b fullShare Y ⊢ bigSep Finset.univ fun q : Fin 4 => bigSep Finset.univ fun t : Fin 8 =>
      own c (tile b q t) fullShare (tileOf Y q t) := by
  have h := owns_rects (Ix := Unit) (Name := ℕ) (U := UU) (Lvl := ℕ) (c : Thread nD τ) b fullShare pairRect (fun _ _ => rfl) pair_disjoint pair_cover Y
  rw [bigSep_univ_prod] at h
  exact h

/-- The tiles of a block are the block. -/
theorem block_join (Y : S1024x512.Idx → Elt F .f32) :
    (bigSep Finset.univ fun q : Fin 4 => bigSep Finset.univ fun t : Fin 8 => own c (tile b q t) fullShare (tileOf Y q t))
      ⊢ own c b fullShare Y := by
  have h := owns_of_rects (Ix := Unit) (Name := ℕ) (U := UU) (Lvl := ℕ) (c : Thread nD τ) b fullShare pairRect (fun _ _ => rfl) pair_disjoint pair_cover Y
  rw [bigSep_univ_prod] at h
  exact h

/-- A family over the four quarters, by the devices that reduce them. -/
theorem quarters (Φ : Fin 4 → sProp 𝕄) :
    bigSep Finset.univ Φ = iprop(Φ (colq c) ∗ Φ (colq (xp c)) ∗ Φ (colq (zp c)) ∗ Φ (colq (xp (zp c)))) := by
  obtain ⟨h, h1, h2, h3⟩ := colq_cover c
  rw [h, BI.bigSep_insert h1, BI.bigSep_insert h2, BI.bigSep_insert h3, bigSep_singleton]
  rfl

/-- A block at some contents is its tiles at some contents, quarter by quarter. -/
theorem block_some :
    some' (F := F) c b ⊢ iprop((bigSep Finset.univ fun t : Fin 8 => some' c (tile b (colq c) t))
      ∗ (bigSep Finset.univ fun t : Fin 8 => some' c (tile b (colq (xp c)) t))
      ∗ (bigSep Finset.univ fun t : Fin 8 => some' c (tile b (colq (zp c)) t))
      ∗ (bigSep Finset.univ fun t : Fin 8 => some' c (tile b (colq (xp (zp c))) t))) := by
  rw [← quarters c fun q => bigSep Finset.univ fun t : Fin 8 => some' c (tile b q t)]
  have h (Y : S1024x512.Idx → Elt F .f32) :
      (bigSep Finset.univ fun q : Fin 4 => bigSep Finset.univ fun t : Fin 8 => own c (tile b q t) fullShare (tileOf Y q t))
      ⊢ bigSep Finset.univ fun q : Fin 4 => bigSep Finset.univ fun t : Fin 8 => some' c (tile b q t) := bigSep_mono (s := (Finset.univ : Finset (Fin 4))) fun q _ =>
    bigSep_mono (s := (Finset.univ : Finset (Fin 8))) fun t _ =>
      show own c (tile b q t) fullShare (tileOf Y q t) ⊢ some' c (tile b q t) from some_intro _ _ _
  iintro H
  ihave H := (some_open _ _) $$ H
  icases H with ⟨%Y, H⟩
  ihave H := (block_split c b Y) $$ H
  iapply (h Y)
  iexact H

end Blocks

/-! ## The tiles of a scratch buffer -/

/-- Two tiles of a scratch buffer do not overlap. -/
theorem cut_disjoint : ∀ t t' : Fin 8, t ≠ t' → Disjoint (cutRect t).set (cutRect t').set := fun t t' h => by
  have h' : t.val ≠ t'.val := fun e => h (Fin.ext e)
  refine Rect.unit_disjoint (0 : Fin 3) ?_
  show t.val + 1 ≤ t'.val ∨ t'.val + 1 ≤ t.val
  omega

/-- The eight tiles of a scratch buffer are all of it. -/
theorem cut_cover : (Finset.univ : Finset (Fin 8)).biUnion (fun t => (cutRect t).set) = Finset.univ := by
  refine Finset.eq_univ_iff_forall.mpr fun i => ?_
  refine Finset.mem_biUnion.mpr ⟨i (0 : Fin 3), Finset.mem_univ _, ?_⟩
  refine Rect.mem_set_unit.mpr fun a => ?_
  have h1 : (i (1 : Fin 3)).val < 128 := (i (1 : Fin 3)).isLt
  have h2 : (i (2 : Fin 3)).val < 128 := (i (2 : Fin 3)).isLt
  fin_cases a
  · show (i (0 : Fin 3)).val ≤ (i (0 : Fin 3)).val ∧ (i (0 : Fin 3)).val < (i (0 : Fin 3)).val + 1
    omega
  · show 0 ≤ (i (1 : Fin 3)).val ∧ (i (1 : Fin 3)).val < 0 + 128
    omega
  · show 0 ≤ (i (2 : Fin 3)).val ∧ (i (2 : Fin 3)).val < 0 + 128
    omega

section Scratch

variable (c : Dev nD) (b : Memref sig .tc .vmem S8x128x128 .f32)

/-- The slice of a scratch buffer of which a tile is the squeezed form. -/
abbrev cutSlice (t : Fin 8) : Memref sig .tc .vmem S1x128x128 .f32 := b.slice (cutRect t) (fun _ => rfl)

/-- A slice of a scratch buffer, seen as a tile. -/
theorem cut_open (t : Fin 8) : some' (F := F) c (cutSlice b t) ⊢ some' c (cut b t) := by
  unfold some' owns
  iintro ⟨%Y, %f, %hf, H⟩
  iexists (cut b t).view.read (Elt F) f
  iexists f
  isplitr; · ipureintro; rfl
  rw [show (cut b t).view.set = (cutSlice b t).view.set from View.set_reshape _ _]
  iexact H

/-- A tile of a scratch buffer, seen as a slice. -/
theorem cut_close (t : Fin 8) : some' (F := F) c (cut b t) ⊢ some' c (cutSlice b t) := by
  unfold some' owns
  iintro ⟨%Y, %f, %hf, H⟩
  iexists (cutSlice b t).view.read (Elt F) f
  iexists f
  isplitr; · ipureintro; rfl
  rw [show (cut b t).view.set = (cutSlice b t).view.set from View.set_reshape _ _]
  iexact H

/-- A scratch buffer at some contents is its tiles at some contents. -/
theorem scratch_split : some' (F := F) c b ⊢ bigSep Finset.univ fun t : Fin 8 => some' c (cut b t) := by
  have h (Y : S8x128x128.Idx → Elt F .f32) :
      (bigSep Finset.univ fun t : Fin 8 => own c (cutSlice b t) fullShare (fun j => Y ((cutRect t).emb j)))
      ⊢ bigSep Finset.univ fun t : Fin 8 => some' c (cut b t) := bigSep_mono (s := (Finset.univ : Finset (Fin 8))) fun t _ =>
    BIBase.Entails.trans (show own c (cutSlice b t) fullShare (fun j => Y ((cutRect t).emb j)) ⊢ some' c (cutSlice b t) from
      some_intro _ _ _) (cut_open c b t)
  iintro H
  ihave H := (some_open _ _) $$ H
  icases H with ⟨%Y, H⟩
  ihave H := (owns_rects (Ix := Unit) (Name := ℕ) (U := UU) (Lvl := ℕ) (c : Thread nD τ) b fullShare cutRect (fun _ _ => rfl)
    cut_disjoint cut_cover Y) $$ H
  iapply (h Y)
  iexact H

/-- The tiles of a scratch buffer are the buffer. -/
theorem scratch_join : (bigSep Finset.univ fun t : Fin 8 => some' (F := F) c (cut b t)) ⊢ some' c b := by
  have h1 := bigSep_mono (s := (Finset.univ : Finset (Fin 8))) fun t _ =>
    BIBase.Entails.trans (cut_close (F := F) c b t) (ownsSat_true (c : Thread nD τ) (cutSlice b t) fullShare).2
  have h2 := ownsSat_of_rects (Val := Elt F) (Ix := Unit) (Name := ℕ) (U := UU) (Lvl := ℕ) (c : Thread nD τ) b fullShare cutRect
    (fun _ _ => rfl) cut_disjoint cut_cover (Ψ := fun _ _ => True)
  exact BIBase.Entails.trans h1 (BIBase.Entails.trans h2 (ownsSat_any (c : Thread nD τ) b fullShare))

end Scratch

/-! ## The result block -/

section Result

variable (X : Dev nD → S1024x512.Idx → Elt F .f32) (c : Dev nD)

/-- The device, among a device and its partners, that reduces a quarter. -/
def ownerOf (q : Fin 4) : Dev nD :=
  if q = colq c then c else if q = colq (xp c) then xp c else if q = colq (zp c) then zp c else xp (zp c)

/-- A device finishes its own quarter. -/
theorem owner_own : ∀ c : Dev nD, ownerOf c (colq c) = c := by decide +kernel
/-- The partner across `x` finishes its quarter. -/
theorem owner_x : ∀ c : Dev nD, ownerOf c (colq (xp c)) = xp c := by decide +kernel
/-- The partner across `z` finishes its quarter. -/
theorem owner_z : ∀ c : Dev nD, ownerOf c (colq (zp c)) = zp c := by decide +kernel
/-- The fourth quarter is finished by the partner across `x` of the partner across `z`. -/
theorem owner_xz : ∀ c : Dev nD, ownerOf c (colq (xp (zp c))) = xp (zp c) := by decide +kernel

/-- What the result block of a device holds in the end. -/
def outAt : S1024x512.Idx → Elt F .f32 := Rect.glue pairRect pair_cover fun p => res X (ownerOf c p.1) p.2

/-- A tile of the finished block is the sum that the quarter's owner finished. -/
theorem out_tile (q : Fin 4) (t : Fin 8) : tileOf (outAt X c) q t = res X (ownerOf c q) t :=
  funext fun j => Rect.glue_emb pairRect pair_cover pair_disjoint (fun p => res X (ownerOf c p.1) p.2) (q, t) j

/-- The finished tiles of the four quarters are the finished result block. -/
theorem out_join :
    iprop((bigSep Finset.univ fun t : Fin 8 => obAt X c c t) ∗ (bigSep Finset.univ fun t : Fin 8 => obAt X c (xp c) t)
      ∗ (bigSep Finset.univ fun t : Fin 8 => obAt X c (zp c) t) ∗ (bigSep Finset.univ fun t : Fin 8 => obAt X c (xp (zp c)) t))
      ⊢ own c ob fullShare (outAt X c) := by
  refine BIBase.Entails.trans (Entails.of_eq ?_) (block_join c ob (outAt X c))
  rw [quarters c]
  simp only [out_tile, owner_own, owner_x, owner_z, owner_xz]

end Result

/-! ## The semaphores of a device, tile by tile -/

/-- A statement about both directions, spelt out from either. -/
theorem both (d : Dir) (Φ : Dir → sProp 𝕄) : bigSep Finset.univ Φ = iprop(Φ d ∗ Φ d.op) := by
  cases d with
  | right =>
    rw [bigSep_univ_eq_bigSepL [Dir.right, Dir.left] (by decide) (by decide)]
    simp only [bigSepL_cons, bigSepL_nil, sep_emp_eq]; rfl
  | left =>
    rw [bigSep_univ_eq_bigSepL [Dir.left, Dir.right] (by decide) (by decide)]
    simp only [bigSepL_cons, bigSepL_nil, sep_emp_eq]; rfl

/-- A family over the kinds of transfer semaphores. -/
theorem kinds (d : Dir) (Φ : Kind → sProp 𝕄) : bigSep Finset.univ Φ
    = iprop(Φ (.send d) ∗ Φ (.send d.op) ∗ Φ (.recv d) ∗ Φ (.recv d.op) ∗ Φ .xs ∗ Φ .xr ∗ Φ .zs ∗ Φ .zr ∗ Φ .ws ∗ Φ .wr) := by
  cases d with
  | right =>
    rw [bigSep_univ_eq_bigSepL [.send .right, .send .left, .recv .right, .recv .left, .xs, .xr, .zs, .zr, .ws, .wr]
      (by decide) (by decide)]
    simp only [bigSepL_cons, bigSepL_nil, sep_emp_eq]; rfl
  | left =>
    rw [bigSep_univ_eq_bigSepL [.send .left, .send .right, .recv .left, .recv .right, .xs, .xr, .zs, .zr, .ws, .wr]
      (by decide) (by decide)]
    simp only [bigSepL_cons, bigSepL_nil, sep_emp_eq]; rfl

/-- A family over the semaphores of a device: the barrier's, and for each kind the eight of its tiles. -/
theorem cells (d : Dir) (Φ : Cell → sProp 𝕄) : bigSep Finset.univ Φ
    = iprop(Φ none ∗ (bigSep Finset.univ fun t => Φ (some (.send d, t))) ∗ (bigSep Finset.univ fun t => Φ (some (.send d.op, t)))
      ∗ (bigSep Finset.univ fun t => Φ (some (.recv d, t))) ∗ (bigSep Finset.univ fun t => Φ (some (.recv d.op, t)))
      ∗ (bigSep Finset.univ fun t => Φ (some (.xs, t))) ∗ (bigSep Finset.univ fun t => Φ (some (.xr, t)))
      ∗ (bigSep Finset.univ fun t => Φ (some (.zs, t))) ∗ (bigSep Finset.univ fun t => Φ (some (.zr, t)))
      ∗ (bigSep Finset.univ fun t => Φ (some (.ws, t))) ∗ (bigSep Finset.univ fun t => Φ (some (.wr, t)))) := by
  rw [← kinds d fun k => bigSep Finset.univ fun t => Φ (some (k, t)), ← bigSep_univ_prod (fun p : Kind × Fin 8 => Φ (some p)),
    show (Finset.univ : Finset Cell) = insert none (Finset.univ.map Function.Embedding.some) from by ext (_ | p) <;> simp,
    BI.bigSep_insert (by simp), BI.bigSep_map]
  rfl

end Cert.AllReduce
-- ==== Proof.Body.lean ====
/-
# The program of a device

What a device holds when it starts, what it holds when it ends, and that its program takes it from the one to the
other: for a device at an end of its column of four along `y`, and for a device in the middle.
-/
module

public import proofs.«01_k».proof.Proof.Tiles

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device starts and ends with -/

/-- A family over the tiles of a kind of transfer semaphore. -/
abbrev each (Φ : Fin 8 → sProp 𝕄) : sProp 𝕄 := bigSep Finset.univ Φ

/-- The duties that a device pays. -/
def devToks (d : Dir) (c : Dev nD) : sProp 𝕄 :=
  iprop(tok (nbr d c) none (.dir d.op) ∗ tok (nbr d.op c) none (.dir d) ∗ tok (xp c) none .px ∗ tok (zp c) none .pz
    ∗ (each fun t => tok1 c (.send d) t) ∗ (each fun t => tok1 c (.send d.op) t)
    ∗ (each fun t => tok1 (nbr d c) (.recv d) t) ∗ (each fun t => tok1 (nbr d.op c) (.recv d.op) t)
    ∗ (each fun t => tok1 c .xs t) ∗ (each fun t => tok1 (xp c) .xr t) ∗ (each fun t => tok1 c .zs t)
    ∗ (each fun t => tok1 (zp c) .zr t) ∗ (each fun t => tok1 c .ws t) ∗ (each fun t => tok1 (zp c) .wr t))

/-- The credits of what a device waits for from others. -/
def devCreds (d : Dir) (c : Dev nD) : sProp 𝕄 :=
  iprop(cred (tallyAt (bcell c) () (dutiesAt c none).card)
    ∗ (if hasNbr d.op c then each fun t => crd c (.recv d) t else iprop(emp))
    ∗ (if hasNbr d c then each fun t => crd c (.recv d.op) t else iprop(emp))
    ∗ (each fun t => crd c .xr t) ∗ (each fun t => crd c .zr t) ∗ (each fun t => crd c .wr t))

/-- The scratch buffers of a device, at some contents. -/
def devScratch (d : Dir) (c : Dev nD) : sProp 𝕄 :=
  iprop(some' c (comm d) ∗ some' c (comm d.op) ∗ some' c (stage d) ∗ some' c (stage d.op))

/-- The round at which a semaphore of a device stands in the end. -/
def lastRound (c : Dev nD) : Cell → ℕ
  | none => 1
  | some (k, _) => if active k c then 1 else 0

/-- A tile may be held in two halves. -/
theorem own_split (e : Dev nD) {s : Shape} (m : Memref sig .tc .vmem s .f32) (Y : s.Idx → Elt F .f32) :
    own e m fullShare Y ⊢ iprop(own e m fullShare.left Y ∗ own e m fullShare.right Y) := by
  iintro H
  iapply (owns_halves (e : Thread nD τ) m fullShare Y).1
  iexact H

/-- Two halves make the tile. -/
theorem own_join (e : Dev nD) {s : Shape} (m : Memref sig .tc .vmem s .f32) (Y : s.Idx → Elt F .f32) :
    iprop(own e m fullShare.left Y ∗ own e m fullShare.right Y) ⊢ own e m fullShare Y := by
  iintro H
  iapply (owns_halves (e : Thread nD τ) m fullShare Y).2
  iexact H

section Spec

variable (X : Dev nD → S1024x512.Idx → Elt F .f32) (K : Dev nD × Cell → ℕ) (c : Dev nD)

/-- What a device starts with. -/
def devPre (d : Dir) : sProp 𝕄 :=
  iprop((bigSep Finset.univ fun k : Cell => stands c k 0) ∗ devToks d c ∗ devCreds d c ∗ own c xb fullShare (X c)
    ∗ some' c ob ∗ devScratch d c)

/-- What a device ends with. -/
def devPost (d : Dir) : sProp 𝕄 :=
  iprop((bigSep Finset.univ fun k : Cell => stands c k (lastRound c k)) ∗ own c xb fullShare (X c)
    ∗ own c ob fullShare (outAt X c) ∗ devScratch d c)

/-- The semaphores of a kind in use, after their round, have come to their end. -/
theorem stands_on (k : Kind) (h : active k c = true) :
    (each fun t => stands c (some (k, t)) 1) ⊢ (each fun t => stands (F := F) c (some (k, t)) (lastRound c (some (k, t)))) :=
  Entails.of_eq (bigSep_congr fun t _ => by rw [show lastRound c (some (k, t)) = 1 from if_pos h])

/-- The semaphores of a kind that is not in use are at their end from the start. -/
theorem stands_off (k : Kind) (h : active k c = false) :
    (each fun t => stands c (some (k, t)) 0) ⊢ (each fun t => stands (F := F) c (some (k, t)) (lastRound c (some (k, t)))) :=
  Entails.of_eq (bigSep_congr fun t _ => by
    rw [show lastRound c (some (k, t)) = 0 from if_neg (by rw [h]; decide)])

/-! ## The input block -/

/-- The tiles of the input block outside the quarter of the device. -/
def xbRest : sProp 𝕄 :=
  iprop((each fun t => own c (tile xb (colq (xp c)) t) fullShare (tileOf (X c) (colq (xp c)) t))
    ∗ (each fun t => own c (tile xb (colq (zp c)) t) fullShare (tileOf (X c) (colq (zp c)) t))
    ∗ (each fun t => own c (tile xb (colq (xp (zp c))) t) fullShare (tileOf (X c) (colq (xp (zp c))) t)))

/-- The input block is the tiles of the own quarter and the rest. -/
theorem xb_open : own c xb fullShare (X c) ⊢ iprop((each fun t => xbAt X c fullShare t) ∗ xbRest X c) :=
  BIBase.Entails.trans (block_split c xb (X c)) (Entails.of_eq (quarters c _))

/-- The tiles of the own quarter and the rest are the input block. -/
theorem xb_close : iprop((each fun t => xbAt X c fullShare t) ∗ xbRest X c) ⊢ own c xb fullShare (X c) :=
  BIBase.Entails.trans (Entails.of_eq (quarters c fun q => each fun t => own c (tile xb q t) fullShare (tileOf (X c) q t)).symm)
    (block_join c xb (X c))

/-- The input tiles may be held in two halves. -/
theorem xb_halve : (each fun t => xbAt X c fullShare t)
    ⊢ iprop((each fun t => xbAt X c fullShare.left t) ∗ each fun t => xbAt X c fullShare.right t) :=
  BIBase.Entails.trans (bigSep_mono fun t _ =>
      show xbAt X c fullShare t ⊢ iprop(xbAt X c fullShare.left t ∗ xbAt X c fullShare.right t) from
        own_split c _ _)
    (Entails.of_eq (bigSep_sep' _ _ _))

/-- The halves make the input tiles. -/
theorem xb_whole : iprop((each fun t => xbAt X c fullShare.left t) ∗ each fun t => xbAt X c fullShare.right t)
    ⊢ (each fun t => xbAt X c fullShare t) :=
  BIBase.Entails.trans (Entails.of_eq (bigSep_sep' _ _ _).symm)
    (bigSep_mono fun t _ =>
      show iprop(xbAt X c fullShare.left t ∗ xbAt X c fullShare.right t) ⊢ xbAt X c fullShare t from
        own_join c _ _)

/-! ## What the signals hand over -/

/-- The receive buffer of a chain is what a device hands its neighbour at the barrier. -/
theorem bar_dir (d : Dir) : (each fun t => some' c (cut (comm d.op) t)) ⊢ barPay (F := F) (nbr d c) (.dir d.op) := by
  show _ ⊢ bigSep Finset.univ fun t : Fin 8 => some' (nbr d.op (nbr d c)) (cut (comm d.op) t)
  rw [nbr_op_nbr]

/-- The partner's quarter of the result is what a device hands its partner across `x`. -/
theorem bar_x : (each fun t => some' c (tile ob (colq (xp c)) t)) ⊢ barPay (F := F) (xp c) .px := by
  show _ ⊢ bigSep Finset.univ fun t : Fin 8 => some' (xp (xp c)) (tile ob (colq (xp c)) t)
  rw [xp_xp]

/-- The other two quarters of the result are what a device hands its partner across `z`. -/
theorem bar_z : iprop((each fun t => some' c (tile ob (colq (zp c)) t)) ∗ each fun t => some' c (tile ob (colq (xp (zp c))) t))
    ⊢ barPay (F := F) (zp c) .pz := by
  show _ ⊢ bigSep Finset.univ fun t : Fin 8 =>
      iprop(some' (zp (zp c)) (tile ob (colq (zp c)) t) ∗ some' (zp (zp c)) (tile ob (colq (xp (zp c))) t))
  rw [zp_zp, bigSep_sep']

/-- What a device gets from its partner across `z`: two quarters of that one's result. -/
theorem got_z : barPay (F := F) c .pz
    ⊢ iprop((each fun t => some' (zp c) (tile ob (colq c) t)) ∗ each fun t => some' (zp c) (tile ob (colq (xp c)) t)) := by
  show (bigSep Finset.univ fun t : Fin 8 =>
      iprop(some' (zp c) (tile ob (colq c) t) ∗ some' (zp c) (tile ob (colq (xp c)) t))) ⊢ _
  rw [bigSep_sep']

/-- At an end of the column: what the three peers hand over. -/
theorem got_edge (d : Dir) (h : hasNbr d.op c = false) :
    (bigSep (dutiesAt c none) fun u => barPay (F := F) c u) ⊢ iprop(barPay c (.dir d) ∗ barPay c .px ∗ barPay c .pz) := by
  rw [dutiesAt_edge c d h, BI.bigSep_insert (by simp), BI.bigSep_insert (by simp), bigSep_singleton]
  exact .rfl

/-- Inside the column: what the four peers hand over. -/
theorem got_mid (d : Dir) (h : hasNbr d c = true) (h' : hasNbr d.op c = true) :
    (bigSep (dutiesAt c none) fun u => barPay (F := F) c u)
      ⊢ iprop(barPay c (.dir d) ∗ barPay c (.dir d.op) ∗ barPay c .px ∗ barPay c .pz) := by
  have hd : dutiesAt c none = {.dir d, .dir d.op, .px, .pz} := by
    cases d with
    | right => rw [dutiesAt_mid c h h']; decide
    | left => exact dutiesAt_mid c h' h
  rw [hd, BI.bigSep_insert (by cases d <;> decide), BI.bigSep_insert (by simp), BI.bigSep_insert (by simp), bigSep_singleton]
  exact .rfl

/-! ## What is owed -/

/-- What a device at an end of the column owes at the start. -/
theorem O₀_edge (d : Dir) (h : hasNbr d c = true) (h' : hasNbr d.op c = false) :
    O₀ c = owedOut c + tl (owedDir d c) 0 + tallyAt (bcell (zp c)) () 1 + tallyAt (bcell (xp c)) () 1
      + tallyAt (bcell (nbr d c)) () 1 := by
  unfold O₀ owedChain owedSig
  cases d with
  | right =>
    have h'' : hasNbr .left c = false := h'
    rw [if_pos h, if_pos h, if_neg (by rw [h'']; decide), if_neg (by rw [h'']; decide)]; simp only [add_zero]
  | left =>
    have h'' : hasNbr .right c = false := h'
    rw [if_pos h, if_pos h, if_neg (by rw [h'']; decide), if_neg (by rw [h'']; decide)]; simp only [add_zero]

/-- What a device inside the column owes at the start. -/
theorem O₀_mid (d : Dir) (h : hasNbr d c = true) (h' : hasNbr d.op c = true) :
    O₀ c = owedOut c + tl (owedDir d.op c) 0 + tl (owedDir d c) 0 + tallyAt (bcell (zp c)) () 1 + tallyAt (bcell (xp c)) () 1
      + tallyAt (bcell (nbr .right c)) () 1 + tallyAt (bcell (nbr .left c)) () 1 := by
  unfold O₀ owedChain owedSig
  cases d with
  | right =>
    have h'' : hasNbr .left c = true := h'
    rw [if_pos h, if_pos h, if_pos h'', if_pos h'', add_right_comm (owedOut c)]; rfl
  | left =>
    have h'' : hasNbr .right c = true := h'
    rw [if_pos h, if_pos h, if_pos h'', if_pos h'']; rfl

/-! ## The exchange, which all devices run alike -/

/-- What the exchange takes: the receive semaphores, the credits, the tokens and the partner's tiles. -/
def exA : sProp 𝕄 :=
  iprop((each fun t => forwardA c t) ∗ (each fun t => receiveA c t) ∗ (each fun t => stands c (some (.xs, t)) 0)
    ∗ (each fun t => crd c .xs t) ∗ (each fun t => stands c (some (.zs, t)) 0) ∗ (each fun t => crd c .zs t)
    ∗ (each fun t => stands c (some (.ws, t)) 0))

/-- What the exchange leaves: the finished result block, and the semaphores one round on. -/
def exB : sProp 𝕄 :=
  iprop((each fun t => stands c (some (.xs, t)) 1) ∗ (each fun t => stands c (some (.xr, t)) 1)
    ∗ (each fun t => stands c (some (.zs, t)) 1) ∗ (each fun t => stands c (some (.zr, t)) 1)
    ∗ (each fun t => stands c (some (.ws, t)) 1) ∗ (each fun t => stands c (some (.wr, t)) 1)
    ∗ own c ob fullShare (outAt X c))

/-- The eight tiles after forwarding, resource by resource. -/
theorem forwardB_all : (each fun t => forwardB (F := F) c t)
    = iprop((each fun t => stands c (some (.xr, t)) 1) ∗ each fun t => crd c .ws t) := by
  unfold forwardB; exact bigSep_sep' _ _ _

/-- The eight tiles before the wait for the own copies, resource by resource. -/
theorem settleA_all : (each fun t => settleA (F := F) c t)
    = iprop((each fun t => stands c (some (.xs, t)) 0) ∗ (each fun t => crd c .xs t) ∗ (each fun t => stands c (some (.zs, t)) 0)
      ∗ (each fun t => crd c .zs t) ∗ (each fun t => stands c (some (.ws, t)) 0) ∗ each fun t => crd c .ws t) := by
  unfold settleA each; simp only [bigSep_sep']

/-- The eight tiles after the wait for the own copies, resource by resource. -/
theorem settleB_all : (each fun t => settleB X c t)
    = iprop((each fun t => stands c (some (.xs, t)) 1) ∗ (each fun t => stands c (some (.zs, t)) 1)
      ∗ (each fun t => stands c (some (.ws, t)) 1) ∗ (each fun t => obAt X c c t) ∗ each fun t => obAt X c (xp c) t) := by
  unfold settleB each; simp only [bigSep_sep']

/-- The eight tiles after receiving across `z`, resource by resource. -/
theorem receiveB_all : (each fun t => receiveB X c t)
    = iprop((each fun t => stands c (some (.zr, t)) 1) ∗ (each fun t => stands c (some (.wr, t)) 1)
      ∗ (each fun t => obAt X c (zp c) t) ∗ each fun t => obAt X c (xp (zp c)) t) := by
  unfold receiveB each; simp only [bigSep_sep']

/-- The exchange with the partners. -/
theorem wp_exchange {Φ : PUnit → sProp 𝕄} :
    iprop(recs X K ∗ ow c (tl (owedW c) 0) ∗ exA c)
      ⊢ iprop(((ow c 0 ∗ exB X c) -∗ Φ ⟨⟩) -∗ WP c (exchange c) Φ) := by
  unfold exchange exA
  simp only [wp_bind]
  iintro ⟨#HR, Ho, HF, HRc, Sxs, Cxs, Szs, Czs, Sws⟩ Hk
  iapply (wp_forTiles c (forward c) (fun n => st X K c (tl (owedW c) n)) (forwardA c) (forwardB c) (forward_turn X K c)) $$ [Ho HF]
  · isplitl [Ho]
    · isplitr; · iexact HR
      iexact Ho
    iexact HF
  iintro ⟨⟨-, Ho⟩, HF⟩
  ihave Ho := (Entails.of_eq (congrArg (ow c) (tl_end (owedW c)))) $$ Ho
  ihave HF := (Entails.of_eq (forwardB_all c)) $$ HF
  icases HF with ⟨Sxr, Cws⟩
  iapply (wp_forTiles c (receive c) (fun _ => st X K c 0) (receiveA c) (receiveB X c) (receive_turn X K c)) $$ [Ho HRc]
  · isplitl [Ho]
    · isplitr; · iexact HR
      iexact Ho
    iexact HRc
  iintro ⟨⟨-, Ho⟩, HB⟩
  ihave HB := (Entails.of_eq (receiveB_all X c)) $$ HB
  icases HB with ⟨Szr, Swr, Vz, Vw⟩
  iapply (wp_forTiles c (settle c) (fun _ => st X K c 0) (settleA c) (settleB X c) (settle_turn X K c))
    $$ [Ho Sxs Cxs Szs Czs Sws Cws]
  · isplitl [Ho]
    · isplitr; · iexact HR
      iexact Ho
    iapply (Entails.of_eq (settleA_all c).symm)
    isplitl [Sxs]; · iexact Sxs
    isplitl [Cxs]; · iexact Cxs
    isplitl [Szs]; · iexact Szs
    isplitl [Czs]; · iexact Czs
    isplitl [Sws] <;> iassumption
  iintro ⟨⟨-, Ho⟩, HS⟩
  ihave HS := (Entails.of_eq (settleB_all X c)) $$ HS
  icases HS with ⟨Sxs, Szs, Sws, Vc, Vx⟩
  iapply Hk
  unfold exB
  isplitl [Ho]; · iexact Ho
  isplitl [Sxs]; · iexact Sxs
  isplitl [Sxr]; · iexact Sxr
  isplitl [Szs]; · iexact Szs
  isplitl [Szr]; · iexact Szr
  isplitl [Sws]; · iexact Sws
  isplitl [Swr]; · iexact Swr
  iapply (out_join X c)
  isplitl [Vc]; · iexact Vc
  isplitl [Vx]; · iexact Vx
  isplitl [Vz] <;> iassumption

end Spec

end Cert.AllReduce
-- ==== Proof.Device.lean ====
/-
# The program of a device, run

A device at an end of its column of four, and a device in the middle: each takes what it starts with to what it ends
with, and owes nothing then.
-/
module

public import proofs.«01_k».proof.Proof.Body

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run

variable (X : Dev nD → S1024x512.Idx → Elt F .f32) (K : Dev nD × Cell → ℕ) (c : Dev nD)

/-! ## The families that the loops take and leave, one resource at a time -/

/-- The eight tiles before sending the input, resource by resource. -/
theorem sendA_all (d : Dir) : (each fun t => sendA X c d t)
    = iprop((each fun t => xbAt X c fullShare.right t) ∗ (each fun t => some' (nbr d c) (cut (comm d) t))
      ∗ (each fun t => tok1 c (.send d) t) ∗ each fun t => tok1 (nbr d c) (.recv d) t) := by
  unfold sendA each; simp only [bigSep_sep']

/-- The eight tiles before handing on the finished sums, resource by resource. -/
theorem pushA_all : (each fun t => pushA (F := F) c t)
    = iprop((each fun t => some' (xp c) (tile ob (colq c) t)) ∗ (each fun t => some' (zp c) (tile ob (colq c) t))
      ∗ (each fun t => tok1 c .xs t) ∗ (each fun t => tok1 (xp c) .xr t) ∗ (each fun t => tok1 c .zs t)
      ∗ each fun t => tok1 (zp c) .zr t) := by
  unfold pushA each; simp only [bigSep_sep']

/-- The eight tiles before the last sums at the end of a chain, resource by resource. -/
theorem endA_all (d : Dir) : (each fun t => endA X c d t)
    = iprop((each fun t => stands c (some (.recv d, t)) 0) ∗ (each fun t => crd c (.recv d) t)
      ∗ (each fun t => xbAt X c fullShare.left t) ∗ (each fun t => some' c (tile ob (colq c) t)) ∗ each fun t => pushA c t) := by
  unfold endA each; simp only [bigSep_sep']

/-- The eight tiles after them. -/
theorem endB_all (d : Dir) : (each fun t => endB X c d t)
    = iprop((each fun t => stands c (some (.recv d, t)) 1) ∗ (each fun t => xbAt X c fullShare.left t)
      ∗ (each fun t => some' c (cut (comm d) t)) ∗ (each fun t => crd c .xs t) ∗ each fun t => crd c .zs t) := by
  unfold endB each; simp only [bigSep_sep']

/-- The eight tiles before forwarding, resource by resource. -/
theorem forwardA_all : (each fun t => forwardA (F := F) c t)
    = iprop((each fun t => stands c (some (.xr, t)) 0) ∗ (each fun t => crd c .xr t)
      ∗ (each fun t => some' (zp c) (tile ob (colq (xp c)) t)) ∗ (each fun t => tok1 c .ws t)
      ∗ each fun t => tok1 (zp c) .wr t) := by
  unfold forwardA each; simp only [bigSep_sep']

/-- The eight tiles before receiving across `z`, resource by resource. -/
theorem receiveA_all : (each fun t => receiveA (F := F) c t)
    = iprop((each fun t => stands c (some (.zr, t)) 0) ∗ (each fun t => crd c .zr t)
      ∗ (each fun t => stands c (some (.wr, t)) 0) ∗ each fun t => crd c .wr t) := by
  unfold receiveA each; simp only [bigSep_sep']

/-- The eight tiles before the wait for what was sent along `y`, resource by resource. -/
theorem drainA_all (d : Dir) : (each fun t => drainA (F := F) c d t)
    = iprop((each fun t => stands c (some (.send d, t)) 0) ∗ each fun t => crd c (.send d) t) := by
  unfold drainA each; simp only [bigSep_sep']

/-- A neighbour along `y` hands over its receive buffer. -/
theorem got_dir (d : Dir) : barPay (F := F) c (.dir d) ⊢ (each fun t => some' (nbr d c) (cut (comm d) t)) := .rfl

/-- The partner across `x` hands over a quarter of its result. -/
theorem got_x : barPay (F := F) c .px ⊢ (each fun t => some' (xp c) (tile ob (colq c) t)) := .rfl

/-! ## At an end of the chain -/

/-- The program of a device at an end of its column. -/
theorem edge_run (d : Dir) (h : hasNbr d c = true) (h' : hasNbr d.op c = false) :
    iprop(recs X K ∗ ow c (O₀ c) ∗ devPre X c d) ⊢ WP c (edgeProg c d) (fun _ => iprop(ow c 0 ∗ devPost X c d)) := by
  have h'' : hasNbr d.op.op c = true := by rw [Dir.op_op]; exact h
  unfold edgeProg meet devPre devToks devCreds devScratch
  simp only [wp_bind]
  rw [O₀_edge c d h h', if_neg (show ¬ hasNbr d.op c = true by rw [h']; decide), if_pos h]
  iintro ⟨#HR, Ho, HS, ⟨TB, -, TX, TZ, Tsd, -, Trd, -, Txs, Txr, Tzs, Tzr, Tws, Twr⟩, ⟨Cb, -, Cr, Cxr, Czr, Cwr⟩, Hx, Hob, Hcd, Hco, Hsd, Hso⟩
  ihave HS := (Entails.of_eq (cells d fun k => stands c k 0)) $$ HS
  icases HS with ⟨Sb, Ssd, Sso, Srd, Sro, Sxs, Sxr, Szs, Szr, Sws, Swr⟩
  ihave Hx := (xb_open X c) $$ Hx
  icases Hx with ⟨Hx, HxR⟩
  ihave Hx := (xb_halve X c) $$ Hx
  icases Hx with ⟨HxL, HxR'⟩
  ihave Hob := (block_some c ob) $$ Hob
  icases Hob with ⟨Bc, Bx, Bz, Bw⟩
  -- the signals
  ihave Hco := (scratch_split c (comm d.op)) $$ Hco
  ihave Hco := (bar_dir c d) $$ Hco
  iapply (wp_sigAt X K c (nbr d c) (.dir d.op) (by show hasNbr d.op (nbr d c) = true; rw [hasNbr_nbr]; exact h)) $$ [Ho TB Hco]
  · isplitr; · iexact HR
    isplitl [Ho]; · iexact Ho
    isplitl [TB] <;> iassumption
  iintro Ho
  ihave Bx := (bar_x c) $$ Bx
  iapply (wp_sigAt X K c (xp c) .px rfl) $$ [Ho TX Bx]
  · isplitr; · iexact HR
    isplitl [Ho]; · iexact Ho
    isplitl [TX] <;> iassumption
  iintro Ho
  ihave Bz := (bar_z c) $$ [Bz Bw]
  · isplitl [Bz] <;> iassumption
  iapply (wp_sigAt X K c (zp c) .pz rfl) $$ [Ho TZ Bz]
  · isplitr; · iexact HR
    isplitl [Ho]; · iexact Ho
    isplitl [TZ] <;> iassumption
  iintro Ho
  -- the barrier
  iapply (wp_barrier X K c (owedOut c + tl (owedDir d c) 0)
    (above_add (above_out c 1 (by omega)) (above_tl _ _ fun t => above_dir d c 1 h (by omega) t))) $$ [Ho Sb Cb]
  · isplitr; · iexact HR
    isplitl [Sb]; · iexact Sb
    isplitl [Cb] <;> iassumption
  iintro ⟨Sb, HB, Ho⟩
  ihave HB := (got_edge c d h') $$ HB
  icases HB with ⟨Gd, Gx, Gz⟩
  ihave Gd := (got_dir c d) $$ Gd
  ihave Gx := (got_x c) $$ Gx
  ihave Gz := (got_z c) $$ Gz
  icases Gz with ⟨Gz, Gw⟩
  -- the input tiles travel
  iapply (wp_forTiles c (sendX c d) (fun n => st X K c (owedOut c + tl (owedDir d c) n)) (sendA X c d)
    (fun t => crd c (.send d) t) (sendX_step X K c d h h')) $$ [Ho HxR' Gd Tsd Trd]
  · isplitl [Ho]
    · isplitr; · iexact HR
      iexact Ho
    iapply (Entails.of_eq (sendA_all X c d).symm)
    isplitl [HxR']; · iexact HxR'
    isplitl [Gd]; · iexact Gd
    isplitl [Tsd] <;> iassumption
  iintro ⟨⟨-, Ho⟩, Csd⟩
  ihave Ho := (Entails.of_eq (congrArg (ow c) (show owedOut c + tl (owedDir d c) 8 = owedPush c 0 by
    rw [tl_end, add_zero]; rfl))) $$ Ho
  -- the partial sums arrive and the finished tiles go to the partners
  iapply (wp_forTiles c (endPush c d.op) (fun n => st X K c (owedPush c n)) (endA X c d.op) (endB X c d.op)
    (endPush_step X K c d.op h' h'')) $$ [Ho Sro Cr HxL Bc Gx Gz Txs Txr Tzs Tzr]
  · isplitl [Ho]
    · isplitr; · iexact HR
      iexact Ho
    iapply (Entails.of_eq (endA_all X c d.op).symm)
    isplitl [Sro]; · iexact Sro
    isplitl [Cr]; · iexact Cr
    isplitl [HxL]; · iexact HxL
    isplitl [Bc]; · iexact Bc
    iapply (Entails.of_eq (pushA_all c).symm)
    isplitl [Gx]; · iexact Gx
    isplitl [Gz]; · iexact Gz
    isplitl [Txs]; · iexact Txs
    isplitl [Txr]; · iexact Txr
    isplitl [Tzs] <;> iassumption
  iintro ⟨⟨-, Ho⟩, HE⟩
  ihave Ho := (Entails.of_eq (congrArg (ow c) (show owedPush c 8 = tl (owedW c) 0 by
    unfold owedPush; rw [tl_end, tl_end, add_zero, add_zero]))) $$ Ho
  ihave HE := (Entails.of_eq (endB_all X c d.op)) $$ HE
  icases HE with ⟨Sro, HxL, Hco, Cxs, Czs⟩
  iapply (wp_exchange X K c) $$ [Ho Sxr Cxr Gw Tws Twr Szr Czr Swr Cwr Sxs Cxs Szs Czs Sws]
  · isplitr; · iexact HR
    isplitl [Ho]; · iexact Ho
    unfold exA
    isplitl [Sxr Cxr Gw Tws Twr]
    · iapply (Entails.of_eq (forwardA_all c).symm)
      isplitl [Sxr]; · iexact Sxr
      isplitl [Cxr]; · iexact Cxr
      isplitl [Gw]; · iexact Gw
      isplitl [Tws] <;> iassumption
    isplitl [Szr Czr Swr Cwr]
    · iapply (Entails.of_eq (receiveA_all c).symm)
      isplitl [Szr]; · iexact Szr
      isplitl [Czr]; · iexact Czr
      isplitl [Swr] <;> iassumption
    isplitl [Sxs]; · iexact Sxs
    isplitl [Cxs]; · iexact Cxs
    isplitl [Szs]; · iexact Szs
    isplitl [Czs] <;> iassumption
  unfold exB
  iintro ⟨Ho, Sxs, Sxr, Szs, Szr, Sws, Swr, Hob⟩
  -- the sends end
  iapply (wp_forTiles c (drainX c d) (fun _ => st X K c 0) (drainA c d)
    (fun t => iprop(stands c (some (.send d, t)) 1 ∗ xbAt X c fullShare.right t)) (drainX_turn X K c d h h')) $$ [Ho Ssd Csd]
  · isplitl [Ho]
    · isplitr; · iexact HR
      iexact Ho
    iapply (Entails.of_eq (drainA_all c d).symm)
    isplitl [Ssd] <;> iassumption
  iintro ⟨⟨-, Ho⟩, HD⟩
  ihave HD := (Entails.of_eq (bigSep_sep' _ _ _)) $$ HD
  icases HD with ⟨Ssd, HxR'⟩
  -- what is left
  unfold devPost devScratch
  isplitl [Ho]; · iexact Ho
  isplitl [Sb Ssd Sso Srd Sro Sxs Sxr Szs Szr Sws Swr]
  · iapply (Entails.of_eq (cells d fun k => stands c k (lastRound c k)).symm)
    isplitl [Sb]; · iexact Sb
    isplitl [Ssd]; · iapply (stands_on c (.send d) h); iexact Ssd
    isplitl [Sso]; · iapply (stands_off c (.send d.op) h'); iexact Sso
    isplitl [Srd]; · iapply (stands_off c (.recv d) h'); iexact Srd
    isplitl [Sro]; · iapply (stands_on c (.recv d.op) h''); iexact Sro
    isplitl [Sxs]; · iapply (stands_on c .xs rfl); iexact Sxs
    isplitl [Sxr]; · iapply (stands_on c .xr rfl); iexact Sxr
    isplitl [Szs]; · iapply (stands_on c .zs rfl); iexact Szs
    isplitl [Szr]; · iapply (stands_on c .zr rfl); iexact Szr
    isplitl [Sws]; · iapply (stands_on c .ws rfl); iexact Sws
    iapply (stands_on c .wr rfl); iexact Swr
  isplitl [HxL HxR' HxR]
  · iapply (xb_close X c)
    isplitl [HxL HxR']
    · iapply (xb_whole X c)
      isplitl [HxL] <;> iassumption
    iexact HxR
  isplitl [Hob]; · iexact Hob
  isplitl [Hcd]; · iexact Hcd
  isplitl [Hco]; · iapply (scratch_join c (comm d.op)); iexact Hco
  isplitl [Hsd] <;> iassumption

/-! ## In the middle of the chain -/

/-- The eight tiles before passing sums on, resource by resource. -/
theorem relayA_all (d : Dir) : (each fun t => relayA (F := F) c d t)
    = iprop((each fun t => stands c (some (.recv d, t)) 0) ∗ (each fun t => crd c (.recv d) t)
      ∗ (each fun t => some' c (cut (stage d) t)) ∗ (each fun t => some' (nbr d c) (cut (comm d) t))
      ∗ (each fun t => tok1 c (.send d) t) ∗ each fun t => tok1 (nbr d c) (.recv d) t) := by
  unfold relayA each; simp only [bigSep_sep']

/-- The eight tiles after passing sums on, resource by resource. -/
theorem relayB_all (d : Dir) : (each fun t => relayB X c d t)
    = iprop((each fun t => stands c (some (.recv d, t)) 1)
      ∗ (each fun t => own c (cut (comm d) t) fullShare (carry X d (nbr d.op c) t))
      ∗ (each fun t => own c (cut (stage d) t) fullShare.left (carry X d c t)) ∗ each fun t => crd c (.send d) t) := by
  unfold relayB each; simp only [bigSep_sep']

/-- The eight tiles before the last sums inside the column, resource by resource. -/
theorem midA_all (d : Dir) : (each fun t => midA X c d t)
    = iprop((each fun t => xbAt X c fullShare t) ∗ (each fun t => relayB X c d t) ∗ (each fun t => relayA c d.op t)
      ∗ (each fun t => some' c (tile ob (colq c) t)) ∗ each fun t => pushA c t) := by
  unfold midA each; simp only [bigSep_sep']

/-- The eight tiles after them. -/
theorem midB_all (d : Dir) : (each fun t => midB X c d t)
    = iprop((each fun t => xbAt X c fullShare t) ∗ (each fun t => relayB X c d t) ∗ (each fun t => relayB X c d.op t)
      ∗ (each fun t => crd c .xs t) ∗ each fun t => crd c .zs t) := by
  unfold midB each; simp only [bigSep_sep']

/-- The two chains' waits, taken tile by tile. -/
theorem drainMidA_all (d : Dir) :
    iprop((each fun t => drainA (F := F) c d t) ∗ each fun t => drainA c d.op t) ⊢ (each fun t => drainMidA c t) := by
  have e : (each fun t => drainMidA (F := F) c t)
      = iprop((each fun t => drainA c .right t) ∗ each fun t => drainA c .left t) := by
    unfold drainMidA each; simp only [bigSep_sep']
  rw [e]
  iintro ⟨H, H'⟩
  cases d with
  | right =>
    isplitl [H]; · iexact H
    iexact H'
  | left =>
    isplitl [H']; · iexact H'
    iexact H

/-- After the waits tile by tile: the two chains again. -/
theorem drainMidB_all (d : Dir) : (each fun t => drainMidB X c t)
    ⊢ iprop((each fun t => stands c (some (.send d, t)) 1) ∗ (each fun t => stands c (some (.send d.op, t)) 1)
      ∗ (each fun t => own c (cut (stage d) t) fullShare.right (carry X d c t))
      ∗ each fun t => own c (cut (stage d.op) t) fullShare.right (carry X d.op c t)) := by
  have e : (each fun t => drainMidB X c t)
      = iprop((each fun t => stands c (some (.send .right, t)) 1) ∗ (each fun t => stands c (some (.send .left, t)) 1)
      ∗ (each fun t => own c (cut (stage .right) t) fullShare.right (carry X .right c t))
      ∗ each fun t => own c (cut (stage .left) t) fullShare.right (carry X .left c t)) := by
    unfold drainMidB each; simp only [bigSep_sep']
  rw [e]
  iintro ⟨S, S', V, V'⟩
  cases d with
  | right =>
    isplitl [S]; · iexact S
    isplitl [S']; · iexact S'
    isplitl [V]; · iexact V
    iexact V'
  | left =>
    isplitl [S']; · iexact S'
    isplitl [S]; · iexact S
    isplitl [V']; · iexact V'
    iexact V

/-- What the two signals along `y` take. -/
theorem sides (d : Dir) :
    iprop(tok (F := F) (nbr d c) none (.dir d.op) ∗ tok (nbr d.op c) none (.dir d)
      ∗ (each fun t => some' c (cut (comm d) t)) ∗ each fun t => some' c (cut (comm d.op) t))
      ⊢ iprop((tok (nbr .left c) none (.dir .right) ∗ barPay (nbr .left c) (.dir .right))
        ∗ (tok (nbr .right c) none (.dir .left) ∗ barPay (nbr .right c) (.dir .left))) := by
  have hl := bar_dir (F := F) c .left
  have hr := bar_dir (F := F) c .right
  iintro ⟨T, T', H, H'⟩
  cases d with
  | right =>
    isplitl [T' H]
    · isplitl [T']; · iexact T'
      iapply hl; iexact H
    isplitl [T]; · iexact T
    iapply hr; iexact H'
  | left =>
    isplitl [T H']
    · isplitl [T]; · iexact T
      iapply hl; iexact H'
    isplitl [T']; · iexact T'
    iapply hr; iexact H

/-- A staging buffer, whole again after its sends. -/
theorem stage_join (d : Dir) :
    iprop((each fun t => own c (cut (stage d) t) fullShare.left (carry X d c t))
      ∗ each fun t => own c (cut (stage d) t) fullShare.right (carry X d c t)) ⊢ some' c (stage d) :=
  BIBase.Entails.trans (Entails.of_eq (bigSep_sep' _ _ _).symm) (BIBase.Entails.trans (bigSep_mono fun t _ =>
      show iprop(own c (cut (stage d) t) fullShare.left (carry X d c t) ∗ own c (cut (stage d) t) fullShare.right (carry X d c t))
        ⊢ some' c (cut (stage d) t) from BIBase.Entails.trans (own_join c _ _) (some_intro c _ _))
    (scratch_join c (stage d)))

/-- A receive buffer, whole again. -/
theorem comm_join (d : Dir) :
    (each fun t => own c (cut (comm d) t) fullShare (carry X d (nbr d.op c) t)) ⊢ some' c (comm d) :=
  BIBase.Entails.trans (bigSep_mono fun t _ =>
      show own c (cut (comm d) t) fullShare (carry X d (nbr d.op c) t) ⊢ some' c (cut (comm d) t) from some_intro c _ _)
    (scratch_join c (comm d))

/-- The program of a device in the middle of its column. -/
theorem mid_run (d : Dir) (h : hasNbr d c = true) (h' : hasNbr d.op c = true) (hle : hop d c ≤ hop d.op c) :
    iprop(recs X K ∗ ow c (O₀ c) ∗ devPre X c d) ⊢ WP c (midProg c d) (fun _ => iprop(ow c 0 ∗ devPost X c d)) := by
  have h'' : hasNbr d.op.op c = true := by rw [Dir.op_op]; exact h
  have hr : hasNbr .right c = true := by cases d <;> assumption
  have hl : hasNbr .left c = true := by cases d <;> assumption
  unfold midProg meet devPre devToks devCreds devScratch
  simp only [wp_bind]
  rw [O₀_mid c d h h', if_pos h', if_pos h]
  iintro ⟨#HR, Ho, HS, ⟨TB, TB', TX, TZ, Tsd, Tso, Trd, Tro, Txs, Txr, Tzs, Tzr, Tws, Twr⟩, ⟨Cb, Crd, Cro, Cxr, Czr, Cwr⟩, Hx, Hob, Hcd, Hco, Hsd, Hso⟩
  ihave HS := (Entails.of_eq (cells d fun k => stands c k 0)) $$ HS
  icases HS with ⟨Sb, Ssd, Sso, Srd, Sro, Sxs, Sxr, Szs, Szr, Sws, Swr⟩
  ihave Hx := (xb_open X c) $$ Hx
  icases Hx with ⟨Hx, HxR⟩
  ihave Hob := (block_some c ob) $$ Hob
  icases Hob with ⟨Bc, Bx, Bz, Bw⟩
  ihave Hsd := (scratch_split c (stage d)) $$ Hsd
  ihave Hso := (scratch_split c (stage d.op)) $$ Hso
  -- the signals
  ihave Hcd := (scratch_split c (comm d)) $$ Hcd
  ihave Hco := (scratch_split c (comm d.op)) $$ Hco
  ihave HB := (sides c d) $$ [TB TB' Hcd Hco]
  · isplitl [TB]; · iexact TB
    isplitl [TB']; · iexact TB'
    isplitl [Hcd] <;> iassumption
  icases HB with ⟨⟨TL, HL⟩, TR, HRt⟩
  iapply (wp_sigAt X K c (nbr .left c) (.dir .right) (by
    show hasNbr Dir.left.op (nbr .left c) = true; rw [hasNbr_nbr]; exact hl)) $$ [Ho TL HL]
  · isplitr; · iexact HR
    isplitl [Ho]; · iexact Ho
    isplitl [TL] <;> iassumption
  iintro Ho
  iapply (wp_sigAt X K c (nbr .right c) (.dir .left) (by
    show hasNbr Dir.right.op (nbr .right c) = true; rw [hasNbr_nbr]; exact hr)) $$ [Ho TR HRt]
  · isplitr; · iexact HR
    isplitl [Ho]; · iexact Ho
    isplitl [TR] <;> iassumption
  iintro Ho
  ihave Bx := (bar_x c) $$ Bx
  iapply (wp_sigAt X K c (xp c) .px rfl) $$ [Ho TX Bx]
  · isplitr; · iexact HR
    isplitl [Ho]; · iexact Ho
    isplitl [TX] <;> iassumption
  iintro Ho
  ihave Bz := (bar_z c) $$ [Bz Bw]
  · isplitl [Bz] <;> iassumption
  iapply (wp_sigAt X K c (zp c) .pz rfl) $$ [Ho TZ Bz]
  · isplitr; · iexact HR
    isplitl [Ho]; · iexact Ho
    isplitl [TZ] <;> iassumption
  iintro Ho
  -- the barrier
  iapply (wp_barrier X K c (owedOut c + tl (owedDir d.op c) 0 + tl (owedDir d c) 0)
    (above_add (above_add (above_out c 1 (by omega)) (above_tl _ _ fun t => above_dir d.op c 1 h' (by omega) t))
      (above_tl _ _ fun t => above_dir d c 1 h (by omega) t))) $$ [Ho Sb Cb]
  · isplitr; · iexact HR
    isplitl [Sb]; · iexact Sb
    isplitl [Cb] <;> iassumption
  iintro ⟨Sb, HB, Ho⟩
  ihave HB := (got_mid c d h h') $$ HB
  icases HB with ⟨Gd, Go, Gx, Gz⟩
  ihave Gd := (got_dir c d) $$ Gd
  ihave Go := (got_dir c d.op) $$ Go
  ihave Gx := (got_x c) $$ Gx
  ihave Gz := (got_z c) $$ Gz
  icases Gz with ⟨Gz, Gw⟩
  -- the partial sums of the nearer end travel on
  iapply (wp_forTiles c (relay c d) (fun n => st X K c (owedOut c + tl (owedDir d.op c) 0 + tl (owedDir d c) n))
    (fun t => iprop(xbAt X c fullShare t ∗ relayA c d t)) (fun t => iprop(xbAt X c fullShare t ∗ relayB X c d t))
    (relay_turn X K c d h h' hle)) $$ [Ho Hx Srd Crd Hsd Gd Tsd Trd]
  · isplitl [Ho]
    · isplitr; · iexact HR
      iexact Ho
    iapply (Entails.of_eq (bigSep_sep' _ _ _).symm)
    isplitl [Hx]; · iexact Hx
    iapply (Entails.of_eq (relayA_all c d).symm)
    isplitl [Srd]; · iexact Srd
    isplitl [Crd]; · iexact Crd
    isplitl [Hsd]; · iexact Hsd
    isplitl [Gd]; · iexact Gd
    isplitl [Tsd] <;> iassumption
  iintro ⟨⟨-, Ho⟩, HE⟩
  ihave Ho := (Entails.of_eq (congrArg (ow c) (show owedOut c + tl (owedDir d.op c) 0 + tl (owedDir d c) 8
      = owedPush c 0 + tl (owedDir d.op c) 0 by rw [tl_end, add_zero]; rfl))) $$ Ho
  ihave HE := (Entails.of_eq (bigSep_sep' _ _ _)) $$ HE
  icases HE with ⟨Hx, HRel⟩
  -- those of the farther end travel on, and the finished tiles go to the partners
  iapply (wp_forTiles c (relayPush c d.op) (fun n => st X K c (owedPush c n + tl (owedDir d.op c) n)) (midA X c d) (midB X c d)
    (relayPush_turn X K c d h h')) $$ [Ho Hx HRel Sro Cro Hso Go Tso Tro Bc Gx Gz Txs Txr Tzs Tzr]
  · isplitl [Ho]
    · isplitr; · iexact HR
      iexact Ho
    iapply (Entails.of_eq (midA_all X c d).symm)
    isplitl [Hx]; · iexact Hx
    isplitl [HRel]; · iexact HRel
    isplitl [Sro Cro Hso Go Tso Tro]
    · iapply (Entails.of_eq (relayA_all c d.op).symm)
      isplitl [Sro]; · iexact Sro
      isplitl [Cro]; · iexact Cro
      isplitl [Hso]; · iexact Hso
      isplitl [Go]; · iexact Go
      isplitl [Tso] <;> iassumption
    isplitl [Bc]; · iexact Bc
    iapply (Entails.of_eq (pushA_all c).symm)
    isplitl [Gx]; · iexact Gx
    isplitl [Gz]; · iexact Gz
    isplitl [Txs]; · iexact Txs
    isplitl [Txr]; · iexact Txr
    isplitl [Tzs] <;> iassumption
  iintro ⟨⟨-, Ho⟩, HE⟩
  ihave Ho := (Entails.of_eq (congrArg (ow c) (show owedPush c 8 + tl (owedDir d.op c) 8 = tl (owedW c) 0 by
    unfold owedPush; rw [tl_end, tl_end, tl_end, add_zero, add_zero, add_zero]))) $$ Ho
  ihave HE := (Entails.of_eq (midB_all X c d)) $$ HE
  icases HE with ⟨Hx, HRd, HRo, Cxs, Czs⟩
  ihave HRd := (Entails.of_eq (relayB_all X c d)) $$ HRd
  icases HRd with ⟨Srd, Hcd, Hsd, Csd⟩
  ihave HRo := (Entails.of_eq (relayB_all X c d.op)) $$ HRo
  icases HRo with ⟨Sro, Hco, Hso, Cso⟩
  iapply (wp_exchange X K c) $$ [Ho Sxr Cxr Gw Tws Twr Szr Czr Swr Cwr Sxs Cxs Szs Czs Sws]
  · isplitr; · iexact HR
    isplitl [Ho]; · iexact Ho
    unfold exA
    isplitl [Sxr Cxr Gw Tws Twr]
    · iapply (Entails.of_eq (forwardA_all c).symm)
      isplitl [Sxr]; · iexact Sxr
      isplitl [Cxr]; · iexact Cxr
      isplitl [Gw]; · iexact Gw
      isplitl [Tws] <;> iassumption
    isplitl [Szr Czr Swr Cwr]
    · iapply (Entails.of_eq (receiveA_all c).symm)
      isplitl [Szr]; · iexact Szr
      isplitl [Czr]; · iexact Czr
      isplitl [Swr] <;> iassumption
    isplitl [Sxs]; · iexact Sxs
    isplitl [Cxs]; · iexact Cxs
    isplitl [Szs]; · iexact Szs
    isplitl [Czs] <;> iassumption
  unfold exB
  iintro ⟨Ho, Sxs, Sxr, Szs, Szr, Sws, Swr, Hob⟩
  -- the sends end
  iapply (wp_forTiles c drainMid (fun _ => st X K c 0) (drainMidA c) (drainMidB X c) (drainMid_turn X K c hr hl))
    $$ [Ho Ssd Csd Sso Cso]
  · isplitl [Ho]
    · isplitr; · iexact HR
      iexact Ho
    iapply (drainMidA_all c d)
    isplitl [Ssd Csd]
    · iapply (Entails.of_eq (drainA_all c d).symm)
      isplitl [Ssd] <;> iassumption
    iapply (Entails.of_eq (drainA_all c d.op).symm)
    isplitl [Sso] <;> iassumption
  iintro ⟨⟨-, Ho⟩, HD⟩
  ihave HD := (drainMidB_all X c d) $$ HD
  icases HD with ⟨Ssd, Sso, Hsd', Hso'⟩
  -- what is left
  unfold devPost devScratch
  isplitl [Ho]; · iexact Ho
  isplitl [Sb Ssd Sso Srd Sro Sxs Sxr Szs Szr Sws Swr]
  · iapply (Entails.of_eq (cells d fun k => stands c k (lastRound c k)).symm)
    isplitl [Sb]; · iexact Sb
    isplitl [Ssd]; · iapply (stands_on c (.send d) h); iexact Ssd
    isplitl [Sso]; · iapply (stands_on c (.send d.op) h'); iexact Sso
    isplitl [Srd]; · iapply (stands_on c (.recv d) h'); iexact Srd
    isplitl [Sro]; · iapply (stands_on c (.recv d.op) h''); iexact Sro
    isplitl [Sxs]; · iapply (stands_on c .xs rfl); iexact Sxs
    isplitl [Sxr]; · iapply (stands_on c .xr rfl); iexact Sxr
    isplitl [Szs]; · iapply (stands_on c .zs rfl); iexact Szs
    isplitl [Szr]; · iapply (stands_on c .zr rfl); iexact Szr
    isplitl [Sws]; · iapply (stands_on c .ws rfl); iexact Sws
    iapply (stands_on c .wr rfl); iexact Swr
  isplitl [Hx HxR]
  · iapply (xb_close X c)
    isplitl [Hx] <;> iassumption
  isplitl [Hob]; · iexact Hob
  isplitl [Hcd]; · iapply (comm_join X c d); iexact Hcd
  isplitl [Hco]; · iapply (comm_join X c d.op); iexact Hco
  isplitl [Hsd Hsd']
  · iapply (stage_join X c d)
    isplitl [Hsd] <;> iassumption
  iapply (stage_join X c d.op)
  isplitl [Hso] <;> iassumption

end Run

end Cert.AllReduce
-- ==== Proof.Credits.lean ====
/-
# The credits at launch

What the devices owe at launch gives each device the credits of what it waits for.
-/
module

public import proofs.«01_k».proof.Proof.Device

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What is owed from the first tile on is the sum over the eight tiles. -/
theorem tl_all (f : Fin 8 → Owed) : tl f 0 = ∑ t : Fin 8, f t := by
  unfold tl
  rw [Finset.filter_true_of_mem fun t _ => Nat.zero_le _]

/-- A permutation of the devices, from a map and its inverse. -/
def around (f g : Dev nD → Dev nD) (h1 : ∀ c, f (g c) = c) (h2 : ∀ d, g (f d) = d) : Dev nD ≃ Dev nD := ⟨f, g, h2, h1⟩

/-- Every device `d` owes `n d` to a semaphore of the device `f d`; then device `c` gets the credit of what `g c` owes,
`g` being the inverse of `f`. -/
theorem credit_around (k : Cell) (f g : Dev nD → Dev nD) (h1 : ∀ c, f (g c) = c) (h2 : ∀ d, g (f d) = d) (n : Dev nD → ℕ)
    (c : Dev nD) :
    (Pipeline.launchCred (fun d => tallyAt (cell (f d) k) () (n d)) c : sProp 𝕄)
      = cred (tallyAt (cell c k) () (n (g c))) := by
  refine Pipeline.launchCred_of_sum _ (fun e => tallyAt (cell e k) () (n (g e))) ?_ (fun e g' hg => ?_) c
  · rw [← Equiv.sum_comp (around f g h1 h2) fun e => tallyAt (cell e k) () (n (g e))]
    refine Finset.sum_congr rfl fun d _ => ?_
    show tallyAt (cell (f d) k) () (n d) = tallyAt (cell (f d) k) () (n (g (f d)))
    rw [h2]
  · by_contra h
    exact hg (tallyAt_ne_cell (fun e' => h (congrArg Prod.fst e')) () (n (g e)))

/-- Credit that is owed tile by tile is credit for each tile. -/
theorem credit_tiles (f : Dev nD → Fin 8 → Owed) (c : Dev nD) :
    (Pipeline.launchCred (fun d => tl (f d) 0) c : sProp 𝕄) = each fun t => Pipeline.launchCred (fun d => f d t) c := by
  rw [show (fun d => tl (f d) 0) = fun d => ∑ t ∈ (Finset.univ : Finset (Fin 8)), f d t from funext fun d => tl_all _]
  exact Pipeline.launchCred_sum Finset.univ (fun t d => f d t) c

/-- A device's credit from the exchange across `x`. -/
theorem credit_X (c : Dev nD) :
    (Pipeline.launchCred (fun d => tl (owedX d) 0) c : sProp 𝕄) = each fun t => crd c .xr t := by
  rw [credit_tiles]
  exact bigSep_congr fun t _ => credit_around (some (.xr, t)) xp xp xp_xp xp_xp (fun _ => N) c

/-- A device's credit from the exchange across `z`. -/
theorem credit_Z (c : Dev nD) :
    (Pipeline.launchCred (fun d => tl (owedZ d) 0) c : sProp 𝕄) = each fun t => crd c .zr t := by
  rw [credit_tiles]
  exact bigSep_congr fun t _ => credit_around (some (.zr, t)) zp zp zp_zp zp_zp (fun _ => N) c

/-- A device's credit from the forwarding. -/
theorem credit_W (c : Dev nD) :
    (Pipeline.launchCred (fun d => tl (owedW d) 0) c : sProp 𝕄) = each fun t => crd c .wr t := by
  rw [credit_tiles]
  exact bigSep_congr fun t _ => credit_around (some (.wr, t)) zp zp zp_zp zp_zp (fun _ => N) c

/-- A device's credit from a chain, if one stands before it. -/
theorem credit_chain (d : Dir) (c : Dev nD) :
    (Pipeline.launchCred (fun e => owedChain d e) c : sProp 𝕄)
      = if hasNbr d.op c then each fun t => crd c (.recv d) t else iprop(emp) := by
  have e : (fun e => owedChain d e) = fun e => tl (fun t => tallyAt (dcell (nbr d e) (.recv d) t) () (if hasNbr d e then N else 0)) 0 :=
    funext fun e => by
      unfold owedChain
      split
      · rfl
      · rw [tl_all]; simp only [tallyAt_zero, Finset.sum_const_zero]
  rw [e, credit_tiles]
  have h (t : Fin 8) := credit_around (F := F) (some (.recv d, t)) (nbr d) (nbr d.op) (nbr_nbr_op d) (nbr_op_nbr d)
    (fun e => if hasNbr d e then N else 0) c
  refine (bigSep_congr fun t _ => h t).trans ?_
  simp only [hasNbr_nbr_op]
  split
  · rfl
  · simp only [tallyAt_zero, cred_zero]; exact BI.bigSep_emp_const _

/-- A device's credit at the barrier from a neighbour along `y`, if it has that one. -/
theorem credit_sig (d : Dir) (c : Dev nD) :
    (Pipeline.launchCred (fun e => owedSig d e) c : sProp 𝕄)
      = cred (tallyAt (bcell c) () (if hasNbr d.op c then 1 else 0)) := by
  have e : (fun e => owedSig d e) = fun e => tallyAt (cell (nbr d e) none) () (if hasNbr d e then 1 else 0) := funext fun e => by
    unfold owedSig
    split
    · rfl
    · rw [tallyAt_zero]
  rw [e, credit_around none (nbr d) (nbr d.op) (nbr_nbr_op d) (nbr_op_nbr d), hasNbr_nbr_op]

/-- A device has two partners and its neighbours as peers. -/
theorem card_units : ∀ c : Dev nD, (dutiesAt c none).card
    = 1 + 1 + (if hasNbr Dir.right.op c then 1 else 0) + (if hasNbr Dir.left.op c then 1 else 0) := by decide +kernel

/-- The credits that the launch deals a device. -/
theorem credits (c : Dev nD) : (Pipeline.launchCred O₀ c : sProp 𝕄) ⊢ devCreds .right c := by
  have hz : (Pipeline.launchCred (fun d => tallyAt (bcell (zp d)) () 1) c : sProp 𝕄) = cred (tallyAt (bcell c) () 1) :=
    credit_around none zp zp zp_zp zp_zp (fun _ => 1) c
  have hx : (Pipeline.launchCred (fun d => tallyAt (bcell (xp d)) () 1) c : sProp 𝕄) = cred (tallyAt (bcell c) () 1) :=
    credit_around none xp xp xp_xp xp_xp (fun _ => 1) c
  have e : (Pipeline.launchCred O₀ c : sProp 𝕄) = iprop((((((Pipeline.launchCred (fun d => owedOut d) c
      ∗ Pipeline.launchCred (fun d => owedChain .right d) c) ∗ Pipeline.launchCred (fun d => owedChain .left d) c)
      ∗ Pipeline.launchCred (fun d => tallyAt (bcell (zp d)) () 1) c) ∗ Pipeline.launchCred (fun d => tallyAt (bcell (xp d)) () 1) c)
      ∗ Pipeline.launchCred (fun d => owedSig .right d) c) ∗ Pipeline.launchCred (fun d => owedSig .left d) c) := by
    rw [← Pipeline.launchCred_add, ← Pipeline.launchCred_add, ← Pipeline.launchCred_add, ← Pipeline.launchCred_add,
      ← Pipeline.launchCred_add, ← Pipeline.launchCred_add]
    rfl
  have e' : (Pipeline.launchCred (fun d => owedOut d) c : sProp 𝕄) = iprop((Pipeline.launchCred (fun d => tl (owedW d) 0) c
      ∗ Pipeline.launchCred (fun d => tl (owedZ d) 0) c) ∗ Pipeline.launchCred (fun d => tl (owedX d) 0) c) := by
    rw [← Pipeline.launchCred_add, ← Pipeline.launchCred_add]
    rfl
  rw [e, e', hz, hx, credit_W, credit_Z, credit_X, credit_chain, credit_chain, credit_sig, credit_sig]
  unfold devCreds
  rw [card_units c, ← tallyAt_add, ← tallyAt_add, ← tallyAt_add]
  iintro ⟨⟨⟨⟨⟨⟨⟨⟨HW, HZ⟩, HX⟩, HR⟩, HL⟩, B1⟩, B2⟩, B3⟩, B4⟩
  isplitl [B1 B2 B3 B4]
  · iapply (cred_add _ _).2
    isplitr [B4]
    · iapply (cred_add _ _).2
      isplitr [B3]
      · iapply (cred_add _ _).2
        isplitl [B1] <;> iassumption
      · iexact B3
    · iexact B4
  isplitl [HR]; · iexact HR
  isplitl [HL]; · iexact HL
  isplitl [HX]; · iexact HX
  isplitl [HZ] <;> iassumption

end Cert.AllReduce
-- ==== Proof.Deal.lean ====
/-
# Dealing the ghost state

Before the devices start, the semaphores become the cells of the protocol, and each duty goes to the device that pays it.
-/
module

public import proofs.«01_k».proof.Proof.Credits

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Semaphores of the protocol -/

/-- The transfer semaphores, which the kernel allocates itself. -/
abbrev osem (p : Kind × Fin 8) : SemLoc sig := locOf (some p)

/-- The ten arrays of semaphores are the kernel's own. -/
theorem ownSemFacts : Pipeline.OwnSemFacts cfg0.spec osem :=
  ⟨by decide +kernel, fun a b h => Option.some.inj (locOf_injective h), by decide +kernel⟩

/-- A device's own semaphores, all at zero. -/
abbrev own0 (c : Dev nD) : sProp 𝕄 :=
  Pipeline.ownSems0 (Ix := Unit) (Name := ℕ) (U := UU) (Lvl := ℕ) (Val := Elt F) (τ := τ) osem c

/-- The only semaphore outside the launch is the barrier. -/
theorem unscoped_bar (c : Dev nD) : (unscopedSems0 c : sProp 𝕄) = semVal (bcell c) 0 := by
  unfold unscopedSems0
  rw [bigSep_eq_bigSepL_of_eq [SemLoc.reg barS] (by decide +kernel) (by decide +kernel)]
  rfl

/-- A conjunction over the semaphores of the protocol: the barrier's part and those of the transfers. -/
theorem cells_parts (Φ : Cell → sProp 𝕄) :
    bigSep Finset.univ Φ = iprop(Φ none ∗ bigSep Finset.univ fun p : Kind × Fin 8 => Φ (some p)) := by
  rw [show (Finset.univ : Finset Cell) = insert none (Finset.univ.map Function.Embedding.some) from by ext (_ | p) <;> simp,
    BI.bigSep_insert (by simp), BI.bigSep_map]
  rfl

/-- All semaphores of a device at zero: the barrier and the kernel's own. -/
theorem sems_zero (c : Dev nD) :
    (bigSep Finset.univ fun k : Cell => (semVal (cell c k) 0 : sProp 𝕄)) = iprop(unscopedSems0 c ∗ own0 c) := by
  rw [cells_parts, unscoped_bar]
  rfl

/-! ## What is minted -/

/-- A semaphore of the protocol on a device, as one place. -/
def place : Dev nD × Cell ↪ GSem nD τ sig := ⟨fun p => cell p.1 p.2, by
  rintro ⟨c, k⟩ ⟨c', k'⟩ h
  have h1 : c = c' := congrArg (fun g : GSem nD τ sig => g.1.1) h
  have h2 : k = k' := locOf_injective (congrArg (fun g : GSem nD τ sig => g.2) h)
  rw [h1, h2]⟩

/-- A duty of the one round of a place. -/
def due : (Dev nD × Cell) × Duty ↪ GSem nD τ sig × ℕ × Duty := ⟨fun p => (place p.1, 0, p.2), by
  rintro ⟨p, u⟩ ⟨p', u'⟩ h
  have h1 : p = p' := place.injective (congrArg (fun g : GSem nD τ sig × ℕ × Duty => g.1) h)
  have h2 : u = u' := congrArg (fun g : GSem nD τ sig × ℕ × Duty => g.2.2) h
  rw [h1, h2]⟩

def places : Finset (GSem nD τ sig) := Finset.univ.map place
def dues : Finset (GSem nD τ sig × ℕ × Duty) := Finset.univ.map due

/-- What the launch starts the protocol's ghost state at. -/
def u₀ : UU :=
  (initOf (Pipeline.cells cfgs cellOf_inj) (Pipeline.launchToks cfgs cellOf_inj), initOf places dues)

/-- The duties of a device's own semaphores, in the order in which `devToks` takes them. -/
def mine (e : Dev nD) : sProp 𝕄 :=
  iprop(tok e none (.dir .left) ∗ tok e none (.dir .right) ∗ tok e none .px ∗ tok e none .pz
    ∗ (each fun t => tok1 e (.send .right) t) ∗ (each fun t => tok1 e (.send .left) t)
    ∗ (each fun t => tok1 e (.recv .right) t) ∗ (each fun t => tok1 e (.recv .left) t)
    ∗ (each fun t => tok1 e .xs t) ∗ (each fun t => tok1 e .xr t) ∗ (each fun t => tok1 e .zs t)
    ∗ (each fun t => tok1 e .zr t) ∗ (each fun t => tok1 e .ws t) ∗ (each fun t => tok1 e .wr t))

/-- A statement about each duty, spelt out. -/
theorem duty_parts (Φ : Duty → sProp 𝕄) :
    bigSep Finset.univ Φ = iprop(Φ (.dir .left) ∗ Φ (.dir .right) ∗ Φ .px ∗ Φ .pz ∗ Φ .one) :=
  bigSep_univ_eq_bigSepL [Duty.dir Dir.left, Duty.dir Dir.right, Duty.px, Duty.pz, Duty.one] (by decide) (by decide) Φ

/-- Out of the tokens of all duties of a device, those that it needs. -/
theorem mine_of_all (e : Dev nD) :
    (bigSep Finset.univ fun k : Cell => bigSep Finset.univ fun u : Duty => (tok e k u : sProp 𝕄)) ⊢ mine e := by
  have h (k : Kind) : (each fun t => bigSep Finset.univ fun u : Duty => (tok e (some (k, t)) u : sProp 𝕄))
      ⊢ each fun t => tok1 e k t := bigSep_mono fun t _ => bigSep_elim (Finset.mem_univ Duty.one)
  rw [cells .right, duty_parts]
  unfold mine
  iintro ⟨⟨B1, B2, B3, B4, -⟩, H1, H2, H3, H4, H5, H6, H7, H8, H9, H10⟩
  isplitl [B1]; · iexact B1
  isplitl [B2]; · iexact B2
  isplitl [B3]; · iexact B3
  isplitl [B4]; · iexact B4
  isplitl [H1]; · iapply (h (.send .right)); iexact H1
  isplitl [H2]; · iapply (h (.send .left)); iexact H2
  isplitl [H3]; · iapply (h (.recv .right)); iexact H3
  isplitl [H4]; · iapply (h (.recv .left)); iexact H4
  isplitl [H5]; · iapply (h .xs); iexact H5
  isplitl [H6]; · iapply (h .xr); iexact H6
  isplitl [H7]; · iapply (h .zs); iexact H7
  isplitl [H8]; · iapply (h .zr); iexact H8
  isplitl [H9]; · iapply (h .ws); iexact H9
  iapply (h .wr); iexact H10

/-- A conjunction over the devices, read at the neighbour of each. -/
theorem moved (f g : Dev nD → Dev nD) (h1 : ∀ c, f (g c) = c) (h2 : ∀ d, g (f d) = d) (Φ : Dev nD → sProp 𝕄) :
    (bigSep Finset.univ fun e : Dev nD => Φ e) = bigSep Finset.univ fun c : Dev nD => Φ (f c) :=
  bigSep_univ_equiv (around f g h1 h2) Φ

/-- Every duty goes to the device that pays it. -/
theorem duties_moved : (bigSep Finset.univ fun e : Dev nD => (mine e : sProp 𝕄))
    ⊢ bigSep Finset.univ fun c : Dev nD => devToks .right c := by
  have hr := moved (F := F) (nbr .right) (nbr .left) (nbr_nbr_op .right) (nbr_op_nbr .right)
  have hl := moved (F := F) (nbr .left) (nbr .right) (nbr_nbr_op .left) (nbr_op_nbr .left)
  have hx := moved (F := F) xp xp xp_xp xp_xp
  have hz := moved (F := F) zp zp zp_zp zp_zp
  unfold mine devToks
  simp only [bigSep_sep']
  rw [hr fun e => tok e none (.dir .left), hl fun e => tok e none (.dir .right), hx fun e => tok e none .px,
    hz fun e => tok e none .pz, hr fun e => each fun t => tok1 e (.recv .right) t,
    hl fun e => each fun t => tok1 e (.recv .left) t, hx fun e => each fun t => tok1 e .xr t,
    hz fun e => each fun t => tok1 e .zr t, hz fun e => each fun t => tok1 e .wr t]
  exact Entails.of_eq rfl

/-! ## The launch's ghost state -/

variable (X : Dev nD → S1024x512.Idx → Elt F .f32)

/-- What the minted ghost state deals a device. -/
def dealt (c : Dev nD) : sProp 𝕄 :=
  iprop((bigSep Finset.univ fun k : Cell => roundState ER (sched X) (cell c k) 0)
    ∗ (bigSep Finset.univ fun k : Cell => stands c k 0) ∗ (bigSep Finset.univ fun k : Cell => reached ER (cell c k) 0) ∗ mine c)

/-- The ghost state can be set up for all devices. -/
theorem fund : BI.own (ER (initOf places dues)) ⊢ (|==> bigSep Finset.univ (dealt X) : sProp 𝕄) := by
  have hP (Φ : GSem nD τ sig → sProp 𝕄) :
      bigSep places Φ = bigSep Finset.univ fun c : Dev nD => bigSep Finset.univ fun k : Cell => Φ (cell c k) := by
    unfold places; rw [bigSep_map, bigSep_univ_prod]; rfl
  have hT : (bigSep dues fun x => (dutyTok ER x.1 x.2.1 x.2.2 : sProp 𝕄)) ⊢ bigSep Finset.univ fun c : Dev nD => mine c := by
    unfold dues
    rw [bigSep_map, bigSep_univ_prod, bigSep_univ_prod]
    exact bigSep_mono fun e _ => mine_of_all e
  iintro H
  imod (Rounds.fund ER (sched X) places dues) $$ H with ⟨Hst, Hr, Hat, Htok⟩
  imodintro
  ihave Hst := (Entails.of_eq (hP fun g => roundState ER (sched X) g 0)) $$ Hst
  ihave Hat := (Entails.of_eq (hP fun g => atPos ER g 0 ∅ 0)) $$ Hat
  ihave Hr := (Entails.of_eq (hP fun g => reached ER g 0)) $$ Hr
  ihave Htok := hT $$ Htok
  unfold dealt
  simp only [bigSep_sep']
  isplitl [Hst]; · iexact Hst
  isplitl [Hat]; · iexact Hat
  isplitl [Hr]; · iexact Hr
  iexact Htok

/-- The invariants and the marks of all cells, under the names `K`. -/
def marks (K : Dev nD × Cell → ℕ) : sProp 𝕄 :=
  iprop((bigSep Finset.univ fun p : Dev nD × Cell => cellInv ER (sched X) (K p) (cell p.1 p.2))
    ∗ bigSep Finset.univ fun p : Dev nD × Cell => reached ER (cell p.1 p.2) 0)

instance marks_persistent (K : Dev nD × Cell → ℕ) : BI.Persistent (marks X K) := by unfold marks; infer_instance

/-- The shared records follow from the invariants, the reached rounds and the levels. -/
theorem recs_of_marks (K : Dev nD × Cell → ℕ) : iprop(marks X K ∗ levAts L lv) ⊢ recs X K := by
  unfold marks recs
  iintro ⟨⟨H1, H2⟩, H3⟩
  isplitl [H1]; · iexact H1
  isplitl [H2]; · iexact H2
  iexact H3

/-- What a device starts with of the ghost state. -/
def given (c : Dev nD) : sProp 𝕄 :=
  iprop(∃ K, marks X K ∗ (bigSep Finset.univ fun k : Cell => stands c k 0) ∗ devToks .right c)

/-- The semaphores at zero become invariants of their cells. -/
theorem cells_made (c : Dev nD) : iprop(own0 c ∗ unscopedSems0 c ∗ dealt X c)
    ⊢ (|={Set.univ}=> iprop((bigSep Finset.univ fun k : Cell => iprop(∃ κ : ℕ, cellInv ER (sched X) κ (cell c k)))
      ∗ (bigSep Finset.univ fun k : Cell => stands c k 0) ∗ (bigSep Finset.univ fun k : Cell => reached ER (cell c k) 0)
      ∗ mine c) : sProp 𝕄) := by
  have h : iprop((bigSep Finset.univ fun k : Cell => semVal (cell c k) 0)
        ∗ bigSep Finset.univ fun k : Cell => roundState ER (sched X) (cell c k) 0)
      ⊢ (|={Set.univ}=> bigSep Finset.univ fun k : Cell => iprop(∃ κ : ℕ, cellInv ER (sched X) κ (cell c k)) : sProp 𝕄) := by
    rw [← bigSep_sep']
    exact (bigSep_mono fun k _ => (Rounds.body_intro ER (sched X) (cell c k)).trans inv_alloc).trans (bigSep_fupd _ _)
  unfold dealt
  iintro ⟨Ho, Hu, Hst, Hat, Hr, Htok⟩
  imod h $$ [Ho Hu Hst] with Hinv
  · isplitr [Hst]
    · rw [sems_zero]
      isplitl [Hu]; · iexact Hu
      iexact Ho
    · iexact Hst
  imodintro
  isplitl [Hinv]; · iexact Hinv
  isplitl [Hat]; · iexact Hat
  isplitl [Hr]; · iexact Hr
  iexact Htok

/-- A persistent fact goes to every part of a conjunction. -/
theorem to_each {I : Type} [DecidableEq I] {s : Finset I} {R : sProp 𝕄} [BI.Persistent R] {Φ Ψ : I → sProp 𝕄}
    (h : ∀ i ∈ s, iprop(R ∗ Φ i) ⊢ Ψ i) : iprop(R ∗ bigSep s Φ) ⊢ bigSep s Ψ := by
  have h1 : iprop(R ∗ bigSep s Φ) ⊢ bigSep s fun i => iprop(R ∗ Φ i) := by
    rw [bigSep_sep']
    iintro ⟨HR, H⟩
    isplitl [HR]
    · iapply (BI.bigSep_of_persistent s R); iexact HR
    · iexact H
  exact h1.trans (bigSep_mono h)

/-- The tokens, dealt by receiver, are dealt again by sender. -/
theorem regroup : (bigSep Finset.univ fun c : Dev nD =>
      iprop((bigSep Finset.univ fun k : Cell => iprop(∃ κ : ℕ, cellInv ER (sched X) κ (cell c k)))
      ∗ (bigSep Finset.univ fun k : Cell => stands c k 0) ∗ (bigSep Finset.univ fun k : Cell => reached ER (cell c k) 0)
      ∗ mine c) : sProp 𝕄) ⊢ bigSep Finset.univ (given X) := by
  rw [bigSep_sep', bigSep_sep', bigSep_sep',
    ← bigSep_univ_prod (fun p : Dev nD × Cell => iprop(∃ κ : ℕ, cellInv ER (sched X) κ (cell p.1 p.2))),
    ← bigSep_univ_prod (fun p : Dev nD × Cell => (reached ER (cell p.1 p.2) 0 : sProp 𝕄))]
  iintro ⟨HI, Hat, HR, Htok⟩
  ihave HK := (BI.bigSep_exists_pi Finset.univ
    (fun (p : Dev nD × Cell) (κ : ℕ) => (cellInv ER (sched X) κ (cell p.1 p.2) : sProp 𝕄))) $$ HI
  icases HK with ⟨%K, HI⟩
  ihave Htok := (duties_moved (F := F)) $$ Htok
  iapply (to_each (R := marks X K)
    (Φ := fun c => iprop((bigSep Finset.univ fun k : Cell => stands c k 0) ∗ devToks .right c)) fun c _ => by
      unfold given
      iintro H
      iexists K
      iexact H)
  isplitl [HI HR]
  · unfold marks
    isplitl [HI]; · iexact HI
    iexact HR
  · rw [bigSep_sep']
    isplitl [Hat]; · iexact Hat
    iexact Htok

/-- All devices at once: from the semaphores at zero and the minted state to what each device starts with. -/
theorem deal : (bigSep Finset.univ fun c => iprop(own0 c ∗ unscopedSems0 c ∗ dealt X c) : sProp 𝕄)
    ⊢ |={Set.univ}=> bigSep Finset.univ (given X) :=
  ((bigSep_mono fun c _ => cells_made X c).trans (bigSep_fupd _ _)).trans (BI.fupd_mono (regroup X))

/-! ## The end: the semaphores are at zero again -/

/-- Past its last round a cell has no duties. -/
theorem duties_done (c : Dev nD) (k : Cell) : ∀ r, lastRound c k ≤ r → (sched X).duties (cell c k) r = ∅ := by
  intro r hr
  rcases Nat.eq_zero_or_pos r with rfl | h
  · match k with
    | none => exact absurd hr (by show ¬ 1 ≤ 0; decide)
    | some (k, t) =>
      cases hk : active k c with
      | false => exact duties_idle X c t hk
      | true =>
        have : lastRound c (some (k, t)) = 1 := if_pos hk
        rw [this] at hr
        exact absurd hr (by decide)
  · exact duties_later X _ r h

/-- A cell whose duties are done gives its semaphore back, at zero. -/
theorem closed (K : Dev nD × Cell → ℕ) (c : Dev nD) :
    iprop(recs X K ∗ bigSep Finset.univ fun k : Cell => stands c k (lastRound c k))
      ⊢ (|={Set.univ}=> bigSep Finset.univ fun k : Cell => semVal (cell c k) 0 : sProp 𝕄) := by
  refine (to_each (Ψ := fun k => iprop(|={Set.univ}=> semVal (cell c k) 0)) fun k _ => ?_).trans (bigSep_fupd _ _)
  iintro ⟨HR, Hat⟩
  iapply (Rounds.cell_close ER (sched X) (Set.mem_univ (K (c, k))) (fun h => h) (R := lastRound c k) (duties_done X c k))
  isplitl [HR]
  · iapply (recs_inv X K c k); iexact HR
  · iexact Hat

end Cert.AllReduce
-- ==== Proof.Launch.lean ====
/-
# The launch

Every device runs its program from what the launch deals it; the run ends with every result block finished, the input
blocks unchanged, and every semaphore at zero.
-/
module

public import proofs.«01_k».proof.Proof.Deal
public import proofs.«01_k».proof.Proof.Gen.KernelIdeal.Points
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's program, whichever its place in the column -/

section Turn

variable (X : Dev nD → S1024x512.Idx → Elt F .f32) (K : Dev nD × Cell → ℕ) (c : Dev nD)

/-- What a device starts with does not depend on the direction it is read in. -/
theorem pre_turn (d : Dir) : devPre X c .right ⊢ devPre X c d := by
  cases d
  · exact Entails.of_eq rfl
  unfold devPre devToks devCreds devScratch
  iintro ⟨Hst, ⟨T1, T2, T3, T4, T5, T6, T7, T8, T9⟩, ⟨C1, C2, C3, C4⟩, Hx, Ho, ⟨S1, S2, S3, S4⟩⟩
  isplitl [Hst]; · iexact Hst
  isplitl [T1 T2 T3 T4 T5 T6 T7 T8 T9]
  · isplitl [T2]; · iexact T2
    isplitl [T1]; · iexact T1
    isplitl [T3]; · iexact T3
    isplitl [T4]; · iexact T4
    isplitl [T6]; · iexact T6
    isplitl [T5]; · iexact T5
    isplitl [T8]; · iexact T8
    isplitl [T7]; · iexact T7
    iexact T9
  isplitl [C1 C2 C3 C4]
  · isplitl [C1]; · iexact C1
    isplitl [C3]; · iexact C3
    isplitl [C2]; · iexact C2
    iexact C4
  isplitl [Hx]; · iexact Hx
  isplitl [Ho]; · iexact Ho
  isplitl [S2]; · iexact S2
  isplitl [S1]; · iexact S1
  isplitl [S4]; · iexact S4
  iexact S3

/-- What a device ends with does not depend on the direction that it is told in. -/
theorem post_turn (d : Dir) : devPost X c d ⊢ devPost X c .right := by
  cases d
  · exact Entails.of_eq rfl
  unfold devPost devScratch
  iintro ⟨Hst, Hx, Ho, ⟨S1, S2, S3, S4⟩⟩
  isplitl [Hst]; · iexact Hst
  isplitl [Hx]; · iexact Hx
  isplitl [Ho]; · iexact Ho
  isplitl [S2]; · iexact S2
  isplitl [S1]; · iexact S1
  isplitl [S4]; · iexact S4
  iexact S3

/-- From the run of a program read in one direction to its run read to the right. -/
theorem run_turn (d : Dir) (p : Pg F)
    (h : iprop(recs X K ∗ ow c (O₀ c) ∗ devPre X c d) ⊢ WP c p (fun _ => iprop(ow c 0 ∗ devPost X c d))) :
    iprop(recs X K ∗ ow c (O₀ c) ∗ devPre X c .right) ⊢ WP c p (fun _ => iprop(ow c 0 ∗ devPost X c .right)) := by
  iintro ⟨HR, Ho, Hp⟩
  ihave Hp := (pre_turn X c d) $$ Hp
  ihave H := h $$ [HR Ho Hp]
  · isplitl [HR]; · iexact HR
    isplitl [Ho]; · iexact Ho
    iexact Hp
  iapply wp_mono $$ H
  iintro %_ ⟨Ho, Hp⟩
  isplitl [Ho]; · iexact Ho
  iapply (post_turn X c d); iexact Hp

/-- At `y = 0` a device stands at the left end. -/
theorem place0 : ∀ c : Dev nD, yOf c = 0 → hasNbr .right c = true ∧ hasNbr Dir.right.op c = false := by decide +kernel
/-- At `y = 1` a device stands inside, nearer to the left end. -/
theorem place1 : ∀ c : Dev nD, yOf c = 1 → (hasNbr .right c = true ∧ hasNbr Dir.right.op c = true)
    ∧ hop .right c ≤ hop Dir.right.op c := by decide +kernel
/-- At `y = 2` a device stands inside, nearer to the right end. -/
theorem place2 : ∀ c : Dev nD, yOf c = 2 → (hasNbr .left c = true ∧ hasNbr Dir.left.op c = true)
    ∧ hop .left c ≤ hop Dir.left.op c := by decide +kernel
/-- At `y = 3` a device stands at the right end. -/
theorem place3 : ∀ c : Dev nD, yOf c = 3 → hasNbr .left c = true ∧ hasNbr Dir.left.op c = false := by decide +kernel

/-- The program of a device, from what the launch deals it to the finished block. -/
theorem prog_run :
    iprop(recs X K ∗ ow c (O₀ c) ∗ devPre X c .right) ⊢ WP c (prog c) (fun _ => iprop(ow c 0 ∗ devPost X c .right)) := by
  have hy := yOf_lt c
  unfold prog
  split
  · next h => exact edge_run X K c .right (place0 c h).1 (place0 c h).2
  split
  · next h => exact mid_run X K c .right (place1 c h).1.1 (place1 c h).1.2 (place1 c h).2
  split
  · next h => exact run_turn X K c .left _ (mid_run X K c .left (place2 c h).1.1 (place2 c h).1.2 (place2 c h).2)
  · have h : yOf c = 3 := by omega
    exact run_turn X K c .left _ (edge_run X K c .left (place3 c h).1 (place3 c h).2)

end Turn

/-! ## The proof data -/

section Data

variable (m : (ℓ : Loc nD τ sig) → Buf (Elt F) ℓ) (ρ : Dev nD → PrngReg)

/-- The state at launch. -/
abbrev s₀ : MemSt nD τ sig (Elt F) := ⟨m, fun _ => 0, ρ⟩

/-- The input block of a device. -/
def X (c : Dev nD) : S1024x512.Idx → Elt F .f32 :=
  (win0_0.blk (0 : Fin 1)).view.read (Elt F) ((s₀ m ρ).mem (win0_0.arr.view.loc (c : Thread nD τ)))

/-- What a device's body starts from besides its buffers. -/
def start (c : Dev nD) : sProp 𝕄 := iprop(given (X m ρ) c ∗ devCreds .right c ∗ levAts L lv)

/-- The proof data: before the body the ghost state and the scratch buffers, after it the semaphores at zero. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outAt (X m ρ) c
  Φ t := match t with
    | ⟨0, _⟩ => iprop(start m ρ c ∗ devScratch .right c)
    | ⟨_ + 1, _⟩ => iprop(devScratch .right c ∗ bigSep Finset.univ fun k : Cell => semVal (cell c k) 0)
  q _ := fullShare
  owed t := match t with
    | ⟨0, _⟩ => O₀ c
    | ⟨_ + 1, _⟩ => 0

/-! ## The body -/

/-- A staging buffer holding `Y`. -/
abbrev stg (c : Dev nD) (m : Memref sig .tc .vmem S1024x512 .f32) (Y : S1024x512.Idx → Elt F .f32) : sProp 𝕄 :=
  owns (c : Thread nD τ) m fullShare Y

/-- When the body starts, the staged input is the device's block. -/
theorem input_staged (c : Dev nD) (d) : (dats m ρ 0 c).before (0 : Fin 2) t0_0 d = X m ρ c := by
  unfold Dat.before; rw [if_pos (fetch0_0 t0_0)]; rfl

/-- The body runs from the start of a device to its end, and leaves the finished block in the result. -/
theorem body_run (c : Dev nD) :
    iprop((start m ρ c ∗ devScratch .right c) ∗ (dats m ρ 0 c).owesAt () t0_0.castSucc
        ∗ (∃ d, stg c xb ((dats m ρ 0 c).before (0 : Fin 2) t0_0 d))
        ∗ (∃ d, stg c ob ((dats m ρ 0 c).before (1 : Fin 2) t0_0 d)))
      ⊢ wp frame (wpE (defs₀ (F := F)) 𝒱₀ (c : Thread nD τ) none) Set.univ body (fun _ =>
        iprop((devScratch .right c ∗ bigSep Finset.univ fun k : Cell => semVal (cell c k) 0)
          ∗ (dats m ρ 0 c).owesAt () t0_0.succ ∗ stg c xb (X m ρ c) ∗ stg c ob (outAt (X m ρ) c))) := by
  rw [body_eq]
  simp only [wp_deviceId]
  unfold start given Dat.owesAt Pipeline.owesWithin
  rw [show (dats m ρ 0 c).owed t0_0.castSucc = O₀ c from rfl, show (dats m ρ 0 c).owed t0_0.succ = 0 from rfl]
  iintro ⟨⟨⟨⟨%K, #HM, Hst, Htok⟩, Hcr, #HL⟩, Hscr⟩, ⟨%W, -, Ho⟩, ⟨%d0, Hx⟩, ⟨%d1, Hout⟩⟩
  ihave Hx := (Entails.of_eq (congrArg (fun Y => stg c xb Y) (input_staged m ρ c d0))) $$ Hx
  ihave #HR := (recs_of_marks (X m ρ) K) $$ [HM HL]
  · isplitl [HM]; · iexact HM
    iexact HL
  ihave H := (prog_run (X m ρ) K c) $$ [Hst Htok Hcr Hscr Ho Hx Hout]
  · isplitr; · iexact HR
    isplitl [Ho]; · unfold ow; iexists W; iexact Ho
    unfold devPre
    isplitl [Hst]; · iexact Hst
    isplitl [Htok]; · iexact Htok
    isplitl [Hcr]; · iexact Hcr
    isplitl [Hx]; · iexact Hx
    isplitl [Hout]; · unfold some'; iexists _; iexact Hout
    iexact Hscr
  iapply wp_fupd
  iapply wp_wand $$ H
  iintro %_ ⟨Ho, Hp⟩
  unfold devPost ow
  icases Hp with ⟨Hst, Hx, Hout, Hscr⟩
  icases Ho with ⟨%W', Ho⟩
  imod (closed (X m ρ) K c) $$ [Hst] with Hz
  · isplitr; · iexact HR
    iexact Hst
  imodintro
  isplitl [Hscr Hz]
  · isplitl [Hscr]; · iexact Hscr
    iexact Hz
  isplitl [Ho]
  · iexists W'
    isplitr; · ipureintro; exact fun _ _ => Or.inl trivial
    iexact Ho
  isplitl [Hx]; · iexact Hx
  iexact Hout

omit [FloatOps F] in
/-- A statement about both windows, spelt out. -/
theorem windows (Φ : Fin cfg0.W → sProp 𝕄) : bigSep Finset.univ Φ = iprop(Φ (0 : Fin 2) ∗ Φ (1 : Fin 2)) := bigSep_W0 Φ

/-- The body does what the launch asks of it. -/
theorem body_obligation (c : Dev nD) : BodyObligation (dats (F := F) m ρ 0 c) (defs₀ (F := F)) 𝒱₀ () Set.univ := fun t => by
  rw [fin_N0 t, windows, windows]
  exact body_run m ρ c

/-! ## What the launch asks for -/

/-- Both windows are held whole. -/
theorem share_full (c : Dev nD) (w : Fin cfg0.W) : (dats m ρ 0 c).share w = fullShare := by
  unfold Dat.share; split <;> rfl

/-- What the launch gives a device is what the device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given (X m ρ) c)
      ⊢ |={Set.univ}=> iprop(start m ρ c ∗ emp) := by
  iintro ⟨-, HL, Hcr, -, HG⟩
  ihave Hcr := (credits (F := F) c) $$ Hcr
  imodintro
  unfold start
  isplitl
  · isplitl [HG]; · iexact HG
    isplitl [Hcr]; · iexact Hcr
    iexact HL
  · iempintro

omit [FloatOps F] in
/-- A whole buffer at some contents. -/
theorem some_whole (c : Dev nD) (b : Ref sig .tc) :
    iprop(∃ f : Buf (Elt F) ((c : Thread nD τ).loc b), ((c : Thread nD τ).loc b) ↦{fullShare} f)
      = (iprop(∃ f, owns (c : Thread nD τ) (Memref.whole b) fullShare f) : sProp 𝕄) := by
  simp only [owns_whole]

/-- The launch's scratch buffers are the device's. -/
theorem scratch_eq (c : Dev nD) : (Pipeline.scopedRest cfg0.spec c : sProp 𝕄) = devScratch (F := F) .right c := by
  rw [scopedRest0_eq]
  simp only [some_whole]
  rfl

/-- On entry the device's start and its scratch buffers are there. -/
theorem enter (c : Dev nD) :
    iprop(start m ρ c ∗ Pipeline.prefHeld Pipeline.Prefetch.none c (fun _ => fullShare.right) (fun k => k.elim0)
        ∗ Pipeline.scopedRest cfg0.spec c) ⊢ (dats m ρ 0 c).Φ 0 := by
  rw [show (dats m ρ 0 c).Φ 0 = iprop(start m ρ c ∗ devScratch .right c) from rfl, scratch_eq]
  iintro ⟨Hs, -, Hr⟩
  isplitl [Hs] <;> iassumption

/-- On leaving, the semaphores are at zero and the scratch buffers are given back. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(devScratch .right c ∗ bigSep Finset.univ fun k : Cell => semVal (cell c k) 0) from rfl,
    scratch_eq, sems_zero]
  iintro ⟨Hr, Hu, Ho⟩
  isplitl [Hu]; · iexact Hu
  isplitl [Ho]; · iexact Ho
  iexact Hr

/-- A staging semaphore lies at level zero: a device may wait on it whatever it owes above. -/
theorem stage_wait (c : Dev nD) (q : DmaSem sig) (hq : cellAt (.dma q) = none) (O : Owed) (hO : Above 0 O) :
    (levAts L lv : sProp 𝕄) ⊢ MayWait (c : Thread nD τ) (.dma q) () O :=
  MayOwe.of_cut (L := L) (lev := lv) 0 (fun p hp => by rw [Finset.mem_singleton.mp hp]; exact L_tc _ _)
    (fun g u hg => (hO g u hg).1)
    (fun p hp => by
      rw [Finset.mem_singleton.mp hp]
      show (match cellAt (.dma q) with | some k => lvl c k | none => 0) ≤ 0
      rw [hq])
    (fun g u hg => (hO g u hg).2)

/-- The launch's own waits are below everything that is owed. -/
theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> decide +kernel) _ (by
      rcases t with ⟨_ | _, ht⟩
      · exact above_O₀ c
      · exact above_zero 0)

/-! ## The run -/

/-- What the array of a window holds on a device after the run. -/
def final (c : Dev nD) (w : Fin cfg0.W) : Buf (Elt F) ((cfg0.win w).arr.view.loc (c : Thread nD τ)) := (dats m ρ 0 c).arrAt w cfg0.N

set_option maxRecDepth 8000 in
/-- From any memory with every semaphore at zero, every run on the 32 devices ends: every array holds its final contents, and every semaphore is at
zero. -/
theorem run_main : θ_run defs (onTc (τ := τ) (main (F := F))) (s₀ m ρ) (fun r =>
    (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := O₀) (howed₀ := fun _ => rfl) (howedN := fun _ => rfl)
    (L := L) (lv := lv) (hL := L_of_ne) (hwaits := waits m ρ)
    (G := dealt (X m ρ)) (G' := given (X m ρ)) (u₀ := u₀)
    (hu₀ := by
      unfold u₀
      iintro Hu
      ihave H := (ownU_pair _ _) $$ Hu
      icases H with ⟨HP, HX⟩
      imod (fund (X m ρ)) $$ HX with HG
      imodintro
      isplitl [HP] <;> iassumption)
    (hglob := deal (X m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is unchanged. -/
theorem final_in (c : Dev nD) : final m ρ c (0 : Fin 2) = (s₀ m ρ).mem (win0_0.arr.view.loc (c : Thread nD τ)) :=
  (dats (F := F) m ρ 0 c).arrAt_in (0 : Fin 2) rfl _

end Data

end Cert.AllReduce
-- ==== Proof.Value.lean ====
/-
# The value

In exact arithmetic the finished block of every device is the sum of the four blocks of the input along `y`, which is what
the reference computes.
-/
module

public import proofs.«01_k».proof.Proof.Launch
public import proofs.«01_k».proof.Proof.Gen.ReferenceIdeal
public import Idealize.ShloMosaic.Lib.Pointwise
public import Idealize.ShloMosaic.Lib.Layout
public import Idealize.ShloMosaic.Lib.Pipeline.ValueKit.Geometry

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The arrays after the run -/

section Arrays

variable (m : (ℓ : Loc nD τ sig) → Buf (Elt F) ℓ) (ρ : Dev nD → PrngReg)

/-- The staged input block is the input array. -/
theorem X_eq (c : Dev nD) : X m ρ c = m ((c.tc : Thread nD τ).loc main_arg0) := by
  funext i
  show m ((c.tc : Thread nD τ).loc main_arg0) _ = _
  refine congrArg _ (funext fun a => Fin.ext ?_)
  fin_cases a <;> simp [win0_0, Window.whole, Window.index]

/-- The result array of a device ends with the finished block. -/
theorem final_out (c : Dev nD) : final m ρ c (1 : Fin 2) = outAt (X m ρ) c := by
  refine (dats m ρ 0 c).arrAt_eq_of_after_last (1 : Fin 2) t0_0 (by decide +kernel) _ fun j => ?_
  rfl

end Arrays

/-! ## The sum along a column -/

section Sum

variable (B : ℕ → S1024x512.Idx → Elt Ideal .f32) (X : Dev nD → S1024x512.Idx → Elt Ideal .f32)

/-- The sum of the four blocks. -/
def total (i : S1024x512.Idx) : EReal := B 0 i + (B 1 i + (B 2 i + B 3 i))

/-- A device's tile, by its place along `y`. -/
theorem xt_val (hB : ∀ d, X d = B (yOf d)) (c : Dev nD) (t : Fin 8) (j : S128x128.Idx) :
    xt X c t j = B (yOf c) ((tileRect (colq c) t).emb j) := by
  unfold xt tileOf; rw [hB]

/-- The column seen from `y = 0`. -/
theorem column0 : ∀ e : Dev nD, yOf e = 0 → (hasNbr .right e = true ∧ hasNbr .left e = false) ∧ hop .left (nbr .right e) = 2
    ∧ yOf (nbr .right e) = 1 ∧ yOf (nbr .right (nbr .right e)) = 2 ∧ yOf (nbr .right (nbr .right (nbr .right e))) = 3 := by decide +kernel
/-- The column seen from `y = 1`. -/
theorem column1 : ∀ e : Dev nD, yOf e = 1 → (hasNbr .right e = true ∧ hasNbr .left e = true) ∧ (hop .right e = 1 ∧ hop .left (nbr .right e) = 1)
    ∧ yOf (nbr .left e) = 0 ∧ yOf (nbr .right e) = 2 ∧ yOf (nbr .right (nbr .right e)) = 3 := by decide +kernel
/-- The column seen from `y = 2`. -/
theorem column2 : ∀ e : Dev nD, yOf e = 2 → (hasNbr .right e = true ∧ hasNbr .left e = true) ∧ (hop .right e = 2 ∧ hop .left (nbr .right e) = 0)
    ∧ yOf (nbr .left e) = 1 ∧ yOf (nbr .left (nbr .left e)) = 0 ∧ yOf (nbr .right e) = 3 := by decide +kernel
/-- The column seen from `y = 3`. -/
theorem column3 : ∀ e : Dev nD, yOf e = 3 → hasNbr .right e = false ∧ hop .right (nbr .left e) = 2
    ∧ yOf (nbr .left e) = 2 ∧ yOf (nbr .left (nbr .left e)) = 1 ∧ yOf (nbr .left (nbr .left (nbr .left e))) = 0 := by decide +kernel

/-- In exact arithmetic tiles are added element by element. -/
theorem addf_val (x y : FVec Ideal S128x128 .f32) (j : S128x128.Idx) : addf x y j = (x j + y j : EReal) := rfl

/-- The partial sum of the first device of a chain. -/
theorem carry0 (d : Dir) (c : Dev nD) (t : Fin 8) (h : hop d c = 0) : carry X d c t = xt X c t := by
  unfold carry; rw [h]; rfl
/-- The partial sum of the second device. -/
theorem carry1 (d : Dir) (c : Dev nD) (t : Fin 8) (h : hop d c = 1) : carry X d c t = addf (xt X (nbr d.op c) t) (xt X c t) := by
  unfold carry; rw [h]; rfl
/-- The partial sum of the third device. -/
theorem carry2 (d : Dir) (c : Dev nD) (t : Fin 8) (h : hop d c = 2) :
    carry X d c t = addf (addf (xt X (nbr d.op (nbr d.op c)) t) (xt X (nbr d.op c) t)) (xt X c t) := by
  unfold carry; rw [h]; rfl

/-- Wherever a device lies in its column, its finished tile is the sum of the column's four tiles. -/
theorem res_val (hB : ∀ d, X d = B (yOf d)) (e : Dev nD) (t : Fin 8) (j : S128x128.Idx) :
    res X e t j = total B ((tileRect (colq e) t).emb j) := by
  have hy := yOf_lt e
  have hv (c : Dev nD) (h : colq c = colq e) : xt X c t j = B (yOf c) ((tileRect (colq e) t).emb j) := by
    rw [xt_val B X hB, h]
  have hop (d : Dir) : d.op = .right ∨ d.op = .left := by cases d <;> simp [Dir.op]
  unfold total res
  by_cases h : yOf e = 0
  · obtain ⟨⟨h1, h2⟩, h3, h4, h5, h6⟩ := column0 e h
    rw [if_pos h1, if_neg (by rw [h2]; decide), carry2 X _ _ t h3]
    simp only [addf_val, Dir.op]
    rw [hv _ rfl, hv _ (colq_nbr _ _), hv _ ((colq_nbr _ _).trans (colq_nbr _ _)),
      hv _ ((colq_nbr _ _).trans ((colq_nbr _ _).trans (colq_nbr _ _))), h, h4, h5, h6]
    ac_rfl
  by_cases h : yOf e = 1
  · obtain ⟨⟨h1, h2⟩, ⟨h3, h3'⟩, h4, h5, h6⟩ := column1 e h
    rw [if_pos h1, if_pos h2, carry1 X _ _ t h3, carry1 X _ _ t h3']
    simp only [addf_val, Dir.op]
    rw [hv _ rfl, hv (nbr .left e) (colq_nbr _ _), hv (nbr .right e) (colq_nbr _ _), hv _ ((colq_nbr _ _).trans (colq_nbr _ _)), h, h4, h5, h6]
    ac_rfl
  by_cases h : yOf e = 2
  · obtain ⟨⟨h1, h2⟩, ⟨h3, h3'⟩, h4, h5, h6⟩ := column2 e h
    rw [if_pos h1, if_pos h2, carry2 X _ _ t h3, carry0 X _ _ t h3']
    simp only [addf_val, Dir.op]
    rw [hv _ rfl, hv (nbr .left e) (colq_nbr _ _), hv (nbr .right e) (colq_nbr _ _), hv _ ((colq_nbr _ _).trans (colq_nbr _ _)), h, h4, h5, h6]
    ac_rfl
  · have h : yOf e = 3 := by omega
    obtain ⟨h1, h3, h4, h5, h6⟩ := column3 e h
    rw [if_neg (by rw [h1]; decide), carry2 X _ _ t h3]
    simp only [addf_val, Dir.op]
    rw [hv _ rfl, hv _ (colq_nbr _ _), hv _ ((colq_nbr _ _).trans (colq_nbr _ _)),
      hv _ ((colq_nbr _ _).trans ((colq_nbr _ _).trans (colq_nbr _ _))), h, h4, h5, h6]
    ac_rfl

/-- The owner of a quarter reduces that quarter. -/
theorem colq_owner : ∀ (c : Dev nD) (q : Fin 4), colq (ownerOf c q) = q := by decide +kernel

/-- The finished block of every device is the sum of the four blocks. -/
theorem out_val (hB : ∀ d, X d = B (yOf d)) (c : Dev nD) : outAt X c = total B := by
  funext i
  obtain ⟨⟨q, t⟩, -, hi⟩ := Finset.mem_biUnion.mp (pair_cover.symm ▸ Finset.mem_univ i)
  obtain ⟨j, rfl⟩ : ∃ j, (tileRect q t).emb j = i := by
    rw [← Rect.map_emb_univ] at hi
    obtain ⟨j, -, hj⟩ := Finset.mem_map.mp hi
    exact ⟨j, hj⟩
  show tileOf (outAt X c) q t j = _
  rw [out_tile, res_val B X hB, colq_owner]

end Sum

/-! ## The reference -/

/-- Block `k` of the whole input. -/
def blockOf (v : Cert.ReferenceIdeal.S4096x512.Idx → EReal) (k : ℕ) (i : S1024x512.Idx) : EReal :=
  v (ix2 (n0 := 4096) (n1 := 512) ⟨(k * 1024 + (i 0).val) % 4096, Nat.mod_lt _ (by decide)⟩ ⟨(i 1).val, (i 1).isLt⟩)

/-- The reference sums the four blocks. -/
theorem reference_val (v : Cert.ReferenceIdeal.S4096x512.Idx → EReal) :
    Host.reduceAdd (F := Ideal) (φ := .f32) (shapeCast _ v Cert.ReferenceIdeal.Gen.shapeCasts_S4096x512_S4x1024x512)
      (constant Cert.ReferenceIdeal.S_ .f32 0x00000000#32) Cert.ReferenceIdeal.Gen.reducesTo_S4x1024x512_S1024x512_d0
      Cert.ReferenceIdeal.Gen.h_S_ = total (blockOf v) := by
  funext i
  pointwise
  rw [Fin.sum_univ_four]
  have hb (k : Fin 4) (h : k.val * 1024 + (i 0).val < 4096) : v (ix2 ⟨k.val * 1024 + (i 0).val, h⟩ (i 1)) = blockOf v k.val i := by
    unfold blockOf
    congr 2
    exact Fin.ext (Nat.mod_eq_of_lt h).symm
  unfold total
  rw [hb 0, hb 1, hb 2, hb 3, add_assoc, add_assoc]
  rfl

/-- The block that a device gets of the whole input is named by its place along `y`. -/
theorem column_block : ∀ c : Dev nD, Layout.meshLin [2, 4, 4] c.val [1] = yOf c := by decide +kernel

/-- A device's input is the block of the whole input that its place along `y` names. -/
theorem block_val (c : Dev nD) (v : Cert.ReferenceIdeal.S4096x512.Idx → EReal) :
    Layout.blockN ⟨2, ![1024, 512]⟩ ⟨2, ![4096, 512]⟩ (Layout.meshBlock [2, 4, 4] ![[1], []] c) v = blockOf v (yOf c) := by
  funext i
  rw [Layout.blockN_apply]
  unfold blockOf
  refine congrArg v (funext fun a => Fin.ext ?_)
  have hc := column_block c
  have hy := yOf_lt c
  rw [Layout.TilesN.idx_val]
  match a with
  | ⟨0, _⟩ =>
    show Layout.meshLin [2, 4, 4] c.val [1] * 1024 + (i 0).val = (yOf c * 1024 + (i 0).val) % 4096
    have hi : (i 0).val < 1024 := (i 0).isLt
    rw [hc, Nat.mod_eq_of_lt (by omega)]
  | ⟨1, _⟩ =>
    show Layout.meshLin [2, 4, 4] c.val [] * 512 + (i 1).val = (i 1).val
    show 0 * 512 + (i 1).val = (i 1).val
    omega

end Cert.AllReduce
-- ==== Proof.Same.lean ====
/-
# The two readings of the kernel are one program

No operation of the kernel was rewritten for exact arithmetic, so its two printed programs are the same text; here they
are shown equal over any float values.
-/
module

public import proofs.«01_k».proof.Proof.Gen.Kernel
public import proofs.«01_k».proof.Proof.Gen.KernelIdeal

@[expose] public section

noncomputable section

namespace Cert.AllReduce

open Idealize.ShloMosaic Idealize.SL.Sem

variable {F : FTy → Type} [FloatOps F]

/-- The two bodies are equal. -/
theorem same_body : @Cert.Kernel.cc0_body F _ Cert.Kernel.Gen.facts = @Cert.KernelIdeal.cc0_body F _ Cert.KernelIdeal.Gen.facts := rfl

/-- The tables that name the body are equal. -/
theorem same_bodies : Cert.Kernel.defs₀ (F := F) = Cert.KernelIdeal.defs₀ (F := F) := by
  unfold Cert.Kernel.defs₀ Cert.KernelIdeal.defs₀
  refine congrArg Defs.onTc ?_
  funext p x
  match p, x with
  | 0, (t, s) =>
    dsimp only
    rw [same_body]

/-- The tables with the launch are equal. -/
theorem same_defs : Cert.Kernel.defs (F := F) = Cert.KernelIdeal.defs (F := F) := by
  unfold Cert.Kernel.defs Cert.KernelIdeal.defs
  rw [same_bodies]
  rfl

/-- The two host programs are equal. -/
theorem same_main : Cert.Kernel.main (F := F) = Cert.KernelIdeal.main (F := F) := rfl

end Cert.AllReduce

end
-- ==== Proof.lean ====
/-
# The claims

Each claim is read off the run of the kernel over any float values (`run_main`), the value of the result in exact
arithmetic (`out_val`) and the run of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel ends with its argument unchanged and every semaphore at zero. -/
theorem frame_kernel : Cert.quiescent_Kernel := fun m ρ _ => by
  rw [Cert.AllReduce.same_defs]
  refine (θ_run Cert.KernelIdeal.defs _ _).mono ?_ (Cert.AllReduce.run_main (F := Bits) m ρ)
  exact fun _ h => ⟨fun c => (h.1 c (0 : Fin 2)).trans (Cert.AllReduce.final_in (F := Bits) m ρ c), h.2⟩

/-- The same in exact arithmetic. -/
theorem frame_kernelIdeal : Cert.quiescent_KernelIdeal := fun m ρ _ =>
  (θ_run Cert.KernelIdeal.defs _ _).mono
    (fun _ h => ⟨fun c => (h.1 c (0 : Fin 2)).trans (Cert.AllReduce.final_in (F := Ideal) m ρ c), h.2⟩)
    (Cert.AllReduce.run_main (F := Ideal) m ρ)

/-- The reference ends with its argument unchanged and has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- In exact arithmetic every device's result is the reference's. -/
theorem kernel_reference : Cert.algebraic_KernelIdeal_ReferenceIdeal := fun m ρ m' ρ' _ hm => by
  refine ⟨_, (θ_run Cert.KernelIdeal.defs _ _).mono (fun r h c => ⟨?_, ?_⟩) (Cert.AllReduce.run_main (F := Ideal) m ρ),
    (θ_run Cert.ReferenceIdeal.defs _ _).mono (fun r h => h 0) (Cert.ReferenceIdeal.Value.run (F := Ideal) m' ρ')⟩
  · refine (h.1 c (1 : Fin 2)).trans ?_
    refine (Cert.AllReduce.final_out (F := Ideal) m ρ c).trans ?_
    refine (Cert.AllReduce.out_val _ _ (fun d => ?_) c).trans (Cert.AllReduce.reference_val _).symm
    exact (Cert.AllReduce.X_eq m ρ d).trans ((hm d).trans (Cert.AllReduce.block_val d _))
  · exact (h.1 c (0 : Fin 2)).trans (Cert.AllReduce.final_in (F := Ideal) m ρ c)

theorem claim : Cert.Claim := ⟨Cert.Kernel.Gen.facts, Cert.KernelIdeal.Gen.facts, Cert.ReferenceIdeal.Gen.facts,
  frame_kernel, frame_kernelIdeal, frame_reference, trivial, kernel_reference⟩

end Cert.Proof

end
